-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x4096 : Shape := ⟨2, ![2048, 4096]⟩
abbrev S8192x4096 : Shape := ⟨2, ![8192, 4096]⟩
abbrev S256x4096 : Shape := ⟨2, ![256, 4096]⟩
abbrev S2x256x4096 : Shape := ⟨3, ![2, 256, 4096]⟩
abbrev S2x256x2048 : Shape := ⟨3, ![2, 256, 2048]⟩
abbrev S2 : Shape := ⟨1, ![2]⟩
abbrev S2x2 : Shape := ⟨2, ![2, 2]⟩
abbrev S2x4 : Shape := ⟨2, ![2, 4]⟩
abbrev S_ : Shape := ⟨0, ![]⟩
abbrev S1x1 : Shape := ⟨2, ![1, 1]⟩
abbrev S1x256x2048 : Shape := ⟨3, ![1, 256, 2048]⟩
abbrev S256x2048 : Shape := ⟨2, ![256, 2048]⟩
abbrev S1 : Shape := ⟨1, ![1]⟩
abbrev S1x256x4096 : Shape := ⟨3, ![1, 256, 4096]⟩

abbrev nBuf : Space → Nat
  | .hbm => 4
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S2048x4096, .bf16⟩
  | .hbm, ⟨3, _⟩ => ⟨S8192x4096, .f32⟩
  | .local _ .vmem, ⟨0, _⟩ => ⟨S256x4096, .bf16⟩
  | .local _ .vmem, ⟨1, _⟩ => ⟨S2x256x4096, .bf16⟩
  | .local _ .vmem, ⟨2, _⟩ => ⟨S256x4096, .f32⟩
  | .local _ .vmem, ⟨3, _⟩ => ⟨S2x256x2048, .f32⟩
  | .local _ .vmem, ⟨4, _⟩ => ⟨S256x4096, .f32⟩
  | .local _ .vmem, ⟨5, _⟩ => ⟨S256x4096, .bf16⟩
  | .local _ .vmem, ⟨6, _⟩ => ⟨S2x256x4096, .bf16⟩
  | .local _ .vmem, ⟨7, _⟩ => ⟨S256x4096, .f32⟩
  | .local _ .vmem, ⟨8, _⟩ => ⟨S2x256x2048, .f32⟩
  | .local _ .vmem, ⟨9, _⟩ => ⟨S256x4096, .f32⟩
  | .local _ .vmem, ⟨10, _⟩ => ⟨S2048x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 3 → Bool
  | ⟨0, _⟩ => true
  | ⟨1, _⟩ => true
  | ⟨2, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 3 19 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev barrier0 : Sem sig := 2

abbrev nD : Nat := 4
abbrev τ : Topo := Topo.v7x

variable {F : FTy → Type} [FloatOps F]

abbrev grid0 : Pipeline.Grid := .none

def k0_off1 (d0 : Dev nD) (c0_i32_14 : BitVec 32) (v_true : BitVec 1) (c0_i32 : BitVec 32) (c_m1_i32 : BitVec 32) (true_13 : BitVec 1) (c4_i32_6 : BitVec 32) : Fin 2 → Nat :=
  let v3 : BitVec 32 := Scalar.select v_true c0_i32 c_m1_i32
  let c1024_i32 : BitVec 32 := 1024#32
  let v26 : BitVec 32 := Scalar.muli v3 c1024_i32
  let v27 : BitVec 32 := Scalar.addi c0_i32_14 v26
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let c0_i32_1 : BitVec 32 := 0#32
  let v4 : BitVec 1 := Scalar.cmpi .eq c4_i32_0 c0_i32_1
  let c1_i32_2 : BitVec 32 := 1#32
  let v5 : BitVec 32 := Scalar.select v4 c1_i32_2 c4_i32_0
  let v6 : BitVec 32 := Scalar.remsi v2 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v14 : BitVec 32 := Scalar.subi v2 c4_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v25 : BitVec 32 := Scalar.select true_13 v13 v24
  let c256_i32 : BitVec 32 := 256#32
  let v28 : BitVec 32 := Scalar.muli v25 c256_i32
  let v29 : BitVec 32 := Scalar.addi v27 v28
  let c0_i32_20 : BitVec 32 := 0#32
  ![v29.toNat, 0]
def k0_off1_at (r : Fin 6) : BitVec 32 × BitVec 1 × BitVec 32 × BitVec 32 × BitVec 1 × BitVec 32 :=
  if r.val < 3 then
    if r.val < 1 then
      (0#32, 1#1, 0#32, 4294967295#32, 1#1, 4#32)
    else
      if r.val < 2 then
        (0#32, 0#1, 1#32, 0#32, 0#1, 1#32)
      else
        (4096#32, 1#1, 0#32, 4294967295#32, 1#1, 4294967292#32)
  else
    if r.val < 4 then
      (4096#32, 0#1, 1#32, 0#32, 0#1, 4294967295#32)
    else
      if r.val < 5 then
        (0#32, 0#1, 1#32, 0#32, 0#1, 2#32)
      else
        (4096#32, 0#1, 1#32, 0#32, 0#1, 4294967294#32)
def k0_dev1 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_99 : BitVec 32 := 1#32
  let v136 : BitVec 32 := Scalar.addi v2 c1_i32_99
  let c4_i32_100 : BitVec 32 := 4#32
  let c0_i32_101 : BitVec 32 := 0#32
  let v137 : BitVec 1 := Scalar.cmpi .eq c4_i32_100 c0_i32_101
  let c1_i32_102 : BitVec 32 := 1#32
  let v138 : BitVec 32 := Scalar.select v137 c1_i32_102 c4_i32_100
  let v139 : BitVec 32 := Scalar.remsi v136 v138
  let c0_i32_104 : BitVec 32 := 0#32
  let v141 : BitVec 1 := Scalar.cmpi .slt v139 c0_i32_104
  let c0_i32_105 : BitVec 32 := 0#32
  let v142 : BitVec 1 := Scalar.cmpi .slt v138 c0_i32_105
  let v143 : BitVec 1 := Scalar.xori v141 v142
  let c0_i32_103 : BitVec 32 := 0#32
  let v140 : BitVec 1 := Scalar.cmpi .ne v139 c0_i32_103
  let v144 : BitVec 1 := Scalar.andi v143 v140
  let v145 : BitVec 32 := Scalar.addi v139 v138
  let v146 : BitVec 32 := Scalar.select v144 v145 v139
  let c1_i32_114 : BitVec 32 := 1#32
  let v158 : BitVec 32 := Scalar.muli v146 c1_i32_114
  let v159 : BitVec 32 := Scalar.addi c0_i32_115 v158
  v159.toNat
def k0_dev2 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_106 : BitVec 32 := 1#32
  let v147 : BitVec 32 := Scalar.subi v2 c1_i32_106
  let c4_i32_107 : BitVec 32 := 4#32
  let c0_i32_108 : BitVec 32 := 0#32
  let v148 : BitVec 1 := Scalar.cmpi .eq c4_i32_107 c0_i32_108
  let c1_i32_109 : BitVec 32 := 1#32
  let v149 : BitVec 32 := Scalar.select v148 c1_i32_109 c4_i32_107
  let v150 : BitVec 32 := Scalar.remsi v147 v149
  let c0_i32_111 : BitVec 32 := 0#32
  let v152 : BitVec 1 := Scalar.cmpi .slt v150 c0_i32_111
  let c0_i32_112 : BitVec 32 := 0#32
  let v153 : BitVec 1 := Scalar.cmpi .slt v149 c0_i32_112
  let v154 : BitVec 1 := Scalar.xori v152 v153
  let c0_i32_110 : BitVec 32 := 0#32
  let v151 : BitVec 1 := Scalar.cmpi .ne v150 c0_i32_110
  let v155 : BitVec 1 := Scalar.andi v154 v151
  let v156 : BitVec 32 := Scalar.addi v150 v149
  let v157 : BitVec 32 := Scalar.select v155 v156 v150
  let c1_i32_117 : BitVec 32 := 1#32
  let v160 : BitVec 32 := Scalar.muli v157 c1_i32_117
  let v161 : BitVec 32 := Scalar.addi c0_i32_118 v160
  v161.toNat
@[reducible] def k0_t1_loop : Scf.Loop 32 :=
  let c0_i32_238 : BitVec 32 := 0#32
  let c24_i32 : BitVec 32 := 24#32
  let v308 : BitVec 32 := Scalar.addi c0_i32_238 c24_i32
  let c1_i32_239 : BitVec 32 := 1#32
  ⟨c0_i32_238, v308, c1_i32_239⟩
def k0_off2 (k0_t1 : Fin k0_t1_loop.trips) : Fin 2 → Nat :=
  let c0_i32_294 : BitVec 32 := 0#32
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  ![0, v373.toNat]
def k0_off3 (k0_t1 : Fin k0_t1_loop.trips) : Fin 3 → Nat :=
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  let c0_i32_298 : BitVec 32 := 0#32
  let c0_i32_299 : BitVec 32 := 0#32
  ![v373.toNat, 0, 0]
def k0_dev3 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_287 : BitVec 32 := 1#32
  let v381 : BitVec 32 := Scalar.addi v2 c1_i32_287
  let c4_i32_288 : BitVec 32 := 4#32
  let c0_i32_289 : BitVec 32 := 0#32
  let v382 : BitVec 1 := Scalar.cmpi .eq c4_i32_288 c0_i32_289
  let c1_i32_290 : BitVec 32 := 1#32
  let v383 : BitVec 32 := Scalar.select v382 c1_i32_290 c4_i32_288
  let v384 : BitVec 32 := Scalar.remsi v381 v383
  let c0_i32_292 : BitVec 32 := 0#32
  let v386 : BitVec 1 := Scalar.cmpi .slt v384 c0_i32_292
  let c0_i32_293 : BitVec 32 := 0#32
  let v387 : BitVec 1 := Scalar.cmpi .slt v383 c0_i32_293
  let v388 : BitVec 1 := Scalar.xori v386 v387
  let c0_i32_291 : BitVec 32 := 0#32
  let v385 : BitVec 1 := Scalar.cmpi .ne v384 c0_i32_291
  let v389 : BitVec 1 := Scalar.andi v388 v385
  let v390 : BitVec 32 := Scalar.addi v384 v383
  let v391 : BitVec 32 := Scalar.select v389 v390 v384
  let c1_i32_296 : BitVec 32 := 1#32
  let v392 : BitVec 32 := Scalar.muli v391 c1_i32_296
  let v393 : BitVec 32 := Scalar.addi c0_i32_297 v392
  v393.toNat
def k0_off4 (k0_t1 : Fin k0_t1_loop.trips) : Fin 2 → Nat :=
  let c1_i32_310 : BitVec 32 := 1#32
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  ![1, v373.toNat]
def k0_dev4 (d0 : Dev nD) : Nat :=
  let c0_i32_313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_303 : BitVec 32 := 4294967295#32
  let v402 : BitVec 32 := Scalar.addi v2 c_m1_i32_303
  let c4_i32_304 : BitVec 32 := 4#32
  let c0_i32_305 : BitVec 32 := 0#32
  let v403 : BitVec 1 := Scalar.cmpi .eq c4_i32_304 c0_i32_305
  let c1_i32_306 : BitVec 32 := 1#32
  let v404 : BitVec 32 := Scalar.select v403 c1_i32_306 c4_i32_304
  let v405 : BitVec 32 := Scalar.remsi v402 v404
  let c0_i32_308 : BitVec 32 := 0#32
  let v407 : BitVec 1 := Scalar.cmpi .slt v405 c0_i32_308
  let c0_i32_309 : BitVec 32 := 0#32
  let v408 : BitVec 1 := Scalar.cmpi .slt v404 c0_i32_309
  let v409 : BitVec 1 := Scalar.xori v407 v408
  let c0_i32_307 : BitVec 32 := 0#32
  let v406 : BitVec 1 := Scalar.cmpi .ne v405 c0_i32_307
  let v410 : BitVec 1 := Scalar.andi v409 v406
  let v411 : BitVec 32 := Scalar.addi v405 v404
  let v412 : BitVec 32 := Scalar.select v410 v411 v405
  let c1_i32_312 : BitVec 32 := 1#32
  let v413 : BitVec 32 := Scalar.muli v412 c1_i32_312
  let v414 : BitVec 32 := Scalar.addi c0_i32_313 v413
  v414.toNat
def k0_cond1 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c3_i32_316 : BitVec 32 := 3#32
  let v421 : BitVec 1 := Scalar.cmpi .slt v363 c3_i32_316
  let c5_i32_317 : BitVec 32 := 5#32
  let v422 : BitVec 1 := Scalar.cmpi .eq v363 c5_i32_317
  let c3_i32_318 : BitVec 32 := 3#32
  let v423 : BitVec 1 := Scalar.cmpi .slt v361 c3_i32_318
  let v424 : BitVec 1 := Scalar.andi v422 v423
  let v425 : BitVec 1 := Scalar.ori v421 v424
  let v426 : BitVec 32 := Scalar.extui v425
  let c0_i32_319 : BitVec 32 := 0#32
  let v427 : BitVec 1 := Scalar.cmpi .ne v426 c0_i32_319
  v427

def k0_off5 (k0_t1 : Fin k0_t1_loop.trips) : Fin 2 → Nat :=
  let c0_i32_442 : BitVec 32 := 0#32
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_436 : BitVec 32 := 2#32
  let c0_i32_437 : BitVec 32 := 0#32
  let v599 : BitVec 1 := Scalar.cmpi .eq c2_i32_436 c0_i32_437
  let c1_i32_438 : BitVec 32 := 1#32
  let v600 : BitVec 32 := Scalar.select v599 c1_i32_438 c2_i32_436
  let v601 : BitVec 32 := Scalar.remsi v378 v600
  let c0_i32_440 : BitVec 32 := 0#32
  let v603 : BitVec 1 := Scalar.cmpi .slt v601 c0_i32_440
  let c0_i32_441 : BitVec 32 := 0#32
  let v604 : BitVec 1 := Scalar.cmpi .slt v600 c0_i32_441
  let v605 : BitVec 1 := Scalar.xori v603 v604
  let c0_i32_439 : BitVec 32 := 0#32
  let v602 : BitVec 1 := Scalar.cmpi .ne v601 c0_i32_439
  let v606 : BitVec 1 := Scalar.andi v605 v602
  let v607 : BitVec 32 := Scalar.addi v601 v600
  let v608 : BitVec 32 := Scalar.select v606 v607 v601
  ![0, v608.toNat]
def k0_off6 (k0_t1 : Fin k0_t1_loop.trips) : Fin 3 → Nat :=
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_430 : BitVec 32 := 2#32
  let c0_i32_431 : BitVec 32 := 0#32
  let v589 : BitVec 1 := Scalar.cmpi .eq c2_i32_430 c0_i32_431
  let c1_i32_432 : BitVec 32 := 1#32
  let v590 : BitVec 32 := Scalar.select v589 c1_i32_432 c2_i32_430
  let v591 : BitVec 32 := Scalar.remsi v378 v590
  let c0_i32_434 : BitVec 32 := 0#32
  let v593 : BitVec 1 := Scalar.cmpi .slt v591 c0_i32_434
  let c0_i32_435 : BitVec 32 := 0#32
  let v594 : BitVec 1 := Scalar.cmpi .slt v590 c0_i32_435
  let v595 : BitVec 1 := Scalar.xori v593 v594
  let c0_i32_433 : BitVec 32 := 0#32
  let v592 : BitVec 1 := Scalar.cmpi .ne v591 c0_i32_433
  let v596 : BitVec 1 := Scalar.andi v595 v592
  let v597 : BitVec 32 := Scalar.addi v591 v590
  let v598 : BitVec 32 := Scalar.select v596 v597 v591
  let c0_i32_443 : BitVec 32 := 0#32
  let c0_i32_444 : BitVec 32 := 0#32
  ![v598.toNat, 0, 0]
def k0_off7 (d0 : Dev nD) (k0_t1 : Fin k0_t1_loop.trips) : Fin 2 → Nat :=
  let c0_i32_428 : BitVec 32 := 0#32
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c1_i32_397 : BitVec 32 := 1#32
  let v530 : BitVec 32 := Scalar.subi v378 c1_i32_397
  let c4_i32_405 : BitVec 32 := 4#32
  let c0_i32_406 : BitVec 32 := 0#32
  let v548 : BitVec 1 := Scalar.cmpi .eq c4_i32_405 c0_i32_406
  let c1_i32_407 : BitVec 32 := 1#32
  let v549 : BitVec 32 := Scalar.select v548 c1_i32_407 c4_i32_405
  let v550 : BitVec 32 := Scalar.remsi v530 v549
  let c0_i32_409 : BitVec 32 := 0#32
  let v552 : BitVec 1 := Scalar.cmpi .slt v550 c0_i32_409
  let c0_i32_410 : BitVec 32 := 0#32
  let v553 : BitVec 1 := Scalar.cmpi .slt v549 c0_i32_410
  let v554 : BitVec 1 := Scalar.xori v552 v553
  let c0_i32_408 : BitVec 32 := 0#32
  let v551 : BitVec 1 := Scalar.cmpi .ne v550 c0_i32_408
  let v555 : BitVec 1 := Scalar.andi v554 v551
  let v556 : BitVec 32 := Scalar.addi v550 v549
  let v557 : BitVec 32 := Scalar.select v555 v556 v550
  let c3_i32_411 : BitVec 32 := 3#32
  let v558 : BitVec 1 := Scalar.cmpi .eq v557 c3_i32_411
  let c0_i32_399 : BitVec 32 := 0#32
  let v532 : BitVec 1 := Scalar.cmpi .sgt v530 c0_i32_399
  let v533 : BitVec 32 := Scalar.extui v532
  let c0_i32_400 : BitVec 32 := 0#32
  let v534 : BitVec 1 := Scalar.cmpi .slt v530 c0_i32_400
  let v535 : BitVec 32 := Scalar.extui v534
  let v536 : BitVec 32 := Scalar.subi v533 v535
  let c4_i32_398 : BitVec 32 := 4#32
  let c0_i32_401 : BitVec 32 := 0#32
  let v537 : BitVec 1 := Scalar.cmpi .sgt c4_i32_398 c0_i32_401
  let v538 : BitVec 32 := Scalar.extui v537
  let c0_i32_402 : BitVec 32 := 0#32
  let v539 : BitVec 1 := Scalar.cmpi .slt c4_i32_398 c0_i32_402
  let v540 : BitVec 32 := Scalar.extui v539
  let v541 : BitVec 32 := Scalar.subi v538 v540
  let v542 : BitVec 1 := Scalar.cmpi .ne v536 v541
  let v543 : BitVec 32 := Scalar.remsi v530 c4_i32_398
  let c0_i32_403 : BitVec 32 := 0#32
  let v544 : BitVec 1 := Scalar.cmpi .ne v543 c0_i32_403
  let v545 : BitVec 1 := Scalar.andi v542 v544
  let v531 : BitVec 32 := Scalar.divsi v530 c4_i32_398
  let c1_i32_404 : BitVec 32 := 1#32
  let v546 : BitVec 32 := Scalar.subi v531 c1_i32_404
  let v547 : BitVec 32 := Scalar.select v545 v546 v531
  let c1_i32_412 : BitVec 32 := 1#32
  let v559 : BitVec 32 := Scalar.addi v547 c1_i32_412
  let v560 : BitVec 32 := Scalar.select v558 v559 v547
  let c1024_i32_427 : BitVec 32 := 1024#32
  let v585 : BitVec 32 := Scalar.muli v560 c1024_i32_427
  let v586 : BitVec 32 := Scalar.addi c0_i32_428 v585
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_413 : BitVec 32 := 4#32
  let c0_i32_414 : BitVec 32 := 0#32
  let v561 : BitVec 1 := Scalar.cmpi .eq c4_i32_413 c0_i32_414
  let c1_i32_415 : BitVec 32 := 1#32
  let v562 : BitVec 32 := Scalar.select v561 c1_i32_415 c4_i32_413
  let v563 : BitVec 32 := Scalar.remsi v2 v562
  let c0_i32_417 : BitVec 32 := 0#32
  let v565 : BitVec 1 := Scalar.cmpi .slt v563 c0_i32_417
  let c0_i32_418 : BitVec 32 := 0#32
  let v566 : BitVec 1 := Scalar.cmpi .slt v562 c0_i32_418
  let v567 : BitVec 1 := Scalar.xori v565 v566
  let c0_i32_416 : BitVec 32 := 0#32
  let v564 : BitVec 1 := Scalar.cmpi .ne v563 c0_i32_416
  let v568 : BitVec 1 := Scalar.andi v567 v564
  let v569 : BitVec 32 := Scalar.addi v563 v562
  let v570 : BitVec 32 := Scalar.select v568 v569 v563
  let c1_i32_420 : BitVec 32 := 1#32
  let c1_i32_419 : BitVec 32 := 1#32
  let v571 : BitVec 32 := Scalar.addi v557 c1_i32_419
  let v572 : BitVec 32 := Scalar.muli c1_i32_420 v571
  let v573 : BitVec 32 := Scalar.subi v2 v572
  let c4_i32_421 : BitVec 32 := 4#32
  let c0_i32_422 : BitVec 32 := 0#32
  let v574 : BitVec 1 := Scalar.cmpi .eq c4_i32_421 c0_i32_422
  let c1_i32_423 : BitVec 32 := 1#32
  let v575 : BitVec 32 := Scalar.select v574 c1_i32_423 c4_i32_421
  let v576 : BitVec 32 := Scalar.remsi v573 v575
  let c0_i32_425 : BitVec 32 := 0#32
  let v578 : BitVec 1 := Scalar.cmpi .slt v576 c0_i32_425
  let c0_i32_426 : BitVec 32 := 0#32
  let v579 : BitVec 1 := Scalar.cmpi .slt v575 c0_i32_426
  let v580 : BitVec 1 := Scalar.xori v578 v579
  let c0_i32_424 : BitVec 32 := 0#32
  let v577 : BitVec 1 := Scalar.cmpi .ne v576 c0_i32_424
  let v581 : BitVec 1 := Scalar.andi v580 v577
  let v582 : BitVec 32 := Scalar.addi v576 v575
  let v583 : BitVec 32 := Scalar.select v581 v582 v576
  let v584 : BitVec 32 := Scalar.select v558 v570 v583
  let c256_i32_429 : BitVec 32 := 256#32
  let v587 : BitVec 32 := Scalar.muli v584 c256_i32_429
  let v588 : BitVec 32 := Scalar.addi v586 v587
  let c0_i32_445 : BitVec 32 := 0#32
  ![v588.toNat, 0]
def k0_off8 (k0_t1 : Fin k0_t1_loop.trips) : Fin 3 → Nat :=
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_446 : BitVec 32 := 2#32
  let c0_i32_447 : BitVec 32 := 0#32
  let v614 : BitVec 1 := Scalar.cmpi .eq c2_i32_446 c0_i32_447
  let c1_i32_448 : BitVec 32 := 1#32
  let v615 : BitVec 32 := Scalar.select v614 c1_i32_448 c2_i32_446
  let v616 : BitVec 32 := Scalar.remsi v378 v615
  let c0_i32_450 : BitVec 32 := 0#32
  let v618 : BitVec 1 := Scalar.cmpi .slt v616 c0_i32_450
  let c0_i32_451 : BitVec 32 := 0#32
  let v619 : BitVec 1 := Scalar.cmpi .slt v615 c0_i32_451
  let v620 : BitVec 1 := Scalar.xori v618 v619
  let c0_i32_449 : BitVec 32 := 0#32
  let v617 : BitVec 1 := Scalar.cmpi .ne v616 c0_i32_449
  let v621 : BitVec 1 := Scalar.andi v620 v617
  let v622 : BitVec 32 := Scalar.addi v616 v615
  let v623 : BitVec 32 := Scalar.select v621 v622 v616
  let v624 : Index := Scalar.indexCast v623
  let c0_452 : Index := 0#32
  let c0_453 : Index := 0#32
  ![v624.toNat, 0, 0]
def k0_cond2 (k0_t1 : Fin k0_t1_loop.trips) : BitVec 1 :=
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_459 : BitVec 32 := 2#32
  let v633 : BitVec 32 := Scalar.addi v378 c2_i32_459
  let c16_i32 : BitVec 32 := 16#32
  let v634 : BitVec 1 := Scalar.cmpi .slt v633 c16_i32
  let v635 : BitVec 32 := Scalar.extui v634
  let c0_i32_460 : BitVec 32 := 0#32
  let v636 : BitVec 1 := Scalar.cmpi .ne v635 c0_i32_460
  v636

def k0_off9 (k0_t1 : Fin k0_t1_loop.trips) : Fin 2 → Nat :=
  let c0_i32_507 : BitVec 32 := 0#32
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_461 : BitVec 32 := 2#32
  let v637 : BitVec 32 := Scalar.addi v378 c2_i32_461
  let c2_i32_501 : BitVec 32 := 2#32
  let c0_i32_502 : BitVec 32 := 0#32
  let v707 : BitVec 1 := Scalar.cmpi .eq c2_i32_501 c0_i32_502
  let c1_i32_503 : BitVec 32 := 1#32
  let v708 : BitVec 32 := Scalar.select v707 c1_i32_503 c2_i32_501
  let v709 : BitVec 32 := Scalar.remsi v637 v708
  let c0_i32_505 : BitVec 32 := 0#32
  let v711 : BitVec 1 := Scalar.cmpi .slt v709 c0_i32_505
  let c0_i32_506 : BitVec 32 := 0#32
  let v712 : BitVec 1 := Scalar.cmpi .slt v708 c0_i32_506
  let v713 : BitVec 1 := Scalar.xori v711 v712
  let c0_i32_504 : BitVec 32 := 0#32
  let v710 : BitVec 1 := Scalar.cmpi .ne v709 c0_i32_504
  let v714 : BitVec 1 := Scalar.andi v713 v710
  let v715 : BitVec 32 := Scalar.addi v709 v708
  let v716 : BitVec 32 := Scalar.select v714 v715 v709
  ![0, v716.toNat]
def k0_off10 (k0_t1 : Fin k0_t1_loop.trips) : Fin 3 → Nat :=
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_461 : BitVec 32 := 2#32
  let v637 : BitVec 32 := Scalar.addi v378 c2_i32_461
  let c2_i32_495 : BitVec 32 := 2#32
  let c0_i32_496 : BitVec 32 := 0#32
  let v697 : BitVec 1 := Scalar.cmpi .eq c2_i32_495 c0_i32_496
  let c1_i32_497 : BitVec 32 := 1#32
  let v698 : BitVec 32 := Scalar.select v697 c1_i32_497 c2_i32_495
  let v699 : BitVec 32 := Scalar.remsi v637 v698
  let c0_i32_499 : BitVec 32 := 0#32
  let v701 : BitVec 1 := Scalar.cmpi .slt v699 c0_i32_499
  let c0_i32_500 : BitVec 32 := 0#32
  let v702 : BitVec 1 := Scalar.cmpi .slt v698 c0_i32_500
  let v703 : BitVec 1 := Scalar.xori v701 v702
  let c0_i32_498 : BitVec 32 := 0#32
  let v700 : BitVec 1 := Scalar.cmpi .ne v699 c0_i32_498
  let v704 : BitVec 1 := Scalar.andi v703 v700
  let v705 : BitVec 32 := Scalar.addi v699 v698
  let v706 : BitVec 32 := Scalar.select v704 v705 v699
  let c0_i32_508 : BitVec 32 := 0#32
  let c0_i32_509 : BitVec 32 := 0#32
  ![v706.toNat, 0, 0]
def k0_off11 (d0 : Dev nD) (k0_t1 : Fin k0_t1_loop.trips) : Fin 2 → Nat :=
  let c0_i32_493 : BitVec 32 := 0#32
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_461 : BitVec 32 := 2#32
  let v637 : BitVec 32 := Scalar.addi v378 c2_i32_461
  let c1_i32_462 : BitVec 32 := 1#32
  let v638 : BitVec 32 := Scalar.subi v637 c1_i32_462
  let c4_i32_470 : BitVec 32 := 4#32
  let c0_i32_471 : BitVec 32 := 0#32
  let v656 : BitVec 1 := Scalar.cmpi .eq c4_i32_470 c0_i32_471
  let c1_i32_472 : BitVec 32 := 1#32
  let v657 : BitVec 32 := Scalar.select v656 c1_i32_472 c4_i32_470
  let v658 : BitVec 32 := Scalar.remsi v638 v657
  let c0_i32_474 : BitVec 32 := 0#32
  let v660 : BitVec 1 := Scalar.cmpi .slt v658 c0_i32_474
  let c0_i32_475 : BitVec 32 := 0#32
  let v661 : BitVec 1 := Scalar.cmpi .slt v657 c0_i32_475
  let v662 : BitVec 1 := Scalar.xori v660 v661
  let c0_i32_473 : BitVec 32 := 0#32
  let v659 : BitVec 1 := Scalar.cmpi .ne v658 c0_i32_473
  let v663 : BitVec 1 := Scalar.andi v662 v659
  let v664 : BitVec 32 := Scalar.addi v658 v657
  let v665 : BitVec 32 := Scalar.select v663 v664 v658
  let c3_i32_476 : BitVec 32 := 3#32
  let v666 : BitVec 1 := Scalar.cmpi .eq v665 c3_i32_476
  let c0_i32_464 : BitVec 32 := 0#32
  let v640 : BitVec 1 := Scalar.cmpi .sgt v638 c0_i32_464
  let v641 : BitVec 32 := Scalar.extui v640
  let c0_i32_465 : BitVec 32 := 0#32
  let v642 : BitVec 1 := Scalar.cmpi .slt v638 c0_i32_465
  let v643 : BitVec 32 := Scalar.extui v642
  let v644 : BitVec 32 := Scalar.subi v641 v643
  let c4_i32_463 : BitVec 32 := 4#32
  let c0_i32_466 : BitVec 32 := 0#32
  let v645 : BitVec 1 := Scalar.cmpi .sgt c4_i32_463 c0_i32_466
  let v646 : BitVec 32 := Scalar.extui v645
  let c0_i32_467 : BitVec 32 := 0#32
  let v647 : BitVec 1 := Scalar.cmpi .slt c4_i32_463 c0_i32_467
  let v648 : BitVec 32 := Scalar.extui v647
  let v649 : BitVec 32 := Scalar.subi v646 v648
  let v650 : BitVec 1 := Scalar.cmpi .ne v644 v649
  let v651 : BitVec 32 := Scalar.remsi v638 c4_i32_463
  let c0_i32_468 : BitVec 32 := 0#32
  let v652 : BitVec 1 := Scalar.cmpi .ne v651 c0_i32_468
  let v653 : BitVec 1 := Scalar.andi v650 v652
  let v639 : BitVec 32 := Scalar.divsi v638 c4_i32_463
  let c1_i32_469 : BitVec 32 := 1#32
  let v654 : BitVec 32 := Scalar.subi v639 c1_i32_469
  let v655 : BitVec 32 := Scalar.select v653 v654 v639
  let c1_i32_477 : BitVec 32 := 1#32
  let v667 : BitVec 32 := Scalar.addi v655 c1_i32_477
  let v668 : BitVec 32 := Scalar.select v666 v667 v655
  let c1024_i32_492 : BitVec 32 := 1024#32
  let v693 : BitVec 32 := Scalar.muli v668 c1024_i32_492
  let v694 : BitVec 32 := Scalar.addi c0_i32_493 v693
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_478 : BitVec 32 := 4#32
  let c0_i32_479 : BitVec 32 := 0#32
  let v669 : BitVec 1 := Scalar.cmpi .eq c4_i32_478 c0_i32_479
  let c1_i32_480 : BitVec 32 := 1#32
  let v670 : BitVec 32 := Scalar.select v669 c1_i32_480 c4_i32_478
  let v671 : BitVec 32 := Scalar.remsi v2 v670
  let c0_i32_482 : BitVec 32 := 0#32
  let v673 : BitVec 1 := Scalar.cmpi .slt v671 c0_i32_482
  let c0_i32_483 : BitVec 32 := 0#32
  let v674 : BitVec 1 := Scalar.cmpi .slt v670 c0_i32_483
  let v675 : BitVec 1 := Scalar.xori v673 v674
  let c0_i32_481 : BitVec 32 := 0#32
  let v672 : BitVec 1 := Scalar.cmpi .ne v671 c0_i32_481
  let v676 : BitVec 1 := Scalar.andi v675 v672
  let v677 : BitVec 32 := Scalar.addi v671 v670
  let v678 : BitVec 32 := Scalar.select v676 v677 v671
  let c1_i32_485 : BitVec 32 := 1#32
  let c1_i32_484 : BitVec 32 := 1#32
  let v679 : BitVec 32 := Scalar.addi v665 c1_i32_484
  let v680 : BitVec 32 := Scalar.muli c1_i32_485 v679
  let v681 : BitVec 32 := Scalar.subi v2 v680
  let c4_i32_486 : BitVec 32 := 4#32
  let c0_i32_487 : BitVec 32 := 0#32
  let v682 : BitVec 1 := Scalar.cmpi .eq c4_i32_486 c0_i32_487
  let c1_i32_488 : BitVec 32 := 1#32
  let v683 : BitVec 32 := Scalar.select v682 c1_i32_488 c4_i32_486
  let v684 : BitVec 32 := Scalar.remsi v681 v683
  let c0_i32_490 : BitVec 32 := 0#32
  let v686 : BitVec 1 := Scalar.cmpi .slt v684 c0_i32_490
  let c0_i32_491 : BitVec 32 := 0#32
  let v687 : BitVec 1 := Scalar.cmpi .slt v683 c0_i32_491
  let v688 : BitVec 1 := Scalar.xori v686 v687
  let c0_i32_489 : BitVec 32 := 0#32
  let v685 : BitVec 1 := Scalar.cmpi .ne v684 c0_i32_489
  let v689 : BitVec 1 := Scalar.andi v688 v685
  let v690 : BitVec 32 := Scalar.addi v684 v683
  let v691 : BitVec 32 := Scalar.select v689 v690 v684
  let v692 : BitVec 32 := Scalar.select v666 v678 v691
  let c256_i32_494 : BitVec 32 := 256#32
  let v695 : BitVec 32 := Scalar.muli v692 c256_i32_494
  let v696 : BitVec 32 := Scalar.addi v694 v695
  let c0_i32_510 : BitVec 32 := 0#32
  ![v696.toNat, 0]
def k0_cond3 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c3_i32_316 : BitVec 32 := 3#32
  let v421 : BitVec 1 := Scalar.cmpi .slt v363 c3_i32_316
  let c5_i32_317 : BitVec 32 := 5#32
  let v422 : BitVec 1 := Scalar.cmpi .eq v363 c5_i32_317
  let c3_i32_318 : BitVec 32 := 3#32
  let v423 : BitVec 1 := Scalar.cmpi .slt v361 c3_i32_318
  let v424 : BitVec 1 := Scalar.andi v422 v423
  let v425 : BitVec 1 := Scalar.ori v421 v424
  let v428 : BitVec 32 := Scalar.extui v425
  let c0_i32_320 : BitVec 32 := 0#32
  let v429 : BitVec 1 := Scalar.cmpi .ne v428 c0_i32_320
  v429

def k0_off12 (k0_t1 : Fin k0_t1_loop.trips) : Fin 2 → Nat :=
  let c1_i32_442 : BitVec 32 := 1#32
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_436 : BitVec 32 := 2#32
  let c0_i32_437 : BitVec 32 := 0#32
  let v599 : BitVec 1 := Scalar.cmpi .eq c2_i32_436 c0_i32_437
  let c1_i32_438 : BitVec 32 := 1#32
  let v600 : BitVec 32 := Scalar.select v599 c1_i32_438 c2_i32_436
  let v601 : BitVec 32 := Scalar.remsi v378 v600
  let c0_i32_440 : BitVec 32 := 0#32
  let v603 : BitVec 1 := Scalar.cmpi .slt v601 c0_i32_440
  let c0_i32_441 : BitVec 32 := 0#32
  let v604 : BitVec 1 := Scalar.cmpi .slt v600 c0_i32_441
  let v605 : BitVec 1 := Scalar.xori v603 v604
  let c0_i32_439 : BitVec 32 := 0#32
  let v602 : BitVec 1 := Scalar.cmpi .ne v601 c0_i32_439
  let v606 : BitVec 1 := Scalar.andi v605 v602
  let v607 : BitVec 32 := Scalar.addi v601 v600
  let v608 : BitVec 32 := Scalar.select v606 v607 v601
  ![1, v608.toNat]
def k0_off13 (k0_t1 : Fin k0_t1_loop.trips) : Fin 3 → Nat :=
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_430 : BitVec 32 := 2#32
  let c0_i32_431 : BitVec 32 := 0#32
  let v589 : BitVec 1 := Scalar.cmpi .eq c2_i32_430 c0_i32_431
  let c1_i32_432 : BitVec 32 := 1#32
  let v590 : BitVec 32 := Scalar.select v589 c1_i32_432 c2_i32_430
  let v591 : BitVec 32 := Scalar.remsi v378 v590
  let c0_i32_434 : BitVec 32 := 0#32
  let v593 : BitVec 1 := Scalar.cmpi .slt v591 c0_i32_434
  let c0_i32_435 : BitVec 32 := 0#32
  let v594 : BitVec 1 := Scalar.cmpi .slt v590 c0_i32_435
  let v595 : BitVec 1 := Scalar.xori v593 v594
  let c0_i32_433 : BitVec 32 := 0#32
  let v592 : BitVec 1 := Scalar.cmpi .ne v591 c0_i32_433
  let v596 : BitVec 1 := Scalar.andi v595 v592
  let v597 : BitVec 32 := Scalar.addi v591 v590
  let v598 : BitVec 32 := Scalar.select v596 v597 v591
  let c0_i32_443 : BitVec 32 := 0#32
  let c0_i32_444 : BitVec 32 := 0#32
  ![v598.toNat, 0, 0]
def k0_off14 (d0 : Dev nD) (k0_t1 : Fin k0_t1_loop.trips) : Fin 2 → Nat :=
  let c4096_i32_428 : BitVec 32 := 4096#32
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c1_i32_397 : BitVec 32 := 1#32
  let v530 : BitVec 32 := Scalar.subi v378 c1_i32_397
  let c4_i32_405 : BitVec 32 := 4#32
  let c0_i32_406 : BitVec 32 := 0#32
  let v548 : BitVec 1 := Scalar.cmpi .eq c4_i32_405 c0_i32_406
  let c1_i32_407 : BitVec 32 := 1#32
  let v549 : BitVec 32 := Scalar.select v548 c1_i32_407 c4_i32_405
  let v550 : BitVec 32 := Scalar.remsi v530 v549
  let c0_i32_409 : BitVec 32 := 0#32
  let v552 : BitVec 1 := Scalar.cmpi .slt v550 c0_i32_409
  let c0_i32_410 : BitVec 32 := 0#32
  let v553 : BitVec 1 := Scalar.cmpi .slt v549 c0_i32_410
  let v554 : BitVec 1 := Scalar.xori v552 v553
  let c0_i32_408 : BitVec 32 := 0#32
  let v551 : BitVec 1 := Scalar.cmpi .ne v550 c0_i32_408
  let v555 : BitVec 1 := Scalar.andi v554 v551
  let v556 : BitVec 32 := Scalar.addi v550 v549
  let v557 : BitVec 32 := Scalar.select v555 v556 v550
  let c3_i32_411 : BitVec 32 := 3#32
  let v558 : BitVec 1 := Scalar.cmpi .eq v557 c3_i32_411
  let c0_i32_399 : BitVec 32 := 0#32
  let v532 : BitVec 1 := Scalar.cmpi .sgt v530 c0_i32_399
  let v533 : BitVec 32 := Scalar.extui v532
  let c0_i32_400 : BitVec 32 := 0#32
  let v534 : BitVec 1 := Scalar.cmpi .slt v530 c0_i32_400
  let v535 : BitVec 32 := Scalar.extui v534
  let v536 : BitVec 32 := Scalar.subi v533 v535
  let c4_i32_398 : BitVec 32 := 4#32
  let c0_i32_401 : BitVec 32 := 0#32
  let v537 : BitVec 1 := Scalar.cmpi .sgt c4_i32_398 c0_i32_401
  let v538 : BitVec 32 := Scalar.extui v537
  let c0_i32_402 : BitVec 32 := 0#32
  let v539 : BitVec 1 := Scalar.cmpi .slt c4_i32_398 c0_i32_402
  let v540 : BitVec 32 := Scalar.extui v539
  let v541 : BitVec 32 := Scalar.subi v538 v540
  let v542 : BitVec 1 := Scalar.cmpi .ne v536 v541
  let v543 : BitVec 32 := Scalar.remsi v530 c4_i32_398
  let c0_i32_403 : BitVec 32 := 0#32
  let v544 : BitVec 1 := Scalar.cmpi .ne v543 c0_i32_403
  let v545 : BitVec 1 := Scalar.andi v542 v544
  let v531 : BitVec 32 := Scalar.divsi v530 c4_i32_398
  let c1_i32_404 : BitVec 32 := 1#32
  let v546 : BitVec 32 := Scalar.subi v531 c1_i32_404
  let v547 : BitVec 32 := Scalar.select v545 v546 v531
  let c1_i32_412 : BitVec 32 := 1#32
  let v559 : BitVec 32 := Scalar.addi v547 c1_i32_412
  let v560 : BitVec 32 := Scalar.select v558 v559 v547
  let c1024_i32_427 : BitVec 32 := 1024#32
  let v585 : BitVec 32 := Scalar.muli v560 c1024_i32_427
  let v586 : BitVec 32 := Scalar.addi c4096_i32_428 v585
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_413 : BitVec 32 := 4#32
  let c0_i32_414 : BitVec 32 := 0#32
  let v561 : BitVec 1 := Scalar.cmpi .eq c4_i32_413 c0_i32_414
  let c1_i32_415 : BitVec 32 := 1#32
  let v562 : BitVec 32 := Scalar.select v561 c1_i32_415 c4_i32_413
  let v563 : BitVec 32 := Scalar.remsi v2 v562
  let c0_i32_417 : BitVec 32 := 0#32
  let v565 : BitVec 1 := Scalar.cmpi .slt v563 c0_i32_417
  let c0_i32_418 : BitVec 32 := 0#32
  let v566 : BitVec 1 := Scalar.cmpi .slt v562 c0_i32_418
  let v567 : BitVec 1 := Scalar.xori v565 v566
  let c0_i32_416 : BitVec 32 := 0#32
  let v564 : BitVec 1 := Scalar.cmpi .ne v563 c0_i32_416
  let v568 : BitVec 1 := Scalar.andi v567 v564
  let v569 : BitVec 32 := Scalar.addi v563 v562
  let v570 : BitVec 32 := Scalar.select v568 v569 v563
  let c_m1_i32_420 : BitVec 32 := 4294967295#32
  let c1_i32_419 : BitVec 32 := 1#32
  let v571 : BitVec 32 := Scalar.addi v557 c1_i32_419
  let v572 : BitVec 32 := Scalar.muli c_m1_i32_420 v571
  let v573 : BitVec 32 := Scalar.subi v2 v572
  let c4_i32_421 : BitVec 32 := 4#32
  let c0_i32_422 : BitVec 32 := 0#32
  let v574 : BitVec 1 := Scalar.cmpi .eq c4_i32_421 c0_i32_422
  let c1_i32_423 : BitVec 32 := 1#32
  let v575 : BitVec 32 := Scalar.select v574 c1_i32_423 c4_i32_421
  let v576 : BitVec 32 := Scalar.remsi v573 v575
  let c0_i32_425 : BitVec 32 := 0#32
  let v578 : BitVec 1 := Scalar.cmpi .slt v576 c0_i32_425
  let c0_i32_426 : BitVec 32 := 0#32
  let v579 : BitVec 1 := Scalar.cmpi .slt v575 c0_i32_426
  let v580 : BitVec 1 := Scalar.xori v578 v579
  let c0_i32_424 : BitVec 32 := 0#32
  let v577 : BitVec 1 := Scalar.cmpi .ne v576 c0_i32_424
  let v581 : BitVec 1 := Scalar.andi v580 v577
  let v582 : BitVec 32 := Scalar.addi v576 v575
  let v583 : BitVec 32 := Scalar.select v581 v582 v576
  let v584 : BitVec 32 := Scalar.select v558 v570 v583
  let c256_i32_429 : BitVec 32 := 256#32
  let v587 : BitVec 32 := Scalar.muli v584 c256_i32_429
  let v588 : BitVec 32 := Scalar.addi v586 v587
  let c0_i32_445 : BitVec 32 := 0#32
  ![v588.toNat, 0]
def k0_off15 (k0_t1 : Fin k0_t1_loop.trips) : Fin 3 → Nat :=
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_446 : BitVec 32 := 2#32
  let c0_i32_447 : BitVec 32 := 0#32
  let v614 : BitVec 1 := Scalar.cmpi .eq c2_i32_446 c0_i32_447
  let c1_i32_448 : BitVec 32 := 1#32
  let v615 : BitVec 32 := Scalar.select v614 c1_i32_448 c2_i32_446
  let v616 : BitVec 32 := Scalar.remsi v378 v615
  let c0_i32_450 : BitVec 32 := 0#32
  let v618 : BitVec 1 := Scalar.cmpi .slt v616 c0_i32_450
  let c0_i32_451 : BitVec 32 := 0#32
  let v619 : BitVec 1 := Scalar.cmpi .slt v615 c0_i32_451
  let v620 : BitVec 1 := Scalar.xori v618 v619
  let c0_i32_449 : BitVec 32 := 0#32
  let v617 : BitVec 1 := Scalar.cmpi .ne v616 c0_i32_449
  let v621 : BitVec 1 := Scalar.andi v620 v617
  let v622 : BitVec 32 := Scalar.addi v616 v615
  let v623 : BitVec 32 := Scalar.select v621 v622 v616
  let v624 : Index := Scalar.indexCast v623
  let c0_452 : Index := 0#32
  let c0_453 : Index := 0#32
  ![v624.toNat, 0, 0]
def k0_cond4 (k0_t1 : Fin k0_t1_loop.trips) : BitVec 1 :=
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_459 : BitVec 32 := 2#32
  let v633 : BitVec 32 := Scalar.addi v378 c2_i32_459
  let c16_i32 : BitVec 32 := 16#32
  let v634 : BitVec 1 := Scalar.cmpi .slt v633 c16_i32
  let v635 : BitVec 32 := Scalar.extui v634
  let c0_i32_460 : BitVec 32 := 0#32
  let v636 : BitVec 1 := Scalar.cmpi .ne v635 c0_i32_460
  v636

def k0_off16 (k0_t1 : Fin k0_t1_loop.trips) : Fin 2 → Nat :=
  let c1_i32_507 : BitVec 32 := 1#32
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_461 : BitVec 32 := 2#32
  let v637 : BitVec 32 := Scalar.addi v378 c2_i32_461
  let c2_i32_501 : BitVec 32 := 2#32
  let c0_i32_502 : BitVec 32 := 0#32
  let v707 : BitVec 1 := Scalar.cmpi .eq c2_i32_501 c0_i32_502
  let c1_i32_503 : BitVec 32 := 1#32
  let v708 : BitVec 32 := Scalar.select v707 c1_i32_503 c2_i32_501
  let v709 : BitVec 32 := Scalar.remsi v637 v708
  let c0_i32_505 : BitVec 32 := 0#32
  let v711 : BitVec 1 := Scalar.cmpi .slt v709 c0_i32_505
  let c0_i32_506 : BitVec 32 := 0#32
  let v712 : BitVec 1 := Scalar.cmpi .slt v708 c0_i32_506
  let v713 : BitVec 1 := Scalar.xori v711 v712
  let c0_i32_504 : BitVec 32 := 0#32
  let v710 : BitVec 1 := Scalar.cmpi .ne v709 c0_i32_504
  let v714 : BitVec 1 := Scalar.andi v713 v710
  let v715 : BitVec 32 := Scalar.addi v709 v708
  let v716 : BitVec 32 := Scalar.select v714 v715 v709
  ![1, v716.toNat]
def k0_off17 (k0_t1 : Fin k0_t1_loop.trips) : Fin 3 → Nat :=
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_461 : BitVec 32 := 2#32
  let v637 : BitVec 32 := Scalar.addi v378 c2_i32_461
  let c2_i32_495 : BitVec 32 := 2#32
  let c0_i32_496 : BitVec 32 := 0#32
  let v697 : BitVec 1 := Scalar.cmpi .eq c2_i32_495 c0_i32_496
  let c1_i32_497 : BitVec 32 := 1#32
  let v698 : BitVec 32 := Scalar.select v697 c1_i32_497 c2_i32_495
  let v699 : BitVec 32 := Scalar.remsi v637 v698
  let c0_i32_499 : BitVec 32 := 0#32
  let v701 : BitVec 1 := Scalar.cmpi .slt v699 c0_i32_499
  let c0_i32_500 : BitVec 32 := 0#32
  let v702 : BitVec 1 := Scalar.cmpi .slt v698 c0_i32_500
  let v703 : BitVec 1 := Scalar.xori v701 v702
  let c0_i32_498 : BitVec 32 := 0#32
  let v700 : BitVec 1 := Scalar.cmpi .ne v699 c0_i32_498
  let v704 : BitVec 1 := Scalar.andi v703 v700
  let v705 : BitVec 32 := Scalar.addi v699 v698
  let v706 : BitVec 32 := Scalar.select v704 v705 v699
  let c0_i32_508 : BitVec 32 := 0#32
  let c0_i32_509 : BitVec 32 := 0#32
  ![v706.toNat, 0, 0]
def k0_off18 (d0 : Dev nD) (k0_t1 : Fin k0_t1_loop.trips) : Fin 2 → Nat :=
  let c4096_i32_493 : BitVec 32 := 4096#32
  let c1_i32_282 : BitVec 32 := 1#32
  let c4_i32_281 : BitVec 32 := 4#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let v374 : BitVec 32 := Scalar.muli c4_i32_281 v361
  let v375 : BitVec 32 := Scalar.addi c1_i32_282 v374
  let c6_i32_274 : BitVec 32 := 6#32
  let v362 : BitVec 32 := Scalar.muli v361 c6_i32_274
  let v363 : BitVec 32 := Scalar.subi arg20 v362
  let c5_i32 : BitVec 32 := 5#32
  let v376 : BitVec 1 := Scalar.cmpi .eq v363 c5_i32
  let c3_i32_283 : BitVec 32 := 3#32
  let v377 : BitVec 32 := Scalar.select v376 c3_i32_283 v363
  let v378 : BitVec 32 := Scalar.addi v375 v377
  let c2_i32_461 : BitVec 32 := 2#32
  let v637 : BitVec 32 := Scalar.addi v378 c2_i32_461
  let c1_i32_462 : BitVec 32 := 1#32
  let v638 : BitVec 32 := Scalar.subi v637 c1_i32_462
  let c4_i32_470 : BitVec 32 := 4#32
  let c0_i32_471 : BitVec 32 := 0#32
  let v656 : BitVec 1 := Scalar.cmpi .eq c4_i32_470 c0_i32_471
  let c1_i32_472 : BitVec 32 := 1#32
  let v657 : BitVec 32 := Scalar.select v656 c1_i32_472 c4_i32_470
  let v658 : BitVec 32 := Scalar.remsi v638 v657
  let c0_i32_474 : BitVec 32 := 0#32
  let v660 : BitVec 1 := Scalar.cmpi .slt v658 c0_i32_474
  let c0_i32_475 : BitVec 32 := 0#32
  let v661 : BitVec 1 := Scalar.cmpi .slt v657 c0_i32_475
  let v662 : BitVec 1 := Scalar.xori v660 v661
  let c0_i32_473 : BitVec 32 := 0#32
  let v659 : BitVec 1 := Scalar.cmpi .ne v658 c0_i32_473
  let v663 : BitVec 1 := Scalar.andi v662 v659
  let v664 : BitVec 32 := Scalar.addi v658 v657
  let v665 : BitVec 32 := Scalar.select v663 v664 v658
  let c3_i32_476 : BitVec 32 := 3#32
  let v666 : BitVec 1 := Scalar.cmpi .eq v665 c3_i32_476
  let c0_i32_464 : BitVec 32 := 0#32
  let v640 : BitVec 1 := Scalar.cmpi .sgt v638 c0_i32_464
  let v641 : BitVec 32 := Scalar.extui v640
  let c0_i32_465 : BitVec 32 := 0#32
  let v642 : BitVec 1 := Scalar.cmpi .slt v638 c0_i32_465
  let v643 : BitVec 32 := Scalar.extui v642
  let v644 : BitVec 32 := Scalar.subi v641 v643
  let c4_i32_463 : BitVec 32 := 4#32
  let c0_i32_466 : BitVec 32 := 0#32
  let v645 : BitVec 1 := Scalar.cmpi .sgt c4_i32_463 c0_i32_466
  let v646 : BitVec 32 := Scalar.extui v645
  let c0_i32_467 : BitVec 32 := 0#32
  let v647 : BitVec 1 := Scalar.cmpi .slt c4_i32_463 c0_i32_467
  let v648 : BitVec 32 := Scalar.extui v647
  let v649 : BitVec 32 := Scalar.subi v646 v648
  let v650 : BitVec 1 := Scalar.cmpi .ne v644 v649
  let v651 : BitVec 32 := Scalar.remsi v638 c4_i32_463
  let c0_i32_468 : BitVec 32 := 0#32
  let v652 : BitVec 1 := Scalar.cmpi .ne v651 c0_i32_468
  let v653 : BitVec 1 := Scalar.andi v650 v652
  let v639 : BitVec 32 := Scalar.divsi v638 c4_i32_463
  let c1_i32_469 : BitVec 32 := 1#32
  let v654 : BitVec 32 := Scalar.subi v639 c1_i32_469
  let v655 : BitVec 32 := Scalar.select v653 v654 v639
  let c1_i32_477 : BitVec 32 := 1#32
  let v667 : BitVec 32 := Scalar.addi v655 c1_i32_477
  let v668 : BitVec 32 := Scalar.select v666 v667 v655
  let c1024_i32_492 : BitVec 32 := 1024#32
  let v693 : BitVec 32 := Scalar.muli v668 c1024_i32_492
  let v694 : BitVec 32 := Scalar.addi c4096_i32_493 v693
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_478 : BitVec 32 := 4#32
  let c0_i32_479 : BitVec 32 := 0#32
  let v669 : BitVec 1 := Scalar.cmpi .eq c4_i32_478 c0_i32_479
  let c1_i32_480 : BitVec 32 := 1#32
  let v670 : BitVec 32 := Scalar.select v669 c1_i32_480 c4_i32_478
  let v671 : BitVec 32 := Scalar.remsi v2 v670
  let c0_i32_482 : BitVec 32 := 0#32
  let v673 : BitVec 1 := Scalar.cmpi .slt v671 c0_i32_482
  let c0_i32_483 : BitVec 32 := 0#32
  let v674 : BitVec 1 := Scalar.cmpi .slt v670 c0_i32_483
  let v675 : BitVec 1 := Scalar.xori v673 v674
  let c0_i32_481 : BitVec 32 := 0#32
  let v672 : BitVec 1 := Scalar.cmpi .ne v671 c0_i32_481
  let v676 : BitVec 1 := Scalar.andi v675 v672
  let v677 : BitVec 32 := Scalar.addi v671 v670
  let v678 : BitVec 32 := Scalar.select v676 v677 v671
  let c_m1_i32_485 : BitVec 32 := 4294967295#32
  let c1_i32_484 : BitVec 32 := 1#32
  let v679 : BitVec 32 := Scalar.addi v665 c1_i32_484
  let v680 : BitVec 32 := Scalar.muli c_m1_i32_485 v679
  let v681 : BitVec 32 := Scalar.subi v2 v680
  let c4_i32_486 : BitVec 32 := 4#32
  let c0_i32_487 : BitVec 32 := 0#32
  let v682 : BitVec 1 := Scalar.cmpi .eq c4_i32_486 c0_i32_487
  let c1_i32_488 : BitVec 32 := 1#32
  let v683 : BitVec 32 := Scalar.select v682 c1_i32_488 c4_i32_486
  let v684 : BitVec 32 := Scalar.remsi v681 v683
  let c0_i32_490 : BitVec 32 := 0#32
  let v686 : BitVec 1 := Scalar.cmpi .slt v684 c0_i32_490
  let c0_i32_491 : BitVec 32 := 0#32
  let v687 : BitVec 1 := Scalar.cmpi .slt v683 c0_i32_491
  let v688 : BitVec 1 := Scalar.xori v686 v687
  let c0_i32_489 : BitVec 32 := 0#32
  let v685 : BitVec 1 := Scalar.cmpi .ne v684 c0_i32_489
  let v689 : BitVec 1 := Scalar.andi v688 v685
  let v690 : BitVec 32 := Scalar.addi v684 v683
  let v691 : BitVec 32 := Scalar.select v689 v690 v684
  let v692 : BitVec 32 := Scalar.select v666 v678 v691
  let c256_i32_494 : BitVec 32 := 256#32
  let v695 : BitVec 32 := Scalar.muli v692 c256_i32_494
  let v696 : BitVec 32 := Scalar.addi v694 v695
  let c0_i32_510 : BitVec 32 := 0#32
  ![v696.toNat, 0]
def k0_cond5 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_339 : BitVec 32 := 2#32
  let v451 : BitVec 1 := Scalar.cmpi .slt v363 c2_i32_339
  let v452 : BitVec 32 := Scalar.extui v451
  let c0_i32_340 : BitVec 32 := 0#32
  let v453 : BitVec 1 := Scalar.cmpi .ne v452 c0_i32_340
  v453

def k0_off19 (k0_t1 : Fin k0_t1_loop.trips) : Fin 3 → Nat :=
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  let v530 : Index := Scalar.indexCast v373
  let c0_397 : Index := 0#32
  let c0_398 : Index := 0#32
  ![v530.toNat, 0, 0]
def k0_cond6 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_341 : BitVec 32 := 2#32
  let v454 : BitVec 1 := Scalar.cmpi .eq v363 c2_i32_341
  let v455 : BitVec 32 := Scalar.extui v454
  let c0_i32_342 : BitVec 32 := 0#32
  let v456 : BitVec 1 := Scalar.cmpi .ne v455 c0_i32_342
  v456

def k0_cond7 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c0_i32_397 : BitVec 32 := 0#32
  let v530 : BitVec 1 := Scalar.cmpi .sgt v361 c0_i32_397
  let v531 : BitVec 32 := Scalar.extui v530
  let c0_i32_398 : BitVec 32 := 0#32
  let v532 : BitVec 1 := Scalar.cmpi .ne v531 c0_i32_398
  v532

def k0_off20 (d0 : Dev nD) (k0_t1 : Fin k0_t1_loop.trips) : Fin 2 → Nat :=
  let c0_i32_426 : BitVec 32 := 0#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1_i32_424 : BitVec 32 := 1#32
  let v577 : BitVec 32 := Scalar.subi v361 c1_i32_424
  let c1024_i32_425 : BitVec 32 := 1024#32
  let v578 : BitVec 32 := Scalar.muli v577 c1024_i32_425
  let v579 : BitVec 32 := Scalar.addi c0_i32_426 v578
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_427 : BitVec 32 := 2#32
  let v580 : BitVec 32 := Scalar.subi v2 c2_i32_427
  let c4_i32_428 : BitVec 32 := 4#32
  let c0_i32_429 : BitVec 32 := 0#32
  let v581 : BitVec 1 := Scalar.cmpi .eq c4_i32_428 c0_i32_429
  let c1_i32_430 : BitVec 32 := 1#32
  let v582 : BitVec 32 := Scalar.select v581 c1_i32_430 c4_i32_428
  let v583 : BitVec 32 := Scalar.remsi v580 v582
  let c0_i32_432 : BitVec 32 := 0#32
  let v585 : BitVec 1 := Scalar.cmpi .slt v583 c0_i32_432
  let c0_i32_433 : BitVec 32 := 0#32
  let v586 : BitVec 1 := Scalar.cmpi .slt v582 c0_i32_433
  let v587 : BitVec 1 := Scalar.xori v585 v586
  let c0_i32_431 : BitVec 32 := 0#32
  let v584 : BitVec 1 := Scalar.cmpi .ne v583 c0_i32_431
  let v588 : BitVec 1 := Scalar.andi v587 v584
  let v589 : BitVec 32 := Scalar.addi v583 v582
  let v590 : BitVec 32 := Scalar.select v588 v589 v583
  let c256_i32_434 : BitVec 32 := 256#32
  let v591 : BitVec 32 := Scalar.muli v590 c256_i32_434
  let v592 : BitVec 32 := Scalar.addi v579 v591
  let c0_i32_437 : BitVec 32 := 0#32
  ![v592.toNat, 0]
def k0_off21 (k0_t1 : Fin k0_t1_loop.trips) : Fin 3 → Nat :=
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  let v533 : Index := Scalar.indexCast v373
  let c0_399 : Index := 0#32
  let c0_400 : Index := 0#32
  ![v533.toNat, 0, 0]
def k0_off22 (d0 : Dev nD) (k0_t1 : Fin k0_t1_loop.trips) : Fin 2 → Nat :=
  let c0_i32_412 : BitVec 32 := 0#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1024_i32_411 : BitVec 32 := 1024#32
  let v559 : BitVec 32 := Scalar.muli v361 c1024_i32_411
  let v560 : BitVec 32 := Scalar.addi c0_i32_412 v559
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_413 : BitVec 32 := 4294967295#32
  let v561 : BitVec 32 := Scalar.subi v2 c_m1_i32_413
  let c4_i32_414 : BitVec 32 := 4#32
  let c0_i32_415 : BitVec 32 := 0#32
  let v562 : BitVec 1 := Scalar.cmpi .eq c4_i32_414 c0_i32_415
  let c1_i32_416 : BitVec 32 := 1#32
  let v563 : BitVec 32 := Scalar.select v562 c1_i32_416 c4_i32_414
  let v564 : BitVec 32 := Scalar.remsi v561 v563
  let c0_i32_418 : BitVec 32 := 0#32
  let v566 : BitVec 1 := Scalar.cmpi .slt v564 c0_i32_418
  let c0_i32_419 : BitVec 32 := 0#32
  let v567 : BitVec 1 := Scalar.cmpi .slt v563 c0_i32_419
  let v568 : BitVec 1 := Scalar.xori v566 v567
  let c0_i32_417 : BitVec 32 := 0#32
  let v565 : BitVec 1 := Scalar.cmpi .ne v564 c0_i32_417
  let v569 : BitVec 1 := Scalar.andi v568 v565
  let v570 : BitVec 32 := Scalar.addi v564 v563
  let v571 : BitVec 32 := Scalar.select v569 v570 v564
  let c256_i32_420 : BitVec 32 := 256#32
  let v572 : BitVec 32 := Scalar.muli v571 c256_i32_420
  let v573 : BitVec 32 := Scalar.addi v560 v572
  let c0_i32_423 : BitVec 32 := 0#32
  ![v573.toNat, 0]
def k0_cond8 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_343 : BitVec 32 := 2#32
  let v457 : BitVec 1 := Scalar.cmpi .sgt v363 c2_i32_343
  let c5_i32_344 : BitVec 32 := 5#32
  let v458 : BitVec 1 := Scalar.cmpi .slt v363 c5_i32_344
  let v459 : BitVec 1 := Scalar.andi v457 v458
  let v460 : BitVec 32 := Scalar.extui v459
  let c0_i32_345 : BitVec 32 := 0#32
  let v461 : BitVec 1 := Scalar.cmpi .ne v460 c0_i32_345
  v461

def k0_off23 (k0_t1 : Fin k0_t1_loop.trips) : Fin 2 → Nat :=
  let c0_i32_410 : BitVec 32 := 0#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_397 : BitVec 32 := 2#32
  let v530 : BitVec 32 := Scalar.subi v363 c2_i32_397
  let c1_i32_398 : BitVec 32 := 1#32
  let v531 : BitVec 32 := Scalar.subi v530 c1_i32_398
  ![0, v531.toNat]
def k0_off24 (d0 : Dev nD) (k0_t1 : Fin k0_t1_loop.trips) : Fin 2 → Nat :=
  let c0_i32_400 : BitVec 32 := 0#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1024_i32_399 : BitVec 32 := 1024#32
  let v532 : BitVec 32 := Scalar.muli v361 c1024_i32_399
  let v533 : BitVec 32 := Scalar.addi c0_i32_400 v532
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_402 : BitVec 32 := 1#32
  let c6_i32_274 : BitVec 32 := 6#32
  let v362 : BitVec 32 := Scalar.muli v361 c6_i32_274
  let v363 : BitVec 32 := Scalar.subi arg20 v362
  let c2_i32_397 : BitVec 32 := 2#32
  let v530 : BitVec 32 := Scalar.subi v363 c2_i32_397
  let c1_i32_398 : BitVec 32 := 1#32
  let v531 : BitVec 32 := Scalar.subi v530 c1_i32_398
  let c1_i32_401 : BitVec 32 := 1#32
  let v534 : BitVec 32 := Scalar.subi v531 c1_i32_401
  let v535 : BitVec 32 := Scalar.muli c1_i32_402 v534
  let v536 : BitVec 32 := Scalar.subi v2 v535
  let c4_i32_403 : BitVec 32 := 4#32
  let c0_i32_404 : BitVec 32 := 0#32
  let v537 : BitVec 1 := Scalar.cmpi .eq c4_i32_403 c0_i32_404
  let c1_i32_405 : BitVec 32 := 1#32
  let v538 : BitVec 32 := Scalar.select v537 c1_i32_405 c4_i32_403
  let v539 : BitVec 32 := Scalar.remsi v536 v538
  let c0_i32_407 : BitVec 32 := 0#32
  let v541 : BitVec 1 := Scalar.cmpi .slt v539 c0_i32_407
  let c0_i32_408 : BitVec 32 := 0#32
  let v542 : BitVec 1 := Scalar.cmpi .slt v538 c0_i32_408
  let v543 : BitVec 1 := Scalar.xori v541 v542
  let c0_i32_406 : BitVec 32 := 0#32
  let v540 : BitVec 1 := Scalar.cmpi .ne v539 c0_i32_406
  let v544 : BitVec 1 := Scalar.andi v543 v540
  let v545 : BitVec 32 := Scalar.addi v539 v538
  let v546 : BitVec 32 := Scalar.select v544 v545 v539
  let c256_i32_409 : BitVec 32 := 256#32
  let v547 : BitVec 32 := Scalar.muli v546 c256_i32_409
  let v548 : BitVec 32 := Scalar.addi v533 v547
  let c0_i32_411 : BitVec 32 := 0#32
  ![v548.toNat, 0]
def k0_off25 (k0_t1 : Fin k0_t1_loop.trips) : Fin 3 → Nat :=
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  let v552 : Index := Scalar.indexCast v373
  let c0_412 : Index := 0#32
  let c0_413 : Index := 0#32
  ![v552.toNat, 0, 0]
def k0_off26 (k0_t1 : Fin k0_t1_loop.trips) : Fin 2 → Nat :=
  let c0_i32_431 : BitVec 32 := 0#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_397 : BitVec 32 := 2#32
  let v530 : BitVec 32 := Scalar.subi v363 c2_i32_397
  ![0, v530.toNat]
def k0_off27 (d0 : Dev nD) (k0_t1 : Fin k0_t1_loop.trips) : Fin 2 → Nat :=
  let c0_i32_421 : BitVec 32 := 0#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1024_i32_420 : BitVec 32 := 1024#32
  let v565 : BitVec 32 := Scalar.muli v361 c1024_i32_420
  let v566 : BitVec 32 := Scalar.addi c0_i32_421 v565
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_423 : BitVec 32 := 1#32
  let c6_i32_274 : BitVec 32 := 6#32
  let v362 : BitVec 32 := Scalar.muli v361 c6_i32_274
  let v363 : BitVec 32 := Scalar.subi arg20 v362
  let c2_i32_397 : BitVec 32 := 2#32
  let v530 : BitVec 32 := Scalar.subi v363 c2_i32_397
  let c1_i32_422 : BitVec 32 := 1#32
  let v567 : BitVec 32 := Scalar.subi v530 c1_i32_422
  let v568 : BitVec 32 := Scalar.muli c1_i32_423 v567
  let v569 : BitVec 32 := Scalar.subi v2 v568
  let c4_i32_424 : BitVec 32 := 4#32
  let c0_i32_425 : BitVec 32 := 0#32
  let v570 : BitVec 1 := Scalar.cmpi .eq c4_i32_424 c0_i32_425
  let c1_i32_426 : BitVec 32 := 1#32
  let v571 : BitVec 32 := Scalar.select v570 c1_i32_426 c4_i32_424
  let v572 : BitVec 32 := Scalar.remsi v569 v571
  let c0_i32_428 : BitVec 32 := 0#32
  let v574 : BitVec 1 := Scalar.cmpi .slt v572 c0_i32_428
  let c0_i32_429 : BitVec 32 := 0#32
  let v575 : BitVec 1 := Scalar.cmpi .slt v571 c0_i32_429
  let v576 : BitVec 1 := Scalar.xori v574 v575
  let c0_i32_427 : BitVec 32 := 0#32
  let v573 : BitVec 1 := Scalar.cmpi .ne v572 c0_i32_427
  let v577 : BitVec 1 := Scalar.andi v576 v573
  let v578 : BitVec 32 := Scalar.addi v572 v571
  let v579 : BitVec 32 := Scalar.select v577 v578 v572
  let c256_i32_430 : BitVec 32 := 256#32
  let v580 : BitVec 32 := Scalar.muli v579 c256_i32_430
  let v581 : BitVec 32 := Scalar.addi v566 v580
  let c0_i32_432 : BitVec 32 := 0#32
  ![v581.toNat, 0]
def k0_cond9 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c5_i32_346 : BitVec 32 := 5#32
  let v462 : BitVec 1 := Scalar.cmpi .eq v363 c5_i32_346
  let v463 : BitVec 32 := Scalar.extui v462
  let c0_i32_347 : BitVec 32 := 0#32
  let v464 : BitVec 1 := Scalar.cmpi .ne v463 c0_i32_347
  v464

def k0_off28 (d0 : Dev nD) (k0_t1 : Fin k0_t1_loop.trips) (c1_i32_399 : BitVec 32) : Fin 2 → Nat :=
  let c0_i32_398 : BitVec 32 := 0#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1024_i32_397 : BitVec 32 := 1024#32
  let v530 : BitVec 32 := Scalar.muli v361 c1024_i32_397
  let v531 : BitVec 32 := Scalar.addi c0_i32_398 v530
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v532 : BitVec 32 := Scalar.subi v2 c1_i32_399
  let c4_i32_400 : BitVec 32 := 4#32
  let c0_i32_401 : BitVec 32 := 0#32
  let v533 : BitVec 1 := Scalar.cmpi .eq c4_i32_400 c0_i32_401
  let c1_i32_402 : BitVec 32 := 1#32
  let v534 : BitVec 32 := Scalar.select v533 c1_i32_402 c4_i32_400
  let v535 : BitVec 32 := Scalar.remsi v532 v534
  let c0_i32_404 : BitVec 32 := 0#32
  let v537 : BitVec 1 := Scalar.cmpi .slt v535 c0_i32_404
  let c0_i32_405 : BitVec 32 := 0#32
  let v538 : BitVec 1 := Scalar.cmpi .slt v534 c0_i32_405
  let v539 : BitVec 1 := Scalar.xori v537 v538
  let c0_i32_403 : BitVec 32 := 0#32
  let v536 : BitVec 1 := Scalar.cmpi .ne v535 c0_i32_403
  let v540 : BitVec 1 := Scalar.andi v539 v536
  let v541 : BitVec 32 := Scalar.addi v535 v534
  let v542 : BitVec 32 := Scalar.select v540 v541 v535
  let c256_i32_406 : BitVec 32 := 256#32
  let v543 : BitVec 32 := Scalar.muli v542 c256_i32_406
  let v544 : BitVec 32 := Scalar.addi v531 v543
  let c0_i32_409 : BitVec 32 := 0#32
  ![v544.toNat, 0]
def k0_off29 (k0_t1 : Fin k0_t1_loop.trips) : Fin 3 → Nat :=
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  let v548 : Index := Scalar.indexCast v373
  let c0_410 : Index := 0#32
  let c0_411 : Index := 0#32
  ![v548.toNat, 0, 0]
def k0_dev5 (d0 : Dev nD) : Nat :=
  let c0_i32_358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_348 : BitVec 32 := 1#32
  let v465 : BitVec 32 := Scalar.subi v2 c1_i32_348
  let c4_i32_349 : BitVec 32 := 4#32
  let c0_i32_350 : BitVec 32 := 0#32
  let v466 : BitVec 1 := Scalar.cmpi .eq c4_i32_349 c0_i32_350
  let c1_i32_351 : BitVec 32 := 1#32
  let v467 : BitVec 32 := Scalar.select v466 c1_i32_351 c4_i32_349
  let v468 : BitVec 32 := Scalar.remsi v465 v467
  let c0_i32_353 : BitVec 32 := 0#32
  let v470 : BitVec 1 := Scalar.cmpi .slt v468 c0_i32_353
  let c0_i32_354 : BitVec 32 := 0#32
  let v471 : BitVec 1 := Scalar.cmpi .slt v467 c0_i32_354
  let v472 : BitVec 1 := Scalar.xori v470 v471
  let c0_i32_352 : BitVec 32 := 0#32
  let v469 : BitVec 1 := Scalar.cmpi .ne v468 c0_i32_352
  let v473 : BitVec 1 := Scalar.andi v472 v469
  let v474 : BitVec 32 := Scalar.addi v468 v467
  let v475 : BitVec 32 := Scalar.select v473 v474 v468
  let c1_i32_357 : BitVec 32 := 1#32
  let v478 : BitVec 32 := Scalar.muli v475 c1_i32_357
  let v479 : BitVec 32 := Scalar.addi c0_i32_358 v478
  v479.toNat
def k0_cond10 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_377 : BitVec 32 := 2#32
  let v501 : BitVec 1 := Scalar.cmpi .slt v363 c2_i32_377
  let v502 : BitVec 32 := Scalar.extui v501
  let c0_i32_378 : BitVec 32 := 0#32
  let v503 : BitVec 1 := Scalar.cmpi .ne v502 c0_i32_378
  v503

def k0_off30 (k0_t1 : Fin k0_t1_loop.trips) : Fin 3 → Nat :=
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  let v530 : Index := Scalar.indexCast v373
  let c0_397 : Index := 0#32
  let c0_398 : Index := 0#32
  ![v530.toNat, 0, 0]
def k0_cond11 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_379 : BitVec 32 := 2#32
  let v504 : BitVec 1 := Scalar.cmpi .eq v363 c2_i32_379
  let v505 : BitVec 32 := Scalar.extui v504
  let c0_i32_380 : BitVec 32 := 0#32
  let v506 : BitVec 1 := Scalar.cmpi .ne v505 c0_i32_380
  v506

def k0_cond12 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c0_i32_397 : BitVec 32 := 0#32
  let v530 : BitVec 1 := Scalar.cmpi .sgt v361 c0_i32_397
  let v531 : BitVec 32 := Scalar.extui v530
  let c0_i32_398 : BitVec 32 := 0#32
  let v532 : BitVec 1 := Scalar.cmpi .ne v531 c0_i32_398
  v532

def k0_off31 (d0 : Dev nD) (k0_t1 : Fin k0_t1_loop.trips) : Fin 2 → Nat :=
  let c4096_i32_426 : BitVec 32 := 4096#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1_i32_424 : BitVec 32 := 1#32
  let v577 : BitVec 32 := Scalar.subi v361 c1_i32_424
  let c1024_i32_425 : BitVec 32 := 1024#32
  let v578 : BitVec 32 := Scalar.muli v577 c1024_i32_425
  let v579 : BitVec 32 := Scalar.addi c4096_i32_426 v578
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m2_i32_427 : BitVec 32 := 4294967294#32
  let v580 : BitVec 32 := Scalar.subi v2 c_m2_i32_427
  let c4_i32_428 : BitVec 32 := 4#32
  let c0_i32_429 : BitVec 32 := 0#32
  let v581 : BitVec 1 := Scalar.cmpi .eq c4_i32_428 c0_i32_429
  let c1_i32_430 : BitVec 32 := 1#32
  let v582 : BitVec 32 := Scalar.select v581 c1_i32_430 c4_i32_428
  let v583 : BitVec 32 := Scalar.remsi v580 v582
  let c0_i32_432 : BitVec 32 := 0#32
  let v585 : BitVec 1 := Scalar.cmpi .slt v583 c0_i32_432
  let c0_i32_433 : BitVec 32 := 0#32
  let v586 : BitVec 1 := Scalar.cmpi .slt v582 c0_i32_433
  let v587 : BitVec 1 := Scalar.xori v585 v586
  let c0_i32_431 : BitVec 32 := 0#32
  let v584 : BitVec 1 := Scalar.cmpi .ne v583 c0_i32_431
  let v588 : BitVec 1 := Scalar.andi v587 v584
  let v589 : BitVec 32 := Scalar.addi v583 v582
  let v590 : BitVec 32 := Scalar.select v588 v589 v583
  let c256_i32_434 : BitVec 32 := 256#32
  let v591 : BitVec 32 := Scalar.muli v590 c256_i32_434
  let v592 : BitVec 32 := Scalar.addi v579 v591
  let c0_i32_437 : BitVec 32 := 0#32
  ![v592.toNat, 0]
def k0_off32 (k0_t1 : Fin k0_t1_loop.trips) : Fin 3 → Nat :=
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  let v533 : Index := Scalar.indexCast v373
  let c0_399 : Index := 0#32
  let c0_400 : Index := 0#32
  ![v533.toNat, 0, 0]
def k0_off33 (d0 : Dev nD) (k0_t1 : Fin k0_t1_loop.trips) : Fin 2 → Nat :=
  let c4096_i32_412 : BitVec 32 := 4096#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1024_i32_411 : BitVec 32 := 1024#32
  let v559 : BitVec 32 := Scalar.muli v361 c1024_i32_411
  let v560 : BitVec 32 := Scalar.addi c4096_i32_412 v559
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_413 : BitVec 32 := 1#32
  let v561 : BitVec 32 := Scalar.subi v2 c1_i32_413
  let c4_i32_414 : BitVec 32 := 4#32
  let c0_i32_415 : BitVec 32 := 0#32
  let v562 : BitVec 1 := Scalar.cmpi .eq c4_i32_414 c0_i32_415
  let c1_i32_416 : BitVec 32 := 1#32
  let v563 : BitVec 32 := Scalar.select v562 c1_i32_416 c4_i32_414
  let v564 : BitVec 32 := Scalar.remsi v561 v563
  let c0_i32_418 : BitVec 32 := 0#32
  let v566 : BitVec 1 := Scalar.cmpi .slt v564 c0_i32_418
  let c0_i32_419 : BitVec 32 := 0#32
  let v567 : BitVec 1 := Scalar.cmpi .slt v563 c0_i32_419
  let v568 : BitVec 1 := Scalar.xori v566 v567
  let c0_i32_417 : BitVec 32 := 0#32
  let v565 : BitVec 1 := Scalar.cmpi .ne v564 c0_i32_417
  let v569 : BitVec 1 := Scalar.andi v568 v565
  let v570 : BitVec 32 := Scalar.addi v564 v563
  let v571 : BitVec 32 := Scalar.select v569 v570 v564
  let c256_i32_420 : BitVec 32 := 256#32
  let v572 : BitVec 32 := Scalar.muli v571 c256_i32_420
  let v573 : BitVec 32 := Scalar.addi v560 v572
  let c0_i32_423 : BitVec 32 := 0#32
  ![v573.toNat, 0]
def k0_cond13 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_381 : BitVec 32 := 2#32
  let v507 : BitVec 1 := Scalar.cmpi .sgt v363 c2_i32_381
  let c5_i32_382 : BitVec 32 := 5#32
  let v508 : BitVec 1 := Scalar.cmpi .slt v363 c5_i32_382
  let v509 : BitVec 1 := Scalar.andi v507 v508
  let v510 : BitVec 32 := Scalar.extui v509
  let c0_i32_383 : BitVec 32 := 0#32
  let v511 : BitVec 1 := Scalar.cmpi .ne v510 c0_i32_383
  v511

def k0_off34 (k0_t1 : Fin k0_t1_loop.trips) : Fin 2 → Nat :=
  let c1_i32_410 : BitVec 32 := 1#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_397 : BitVec 32 := 2#32
  let v530 : BitVec 32 := Scalar.subi v363 c2_i32_397
  let c1_i32_398 : BitVec 32 := 1#32
  let v531 : BitVec 32 := Scalar.subi v530 c1_i32_398
  ![1, v531.toNat]
def k0_off35 (d0 : Dev nD) (k0_t1 : Fin k0_t1_loop.trips) : Fin 2 → Nat :=
  let c4096_i32_400 : BitVec 32 := 4096#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1024_i32_399 : BitVec 32 := 1024#32
  let v532 : BitVec 32 := Scalar.muli v361 c1024_i32_399
  let v533 : BitVec 32 := Scalar.addi c4096_i32_400 v532
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_402 : BitVec 32 := 4294967295#32
  let c6_i32_274 : BitVec 32 := 6#32
  let v362 : BitVec 32 := Scalar.muli v361 c6_i32_274
  let v363 : BitVec 32 := Scalar.subi arg20 v362
  let c2_i32_397 : BitVec 32 := 2#32
  let v530 : BitVec 32 := Scalar.subi v363 c2_i32_397
  let c1_i32_398 : BitVec 32 := 1#32
  let v531 : BitVec 32 := Scalar.subi v530 c1_i32_398
  let c1_i32_401 : BitVec 32 := 1#32
  let v534 : BitVec 32 := Scalar.subi v531 c1_i32_401
  let v535 : BitVec 32 := Scalar.muli c_m1_i32_402 v534
  let v536 : BitVec 32 := Scalar.subi v2 v535
  let c4_i32_403 : BitVec 32 := 4#32
  let c0_i32_404 : BitVec 32 := 0#32
  let v537 : BitVec 1 := Scalar.cmpi .eq c4_i32_403 c0_i32_404
  let c1_i32_405 : BitVec 32 := 1#32
  let v538 : BitVec 32 := Scalar.select v537 c1_i32_405 c4_i32_403
  let v539 : BitVec 32 := Scalar.remsi v536 v538
  let c0_i32_407 : BitVec 32 := 0#32
  let v541 : BitVec 1 := Scalar.cmpi .slt v539 c0_i32_407
  let c0_i32_408 : BitVec 32 := 0#32
  let v542 : BitVec 1 := Scalar.cmpi .slt v538 c0_i32_408
  let v543 : BitVec 1 := Scalar.xori v541 v542
  let c0_i32_406 : BitVec 32 := 0#32
  let v540 : BitVec 1 := Scalar.cmpi .ne v539 c0_i32_406
  let v544 : BitVec 1 := Scalar.andi v543 v540
  let v545 : BitVec 32 := Scalar.addi v539 v538
  let v546 : BitVec 32 := Scalar.select v544 v545 v539
  let c256_i32_409 : BitVec 32 := 256#32
  let v547 : BitVec 32 := Scalar.muli v546 c256_i32_409
  let v548 : BitVec 32 := Scalar.addi v533 v547
  let c0_i32_411 : BitVec 32 := 0#32
  ![v548.toNat, 0]
def k0_off36 (k0_t1 : Fin k0_t1_loop.trips) : Fin 3 → Nat :=
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  let v552 : Index := Scalar.indexCast v373
  let c0_412 : Index := 0#32
  let c0_413 : Index := 0#32
  ![v552.toNat, 0, 0]
def k0_off37 (k0_t1 : Fin k0_t1_loop.trips) : Fin 2 → Nat :=
  let c1_i32_431 : BitVec 32 := 1#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c2_i32_397 : BitVec 32 := 2#32
  let v530 : BitVec 32 := Scalar.subi v363 c2_i32_397
  ![1, v530.toNat]
def k0_off38 (d0 : Dev nD) (k0_t1 : Fin k0_t1_loop.trips) : Fin 2 → Nat :=
  let c4096_i32_421 : BitVec 32 := 4096#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1024_i32_420 : BitVec 32 := 1024#32
  let v565 : BitVec 32 := Scalar.muli v361 c1024_i32_420
  let v566 : BitVec 32 := Scalar.addi c4096_i32_421 v565
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_423 : BitVec 32 := 4294967295#32
  let c6_i32_274 : BitVec 32 := 6#32
  let v362 : BitVec 32 := Scalar.muli v361 c6_i32_274
  let v363 : BitVec 32 := Scalar.subi arg20 v362
  let c2_i32_397 : BitVec 32 := 2#32
  let v530 : BitVec 32 := Scalar.subi v363 c2_i32_397
  let c1_i32_422 : BitVec 32 := 1#32
  let v567 : BitVec 32 := Scalar.subi v530 c1_i32_422
  let v568 : BitVec 32 := Scalar.muli c_m1_i32_423 v567
  let v569 : BitVec 32 := Scalar.subi v2 v568
  let c4_i32_424 : BitVec 32 := 4#32
  let c0_i32_425 : BitVec 32 := 0#32
  let v570 : BitVec 1 := Scalar.cmpi .eq c4_i32_424 c0_i32_425
  let c1_i32_426 : BitVec 32 := 1#32
  let v571 : BitVec 32 := Scalar.select v570 c1_i32_426 c4_i32_424
  let v572 : BitVec 32 := Scalar.remsi v569 v571
  let c0_i32_428 : BitVec 32 := 0#32
  let v574 : BitVec 1 := Scalar.cmpi .slt v572 c0_i32_428
  let c0_i32_429 : BitVec 32 := 0#32
  let v575 : BitVec 1 := Scalar.cmpi .slt v571 c0_i32_429
  let v576 : BitVec 1 := Scalar.xori v574 v575
  let c0_i32_427 : BitVec 32 := 0#32
  let v573 : BitVec 1 := Scalar.cmpi .ne v572 c0_i32_427
  let v577 : BitVec 1 := Scalar.andi v576 v573
  let v578 : BitVec 32 := Scalar.addi v572 v571
  let v579 : BitVec 32 := Scalar.select v577 v578 v572
  let c256_i32_430 : BitVec 32 := 256#32
  let v580 : BitVec 32 := Scalar.muli v579 c256_i32_430
  let v581 : BitVec 32 := Scalar.addi v566 v580
  let c0_i32_432 : BitVec 32 := 0#32
  ![v581.toNat, 0]
def k0_cond14 (k0_t1 : Fin k0_t1_loop.trips) : BitVec 1 :=
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c6_i32_274 : BitVec 32 := 6#32
  let v362 : BitVec 32 := Scalar.muli v361 c6_i32_274
  let v363 : BitVec 32 := Scalar.subi arg20 v362
  let c5_i32_384 : BitVec 32 := 5#32
  let v512 : BitVec 1 := Scalar.cmpi .eq v363 c5_i32_384
  let v513 : BitVec 32 := Scalar.extui v512
  let c0_i32_385 : BitVec 32 := 0#32
  let v514 : BitVec 1 := Scalar.cmpi .ne v513 c0_i32_385
  v514

def k0_off39 (d0 : Dev nD) (k0_t1 : Fin k0_t1_loop.trips) (c_m1_i32_399 : BitVec 32) : Fin 2 → Nat :=
  let c4096_i32_398 : BitVec 32 := 4096#32
  let c0_i32_238 : BitVec 32 := 0#32
  let c1_i32_239 : BitVec 32 := 1#32
  let arg20 : BitVec 32 := Scf.iv c0_i32_238 c1_i32_239 k0_t1
  let c0_i32_268 : BitVec 32 := 0#32
  let v346 : BitVec 1 := Scalar.cmpi .sgt arg20 c0_i32_268
  let v347 : BitVec 32 := Scalar.extui v346
  let c0_i32_269 : BitVec 32 := 0#32
  let v348 : BitVec 1 := Scalar.cmpi .slt arg20 c0_i32_269
  let v349 : BitVec 32 := Scalar.extui v348
  let v350 : BitVec 32 := Scalar.subi v347 v349
  let c6_i32 : BitVec 32 := 6#32
  let c0_i32_270 : BitVec 32 := 0#32
  let v351 : BitVec 1 := Scalar.cmpi .sgt c6_i32 c0_i32_270
  let v352 : BitVec 32 := Scalar.extui v351
  let c0_i32_271 : BitVec 32 := 0#32
  let v353 : BitVec 1 := Scalar.cmpi .slt c6_i32 c0_i32_271
  let v354 : BitVec 32 := Scalar.extui v353
  let v355 : BitVec 32 := Scalar.subi v352 v354
  let v356 : BitVec 1 := Scalar.cmpi .ne v350 v355
  let v357 : BitVec 32 := Scalar.remsi arg20 c6_i32
  let c0_i32_272 : BitVec 32 := 0#32
  let v358 : BitVec 1 := Scalar.cmpi .ne v357 c0_i32_272
  let v359 : BitVec 1 := Scalar.andi v356 v358
  let v345 : BitVec 32 := Scalar.divsi arg20 c6_i32
  let c1_i32_273 : BitVec 32 := 1#32
  let v360 : BitVec 32 := Scalar.subi v345 c1_i32_273
  let v361 : BitVec 32 := Scalar.select v359 v360 v345
  let c1024_i32_397 : BitVec 32 := 1024#32
  let v530 : BitVec 32 := Scalar.muli v361 c1024_i32_397
  let v531 : BitVec 32 := Scalar.addi c4096_i32_398 v530
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v532 : BitVec 32 := Scalar.subi v2 c_m1_i32_399
  let c4_i32_400 : BitVec 32 := 4#32
  let c0_i32_401 : BitVec 32 := 0#32
  let v533 : BitVec 1 := Scalar.cmpi .eq c4_i32_400 c0_i32_401
  let c1_i32_402 : BitVec 32 := 1#32
  let v534 : BitVec 32 := Scalar.select v533 c1_i32_402 c4_i32_400
  let v535 : BitVec 32 := Scalar.remsi v532 v534
  let c0_i32_404 : BitVec 32 := 0#32
  let v537 : BitVec 1 := Scalar.cmpi .slt v535 c0_i32_404
  let c0_i32_405 : BitVec 32 := 0#32
  let v538 : BitVec 1 := Scalar.cmpi .slt v534 c0_i32_405
  let v539 : BitVec 1 := Scalar.xori v537 v538
  let c0_i32_403 : BitVec 32 := 0#32
  let v536 : BitVec 1 := Scalar.cmpi .ne v535 c0_i32_403
  let v540 : BitVec 1 := Scalar.andi v539 v536
  let v541 : BitVec 32 := Scalar.addi v535 v534
  let v542 : BitVec 32 := Scalar.select v540 v541 v535
  let c256_i32_406 : BitVec 32 := 256#32
  let v543 : BitVec 32 := Scalar.muli v542 c256_i32_406
  let v544 : BitVec 32 := Scalar.addi v531 v543
  let c0_i32_409 : BitVec 32 := 0#32
  ![v544.toNat, 0]
def k0_off40 (k0_t1 : Fin k0_t1_loop.trips) : Fin 3 → Nat :=
  let c0_i32_238 : BitVec 32 := 0#32
  let c1_i32_239 : BitVec 32 := 1#32
  let arg20 : BitVec 32 := Scf.iv c0_i32_238 c1_i32_239 k0_t1
  let c2_i32_275 : BitVec 32 := 2#32
  let c0_i32_276 : BitVec 32 := 0#32
  let v364 : BitVec 1 := Scalar.cmpi .eq c2_i32_275 c0_i32_276
  let c1_i32_277 : BitVec 32 := 1#32
  let v365 : BitVec 32 := Scalar.select v364 c1_i32_277 c2_i32_275
  let v366 : BitVec 32 := Scalar.remsi arg20 v365
  let c0_i32_279 : BitVec 32 := 0#32
  let v368 : BitVec 1 := Scalar.cmpi .slt v366 c0_i32_279
  let c0_i32_280 : BitVec 32 := 0#32
  let v369 : BitVec 1 := Scalar.cmpi .slt v365 c0_i32_280
  let v370 : BitVec 1 := Scalar.xori v368 v369
  let c0_i32_278 : BitVec 32 := 0#32
  let v367 : BitVec 1 := Scalar.cmpi .ne v366 c0_i32_278
  let v371 : BitVec 1 := Scalar.andi v370 v367
  let v372 : BitVec 32 := Scalar.addi v366 v365
  let v373 : BitVec 32 := Scalar.select v371 v372 v366
  let v548 : Index := Scalar.indexCast v373
  let c0_410 : Index := 0#32
  let c0_411 : Index := 0#32
  ![v548.toNat, 0, 0]
def k0_dev6 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_386 : BitVec 32 := 4294967295#32
  let v515 : BitVec 32 := Scalar.subi v2 c_m1_i32_386
  let c4_i32_387 : BitVec 32 := 4#32
  let c0_i32_388 : BitVec 32 := 0#32
  let v516 : BitVec 1 := Scalar.cmpi .eq c4_i32_387 c0_i32_388
  let c1_i32_389 : BitVec 32 := 1#32
  let v517 : BitVec 32 := Scalar.select v516 c1_i32_389 c4_i32_387
  let v518 : BitVec 32 := Scalar.remsi v515 v517
  let c0_i32_391 : BitVec 32 := 0#32
  let v520 : BitVec 1 := Scalar.cmpi .slt v518 c0_i32_391
  let c0_i32_392 : BitVec 32 := 0#32
  let v521 : BitVec 1 := Scalar.cmpi .slt v517 c0_i32_392
  let v522 : BitVec 1 := Scalar.xori v520 v521
  let c0_i32_390 : BitVec 32 := 0#32
  let v519 : BitVec 1 := Scalar.cmpi .ne v518 c0_i32_390
  let v523 : BitVec 1 := Scalar.andi v522 v519
  let v524 : BitVec 32 := Scalar.addi v518 v517
  let v525 : BitVec 32 := Scalar.select v523 v524 v518
  let c1_i32_395 : BitVec 32 := 1#32
  let v528 : BitVec 32 := Scalar.muli v525 c1_i32_395
  let v529 : BitVec 32 := Scalar.addi c0_i32_396 v528
  v529.toNat
def k0_off41 (d0 : Dev nD) (c3072_i32 : BitVec 32) (c2_i32_241 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v309 : BitVec 32 := Scalar.subi v2 c2_i32_241
  let c4_i32_242 : BitVec 32 := 4#32
  let c0_i32_243 : BitVec 32 := 0#32
  let v310 : BitVec 1 := Scalar.cmpi .eq c4_i32_242 c0_i32_243
  let c1_i32_244 : BitVec 32 := 1#32
  let v311 : BitVec 32 := Scalar.select v310 c1_i32_244 c4_i32_242
  let v312 : BitVec 32 := Scalar.remsi v309 v311
  let c0_i32_246 : BitVec 32 := 0#32
  let v314 : BitVec 1 := Scalar.cmpi .slt v312 c0_i32_246
  let c0_i32_247 : BitVec 32 := 0#32
  let v315 : BitVec 1 := Scalar.cmpi .slt v311 c0_i32_247
  let v316 : BitVec 1 := Scalar.xori v314 v315
  let c0_i32_245 : BitVec 32 := 0#32
  let v313 : BitVec 1 := Scalar.cmpi .ne v312 c0_i32_245
  let v317 : BitVec 1 := Scalar.andi v316 v313
  let v318 : BitVec 32 := Scalar.addi v312 v311
  let v319 : BitVec 32 := Scalar.select v317 v318 v312
  let c256_i32_248 : BitVec 32 := 256#32
  let v320 : BitVec 32 := Scalar.muli v319 c256_i32_248
  let v321 : BitVec 32 := Scalar.addi c3072_i32 v320
  let c0_i32_250 : BitVec 32 := 0#32
  ![v321.toNat, 0]
def k0_off41_at (r : Fin 2) : BitVec 32 × BitVec 32 :=
  if r.val < 1 then
    (3072#32, 2#32)
  else
    (7168#32, 4294967294#32)
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Cells.lean ====
/-
  The kernel's ring, its buffers, its semaphores and the contents they carry.

  Device `c` runs two directions `b`: direction 0 sends to the next device of the ring, direction 1
  to the previous one.  A direction goes through 24 steps `g = 6 r + s`, six per segment `r`: step `s`
  sends the send buffer into receive slot `g % 2` of the target.  Matrix products are numbered by
  uses `u < 16`, output copies by `j < 16`; both name a row block of 256 rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Release
public import Idealize.ShloMosaic.Lib.Memref
public import Idealize.ShloMosaic.Lib.Tactic

@[expose] public section

noncomputable section

namespace Cert.KernelIdeal.Ring

open Cert.KernelIdeal Cert.KernelIdeal.Gen
open Idealize.ShloMosaic Idealize.ShloMosaic.TcCoe

variable {F : FTy → Type} [FloatOps F]

/-! ## The ring -/

/-- The next device of the ring, and the previous one. -/
def nxt (c : Dev nD) : Dev nD := ⟨(c.val + 1) % 4, Nat.mod_lt _ (by decide)⟩
def prv (c : Dev nD) : Dev nD := ⟨(c.val + 3) % 4, Nat.mod_lt _ (by decide)⟩

/-- Where direction `b` sends, and where it receives from. -/
def tgt (b : Fin 2) (c : Dev nD) : Dev nD := if b = 0 then nxt c else prv c
def frm (b : Fin 2) (c : Dev nD) : Dev nD := if b = 0 then prv c else nxt c

theorem frm_tgt (b : Fin 2) (c : Dev nD) : frm b (tgt b c) = c := by revert b c; decide
theorem tgt_frm (b : Fin 2) (c : Dev nD) : tgt b (frm b c) = c := by revert b c; decide

/-- A direction's ring as a permutation of the devices. -/
def ring (b : Fin 2) : Dev nD ≃ Dev nD := ⟨tgt b, frm b, frm_tgt b, tgt_frm b⟩

/-! ## Buffers -/

abbrev xA : Memref sig .tc .hbm S8192x2048 .f32 := Memref.whole main_arg0
abbrev wA : Memref sig .tc .hbm S2048x4096 .bf16 := Memref.whole main_v1
abbrev oA : Memref sig .tc .hbm S8192x4096 .f32 := Memref.whole main_v2
abbrev wV : Memref sig .tc .vmem S2048x4096 .bf16 := Memref.whole cc0_scratch10

/-- A direction's buffers: send, receive (two slots), product, row blocks of `x` (two slots), output
    staging. -/
def sendM (b : Fin 2) : Memref sig .tc .vmem S256x4096 .bf16 :=
  match b with | 0 => Memref.whole cc0_scratch0 | 1 => Memref.whole cc0_scratch5
def recvM (b : Fin 2) : Memref sig .tc .vmem S2x256x4096 .bf16 :=
  match b with | 0 => Memref.whole cc0_scratch1 | 1 => Memref.whole cc0_scratch6
def partM (b : Fin 2) : Memref sig .tc .vmem S256x4096 .f32 :=
  match b with | 0 => Memref.whole cc0_scratch2 | 1 => Memref.whole cc0_scratch7
def xsM (b : Fin 2) : Memref sig .tc .vmem S2x256x2048 .f32 :=
  match b with | 0 => Memref.whole cc0_scratch3 | 1 => Memref.whole cc0_scratch8
def ostM (b : Fin 2) : Memref sig .tc .vmem S256x4096 .f32 :=
  match b with | 0 => Memref.whole cc0_scratch4 | 1 => Memref.whole cc0_scratch9

theorem slot_inb (p : Fin 2) : ∀ a, (![p.val, 0, 0] : Fin 3 → ℕ) a + S1x256x4096.size a ≤ S2x256x4096.size a := by
  revert p; decide
theorem xslot_inb (p : Fin 2) : ∀ a, (![p.val, 0, 0] : Fin 3 → ℕ) a + S1x256x2048.size a ≤ S2x256x2048.size a := by
  revert p; decide
theorem xblk_inb (i : Fin 32) : ∀ a, (![256 * i.val, 0] : Fin 2 → ℕ) a + S256x2048.size a ≤ S8192x2048.size a := by
  revert i; decide
theorem oblk_inb (i : Fin 32) : ∀ a, (![256 * i.val, 0] : Fin 2 → ℕ) a + S256x4096.size a ≤ S8192x4096.size a := by
  revert i; decide

abbrev slotR (p : Fin 2) : Rect S2x256x4096 := Rect.unit (s := S2x256x4096) ![p.val, 0, 0] S1x256x4096.size (slot_inb p)
abbrev xslotR (p : Fin 2) : Rect S2x256x2048 := Rect.unit (s := S2x256x2048) ![p.val, 0, 0] S1x256x2048.size (xslot_inb p)
abbrev xblkR (i : Fin 32) : Rect S8192x2048 := Rect.unit (s := S8192x2048) ![256 * i.val, 0] S256x2048.size (xblk_inb i)
abbrev oblkR (i : Fin 32) : Rect S8192x4096 := Rect.unit (s := S8192x4096) ![256 * i.val, 0] S256x4096.size (oblk_inb i)

/-- Slot `p` of a direction's receive buffer and of its buffer of row blocks. -/
def slotM (b p : Fin 2) : Memref sig .tc .vmem S256x4096 .bf16 :=
  ((recvM b).slice (slotR p) (fun _ => rfl)).squeeze S256x4096 squeezes_S1x256x4096_S256x4096
def xslotM (b p : Fin 2) : Memref sig .tc .vmem S256x2048 .f32 :=
  ((xsM b).slice (xslotR p) (fun _ => rfl)).squeeze S256x2048 squeezes_S1x256x2048_S256x2048
/-- Row block `i` (256 rows) of `x` and of the output. -/
def xblkM (i : Fin 32) : Memref sig .tc .hbm S256x2048 .f32 := xA.slice (xblkR i) (fun _ => rfl)
def oblkM (i : Fin 32) : Memref sig .tc .hbm S256x4096 .f32 := oA.slice (oblkR i) (fun _ => rfl)

theorem slot_eq (b p : Fin 2) {off : Fin 3 → ℕ} (h : off = ![p.val, 0, 0])
    (inb : ∀ a, off a + S1x256x4096.size a ≤ S2x256x4096.size a) :
    ((recvM b).slice (Rect.unit (s := S2x256x4096) off S1x256x4096.size inb) (fun _ => rfl)).squeeze S256x4096
        squeezes_S1x256x4096_S256x4096 = slotM b p := by
  subst h; rfl
theorem xslot_eq (b p : Fin 2) {off : Fin 3 → ℕ} (h : off = ![p.val, 0, 0])
    (inb : ∀ a, off a + S1x256x2048.size a ≤ S2x256x2048.size a) :
    ((xsM b).slice (Rect.unit (s := S2x256x2048) off S1x256x2048.size inb) (fun _ => rfl)).squeeze S256x2048
        squeezes_S1x256x2048_S256x2048 = xslotM b p := by
  subst h; rfl
theorem xblk_eq (i : Fin 32) {off : Fin 2 → ℕ} (h : off = ![256 * i.val, 0])
    (inb : ∀ a, off a + S256x2048.size a ≤ S8192x2048.size a) :
    xA.slice (Rect.unit (s := S8192x2048) off S256x2048.size inb) (fun _ => rfl) = xblkM i := by
  subst h; rfl
theorem oblk_eq (i : Fin 32) {off : Fin 2 → ℕ} (h : off = ![256 * i.val, 0])
    (inb : ∀ a, off a + S256x4096.size a ≤ S8192x4096.size a) :
    oA.slice (Rect.unit (s := S8192x4096) off S256x4096.size inb) (fun _ => rfl) = oblkM i := by
  subst h; rfl

/-! ## Semaphores -/

def sendS (b : Fin 2) : DmaSem sig := ⟨b.val, by have := b.isLt; show _ < 19; omega⟩
def recvS (b p : Fin 2) : DmaSem sig := ⟨2 + 2 * b.val + p.val, by have := b.isLt; have := p.isLt; show _ < 19; omega⟩
def xS (b p : Fin 2) : DmaSem sig := ⟨6 + 2 * b.val + p.val, by have := b.isLt; have := p.isLt; show _ < 19; omega⟩
def outS (b : Fin 2) (s : Fin 4) : DmaSem sig := ⟨10 + 4 * b.val + s.val, by have := b.isLt; have := s.isLt; show _ < 19; omega⟩
def wS : DmaSem sig := ⟨18, by show _ < 19; omega⟩
def creditS (b : Fin 2) : Sem sig := ⟨b.val, by have := b.isLt; show _ < 3; omega⟩
def barS : Sem sig := ⟨2, by show _ < 3; omega⟩

/-- What a semaphore is for. -/
inductive Role where
  | send (b : Fin 2) | recv (b p : Fin 2) | xs (b p : Fin 2) | out (b : Fin 2) (s : Fin 4) | w | credit (b : Fin 2) | bar
deriving DecidableEq

/-- The semaphore of a role, and the role of a semaphore. -/
def semOf : Role → SemLoc sig
  | .send b => .dma (sendS b) | .recv b p => .dma (recvS b p) | .xs b p => .dma (xS b p)
  | .out b s => .dma (outS b s) | .w => .dma wS | .credit b => .reg (creditS b) | .bar => .reg barS

def dmaRole (i : ℕ) : Role :=
  if i < 2 then .send (Fin.ofNat 2 i)
  else if i < 6 then .recv (Fin.ofNat 2 ((i - 2) / 2)) (Fin.ofNat 2 (i - 2))
  else if i < 10 then .xs (Fin.ofNat 2 ((i - 6) / 2)) (Fin.ofNat 2 (i - 6))
  else if i < 18 then .out (Fin.ofNat 2 ((i - 10) / 4)) (Fin.ofNat 4 (i - 10))
  else .w
def regRole (i : ℕ) : Role := if i < 2 then .credit (Fin.ofNat 2 i) else .bar

def roleOf : SemLoc sig → Role
  | .dma s => dmaRole s.val | .reg s => regRole s.val

theorem roleOf_semOf (k : Role) : roleOf (semOf k) = k := by
  cases k with
  | send b => revert b; decide
  | recv b p => revert b p; decide
  | xs b p => revert b p; decide
  | out b s => revert b s; decide
  | w => decide
  | credit b => revert b; decide
  | bar => decide

theorem semOf_inj : Function.Injective semOf := fun a b h => by
  have := congrArg roleOf h; rwa [roleOf_semOf, roleOf_semOf] at this

theorem semOf_roleOf (s : SemLoc sig) : semOf (roleOf s) = s := by
  cases s with
  | dma s => have : ∀ s : Fin 19, semOf (roleOf (.dma s)) = .dma s := by decide
             exact this s
  | reg s => have : ∀ s : Fin 3, semOf (roleOf (.reg s)) = .reg s := by decide
             exact this s

/-- Semaphores and roles correspond. -/
def roleEquiv : Role ≃ SemLoc sig := ⟨semOf, roleOf, roleOf_semOf, semOf_roleOf⟩

/-- A device's cell of a role. -/
abbrev cell (k : Role) (c : Dev nD) : GSem nD τ sig := ((c : Thread nD τ), semOf k)

/-! ## Steps, uses and copies -/

/-- The parity of a number, as a slot. -/
abbrev par (g : ℕ) : Fin 2 := Fin.ofNat 2 g

/-- Products done before step `g` starts, and output copies started. -/
def useOf (g : ℕ) : ℕ := min 16 (4 * (g / 6) + 1 + min (g % 6) 3)
def outOf (g : ℕ) : ℕ := 4 * (g / 6) + (g % 6 - 2)

/-- The chunk `q` places against the direction's sense from device `c`. -/
def chunk (b : Fin 2) (c : Dev nD) (q : ℕ) : ℕ := if b = 0 then (c.val + (8 - q % 4)) % 4 else (c.val + q) % 4
theorem chunk_lt (b : Fin 2) (c : Dev nD) (q : ℕ) : chunk b c q < 4 := by
  unfold chunk; split <;> exact Nat.mod_lt _ (by decide)

/-- The row block of use `u`, and of output copy `j`. -/
def useBlk (b : Fin 2) (c : Dev nD) (u : ℕ) : Fin 32 :=
  ⟨16 * b.val + 4 * (u / 4 % 4) + chunk b c (u % 4), by have := b.isLt; have := chunk_lt b c (u % 4); omega⟩
def outBlk (b : Fin 2) (c : Dev nD) (j : ℕ) : Fin 32 :=
  ⟨16 * b.val + 4 * (j / 4 % 4) + chunk b c (j % 4 + 3), by have := b.isLt; have := chunk_lt b c (j % 4 + 3); omega⟩

/-! ## Contents -/

section Contents

variable (X : Dev nD → S8192x2048.Idx → Elt F .f32) (Wt : Dev nD → S2048x4096.Idx → Elt F .bf16)

/-- Row block `i` of device `c`'s `x`. -/
def xBlk (c : Dev nD) (i : Fin 32) : S256x2048.Idx → Elt F .f32 := fun j => X c ((xblkR i).emb j)

/-- The product of a row block with the device's weights. -/
def dotOf (x : S256x2048.Idx → Elt F .f32) (w : S2048x4096.Idx → Elt F .bf16) : S256x4096.Idx → Elt F .f32 :=
  matmul dot_S256x2048_S2048x4096_S256x4096_1_0_0_1_n_n none (truncf .bf16 (x : FVec F S256x2048 .f32) bitsLt_bf16_f32 : FVec F S256x2048 .bf16)
    (w : FVec F S2048x4096 .bf16) (constant S256x4096 .f32 0x00000000#32 : FVec F S256x4096 .f32)

/-- Use `u`'s product. -/
def dotV (c : Dev nD) (b : Fin 2) (u : ℕ) : S256x4096.Idx → Elt F .f32 := dotOf (xBlk X c (useBlk b c u)) (Wt c)

def narrow (v : S256x4096.Idx → Elt F .f32) : S256x4096.Idx → Elt F .bf16 := truncf .bf16 (v : FVec F S256x4096 .f32) bitsLt_bf16_f32
def widen (v : S256x4096.Idx → Elt F .bf16) : S256x4096.Idx → Elt F .f32 := extf .f32 (v : FVec F S256x4096 .bf16) bitsLt_bf16_f32

/-- A received partial sum with the device's own product added. -/
def accum (v : S256x4096.Idx → Elt F .bf16) (p : S256x4096.Idx → Elt F .f32) : S256x4096.Idx → Elt F .f32 :=
  addf (widen v : FVec F S256x4096 .f32) (p : FVec F S256x4096 .f32)

/-- The activation, in the order of operations the kernel applies. -/
def act (y : FVec F S256x4096 .f32) : S256x4096.Idx → Elt F .f32 :=
  mulf (mulf (broadcast S256x4096 (Scalar.ofBits .f32 0x3F000000#32 : F .f32)) y)
    (addf (broadcast S256x4096 (Scalar.ofBits .f32 0x3F800000#32 : F .f32))
      (tanh (mulf (broadcast S256x4096 (Scalar.ofBits .f32 0x3F4C422A#32 : F .f32))
        (addf y (mulf (mulf (mulf (broadcast S256x4096 (Scalar.ofBits .f32 0x3D372713#32 : F .f32)) y) y) y)))))

/-- What the send buffer of direction `b` of device `c` holds when step `g` starts. -/
def sendV (b : Fin 2) : ℕ → Dev nD → S256x4096.Idx → Elt F .bf16
  | 0, c => narrow (dotV X Wt c b 0)
  | g + 1, c =>
    if g % 6 < 2 then narrow (accum (sendV b g (frm b c)) (dotV X Wt c b (useOf (g + 1) - 1)))
    else if g % 6 = 2 then narrow (act (accum (sendV b g (frm b c)) (dotV X Wt c b (useOf (g + 1) - 1))))
    else if g % 6 < 5 then sendV b g (frm b c)
    else narrow (dotV X Wt c b (useOf (g + 1) - 1))

/-- What arrives in step `g`. -/
def recvV (b : Fin 2) (g : ℕ) (c : Dev nD) : S256x4096.Idx → Elt F .bf16 := sendV X Wt b g (frm b c)

/-- The step of output copy `j`, and what it copies. -/
def stepOf (j : ℕ) : ℕ := 6 * (j / 4) + 2 + j % 4
def outV (b : Fin 2) (c : Dev nD) (j : ℕ) : S256x4096.Idx → Elt F .f32 :=
  if j % 4 = 0 then act (accum (recvV X Wt b (stepOf j) c) (dotV X Wt c b (useOf (stepOf j + 1) - 1)))
  else widen (recvV X Wt b (stepOf j) c)

end Contents

end Cert.KernelIdeal.Ring

end
-- ==== Proof.KernelIdeal.Forms.lean ====
/-
  Closed forms of what the printed kernel computes about its addresses: the neighbours it names, the
  conditions of its branches and the offsets of its slices, each as a function of the device and the
  step.
-/
module

public import proofs.«01_k».proof.Proof.KernelIdeal.Cells

@[expose] public section

noncomputable section

namespace Cert.KernelIdeal.Ring

open Cert.KernelIdeal Cert.KernelIdeal.Gen
open Idealize.ShloMosaic Idealize.ShloMosaic.TcCoe

theorem trips_eq : k0_t1_loop.trips = 24 := by decide +kernel

abbrev Trip := Fin k0_t1_loop.trips

/-! ## Neighbours -/

theorem dev1_eq : ∀ d : Dev nD, (⟨k0_dev1 d, k0_dev1_lt d⟩ : Dev nD) = frm 1 d := by decide +kernel
theorem dev2_eq : ∀ d : Dev nD, (⟨k0_dev2 d, k0_dev2_lt d⟩ : Dev nD) = frm 0 d := by decide +kernel
theorem dev3_eq : ∀ d : Dev nD, (⟨k0_dev3 d, k0_dev3_lt d⟩ : Dev nD) = tgt 0 d := by decide +kernel
theorem dev4_eq : ∀ d : Dev nD, (⟨k0_dev4 d, k0_dev4_lt d⟩ : Dev nD) = tgt 1 d := by decide +kernel
theorem dev5_eq : ∀ d : Dev nD, (⟨k0_dev5 d, k0_dev5_lt d⟩ : Dev nD) = frm 0 d := by decide +kernel
theorem dev6_eq : ∀ d : Dev nD, (⟨k0_dev6 d, k0_dev6_lt d⟩ : Dev nD) = frm 1 d := by decide +kernel

/-! ## Branches -/

theorem cond1_iff : ∀ t : Trip, (k0_cond1 t = 1#1) ↔ useOf (t.val + 1) = useOf t.val + 1 := by decide +kernel
theorem cond3_iff : ∀ t : Trip, (k0_cond3 t = 1#1) ↔ useOf (t.val + 1) = useOf t.val + 1 := by decide +kernel
theorem cond2_iff : ∀ t : Trip, (k0_cond1 t = 1#1) → ((k0_cond2 t = 1#1) ↔ useOf t.val + 2 < 16) := by decide +kernel
theorem cond4_iff : ∀ t : Trip, (k0_cond3 t = 1#1) → ((k0_cond4 t = 1#1) ↔ useOf t.val + 2 < 16) := by decide +kernel
theorem cond5_iff : ∀ t : Trip, (k0_cond5 t = 1#1) ↔ t.val % 6 < 2 := by decide +kernel
theorem cond10_iff : ∀ t : Trip, (k0_cond10 t = 1#1) ↔ t.val % 6 < 2 := by decide +kernel
theorem cond6_iff : ∀ t : Trip, (k0_cond6 t = 1#1) ↔ t.val % 6 = 2 := by decide +kernel
theorem cond11_iff : ∀ t : Trip, (k0_cond11 t = 1#1) ↔ t.val % 6 = 2 := by decide +kernel
theorem cond7_iff : ∀ t : Trip, (k0_cond6 t = 1#1) → ((k0_cond7 t = 1#1) ↔ 0 < outOf t.val) := by decide +kernel
theorem cond12_iff : ∀ t : Trip, (k0_cond11 t = 1#1) → ((k0_cond12 t = 1#1) ↔ 0 < outOf t.val) := by decide +kernel
theorem cond8_iff : ∀ t : Trip, (k0_cond8 t = 1#1) ↔ (t.val % 6 = 3 ∨ t.val % 6 = 4) := by decide +kernel
theorem cond13_iff : ∀ t : Trip, (k0_cond13 t = 1#1) ↔ (t.val % 6 = 3 ∨ t.val % 6 = 4) := by decide +kernel
theorem cond9_iff : ∀ t : Trip, (k0_cond9 t = 1#1) ↔ t.val % 6 = 5 := by decide +kernel
theorem cond14_iff : ∀ t : Trip, (k0_cond14 t = 1#1) ↔ t.val % 6 = 5 := by decide +kernel

/-! ## Semaphore offsets -/

theorem off2_eq : ∀ t : Trip, k0_off2 t = ![0, (par t.val).val] := by decide +kernel
theorem off4_eq : ∀ t : Trip, k0_off4 t = ![1, (par t.val).val] := by decide +kernel
theorem off5_eq : ∀ t : Trip, k0_cond1 t = 1#1 → k0_off5 t = ![0, (par (useOf t.val)).val] := by decide +kernel
theorem off12_eq : ∀ t : Trip, k0_cond3 t = 1#1 → k0_off12 t = ![1, (par (useOf t.val)).val] := by decide +kernel
theorem off9_eq : ∀ t : Trip, k0_cond1 t = 1#1 → k0_cond2 t = 1#1 → k0_off9 t = ![0, (par (useOf t.val)).val] := by decide +kernel
theorem off16_eq : ∀ t : Trip, k0_cond3 t = 1#1 → k0_cond4 t = 1#1 → k0_off16 t = ![1, (par (useOf t.val)).val] := by decide +kernel
theorem off23_eq : ∀ t : Trip, k0_cond8 t = 1#1 → k0_off23 t = ![0, (Fin.ofNat 4 (outOf t.val - 1)).val] := by decide +kernel
theorem off34_eq : ∀ t : Trip, k0_cond13 t = 1#1 → k0_off34 t = ![1, (Fin.ofNat 4 (outOf t.val - 1)).val] := by decide +kernel
theorem off26_eq : ∀ t : Trip, k0_cond8 t = 1#1 → k0_off26 t = ![0, (Fin.ofNat 4 (outOf t.val)).val] := by decide +kernel
theorem off37_eq : ∀ t : Trip, k0_cond13 t = 1#1 → k0_off37 t = ![1, (Fin.ofNat 4 (outOf t.val)).val] := by decide +kernel

/-! ## Slots -/

theorem off3_eq : ∀ t : Trip, k0_off3 t = ![(par t.val).val, 0, 0] := by decide +kernel
theorem off19_eq : ∀ t : Trip, k0_off19 t = ![(par t.val).val, 0, 0] := by decide +kernel
theorem off21_eq : ∀ t : Trip, k0_off21 t = ![(par t.val).val, 0, 0] := by decide +kernel
theorem off25_eq : ∀ t : Trip, k0_off25 t = ![(par t.val).val, 0, 0] := by decide +kernel
theorem off29_eq : ∀ t : Trip, k0_off29 t = ![(par t.val).val, 0, 0] := by decide +kernel
theorem off30_eq : ∀ t : Trip, k0_off30 t = ![(par t.val).val, 0, 0] := by decide +kernel
theorem off32_eq : ∀ t : Trip, k0_off32 t = ![(par t.val).val, 0, 0] := by decide +kernel
theorem off36_eq : ∀ t : Trip, k0_off36 t = ![(par t.val).val, 0, 0] := by decide +kernel
theorem off40_eq : ∀ t : Trip, k0_off40 t = ![(par t.val).val, 0, 0] := by decide +kernel
theorem off6_eq : ∀ t : Trip, k0_cond1 t = 1#1 → k0_off6 t = ![(par (useOf t.val)).val, 0, 0] := by decide +kernel
theorem off8_eq : ∀ t : Trip, k0_cond1 t = 1#1 → k0_off8 t = ![(par (useOf t.val)).val, 0, 0] := by decide +kernel
theorem off13_eq : ∀ t : Trip, k0_cond3 t = 1#1 → k0_off13 t = ![(par (useOf t.val)).val, 0, 0] := by decide +kernel
theorem off15_eq : ∀ t : Trip, k0_cond3 t = 1#1 → k0_off15 t = ![(par (useOf t.val)).val, 0, 0] := by decide +kernel
theorem off10_eq : ∀ t : Trip, k0_cond1 t = 1#1 → k0_cond2 t = 1#1 → k0_off10 t = ![(par (useOf t.val)).val, 0, 0] := by decide +kernel
theorem off17_eq : ∀ t : Trip, k0_cond3 t = 1#1 → k0_cond4 t = 1#1 → k0_off17 t = ![(par (useOf t.val)).val, 0, 0] := by decide +kernel

/-! ## Row blocks -/

theorem off1_eq0 : ∀ d : Dev nD, k0_off1 d 0#32 1#1 0#32 4294967295#32 1#1 4#32 = ![256 * (useBlk 0 d 0).val, 0] := by decide +kernel
theorem off1_eq1 : ∀ d : Dev nD, k0_off1 d 0#32 0#1 1#32 0#32 0#1 1#32 = ![256 * (useBlk 0 d 1).val, 0] := by decide +kernel
theorem off1_eq2 : ∀ d : Dev nD, k0_off1 d 0#32 0#1 1#32 0#32 0#1 2#32 = ![256 * (useBlk 0 d 2).val, 0] := by decide +kernel
theorem off1_eq3 : ∀ d : Dev nD, k0_off1 d 4096#32 1#1 0#32 4294967295#32 1#1 4294967292#32 = ![256 * (useBlk 1 d 0).val, 0] := by decide +kernel
theorem off1_eq4 : ∀ d : Dev nD, k0_off1 d 4096#32 0#1 1#32 0#32 0#1 4294967295#32 = ![256 * (useBlk 1 d 1).val, 0] := by decide +kernel
theorem off1_eq5 : ∀ d : Dev nD, k0_off1 d 4096#32 0#1 1#32 0#32 0#1 4294967294#32 = ![256 * (useBlk 1 d 2).val, 0] := by decide +kernel
theorem off7_eq : ∀ (d : Dev nD) (t : Trip), k0_cond1 t = 1#1 → k0_off7 d t = ![256 * (useBlk 0 d (useOf t.val)).val, 0] := by decide +kernel
theorem off14_eq : ∀ (d : Dev nD) (t : Trip), k0_cond3 t = 1#1 → k0_off14 d t = ![256 * (useBlk 1 d (useOf t.val)).val, 0] := by decide +kernel
theorem off11_eq : ∀ (d : Dev nD) (t : Trip), k0_cond1 t = 1#1 → k0_cond2 t = 1#1 → k0_off11 d t = ![256 * (useBlk 0 d (useOf t.val + 2)).val, 0] := by decide +kernel
theorem off18_eq : ∀ (d : Dev nD) (t : Trip), k0_cond3 t = 1#1 → k0_cond4 t = 1#1 → k0_off18 d t = ![256 * (useBlk 1 d (useOf t.val + 2)).val, 0] := by decide +kernel
theorem off20_eq : ∀ (d : Dev nD) (t : Trip), k0_cond6 t = 1#1 → k0_cond7 t = 1#1 → k0_off20 d t = ![256 * (outBlk 0 d (outOf t.val - 1)).val, 0] := by decide +kernel
theorem off31_eq : ∀ (d : Dev nD) (t : Trip), k0_cond11 t = 1#1 → k0_cond12 t = 1#1 → k0_off31 d t = ![256 * (outBlk 1 d (outOf t.val - 1)).val, 0] := by decide +kernel
theorem off22_eq : ∀ (d : Dev nD) (t : Trip), k0_cond6 t = 1#1 → k0_off22 d t = ![256 * (outBlk 0 d (outOf t.val)).val, 0] := by decide +kernel
theorem off33_eq : ∀ (d : Dev nD) (t : Trip), k0_cond11 t = 1#1 → k0_off33 d t = ![256 * (outBlk 1 d (outOf t.val)).val, 0] := by decide +kernel
theorem off24_eq : ∀ (d : Dev nD) (t : Trip), k0_cond8 t = 1#1 → k0_off24 d t = ![256 * (outBlk 0 d (outOf t.val - 1)).val, 0] := by decide +kernel
theorem off35_eq : ∀ (d : Dev nD) (t : Trip), k0_cond13 t = 1#1 → k0_off35 d t = ![256 * (outBlk 1 d (outOf t.val - 1)).val, 0] := by decide +kernel
theorem off27_eq : ∀ (d : Dev nD) (t : Trip), k0_cond8 t = 1#1 → k0_off27 d t = ![256 * (outBlk 0 d (outOf t.val)).val, 0] := by decide +kernel
theorem off38_eq : ∀ (d : Dev nD) (t : Trip), k0_cond13 t = 1#1 → k0_off38 d t = ![256 * (outBlk 1 d (outOf t.val)).val, 0] := by decide +kernel
theorem off28_eq1 : ∀ (d : Dev nD) (t : Trip), k0_cond9 t = 1#1 → k0_off28 d t 1#32 = ![256 * (outBlk 0 d (outOf t.val - 1)).val, 0] := by decide +kernel
theorem off28_eq2 : ∀ (d : Dev nD) (t : Trip), k0_cond9 t = 1#1 → k0_off28 d t 2#32 = ![256 * (outBlk 0 d (outOf t.val)).val, 0] := by decide +kernel
theorem off39_eq1 : ∀ (d : Dev nD) (t : Trip), k0_cond14 t = 1#1 → k0_off39 d t 4294967295#32 = ![256 * (outBlk 1 d (outOf t.val - 1)).val, 0] := by decide +kernel
theorem off39_eq2 : ∀ (d : Dev nD) (t : Trip), k0_cond14 t = 1#1 → k0_off39 d t 4294967294#32 = ![256 * (outBlk 1 d (outOf t.val)).val, 0] := by decide +kernel
theorem off41_eq0 : ∀ d : Dev nD, k0_off41 d 3072#32 2#32 = ![256 * (outBlk 0 d 15).val, 0] := by decide +kernel
theorem off41_eq1 : ∀ d : Dev nD, k0_off41 d 7168#32 4294967294#32 = ![256 * (outBlk 1 d 15).val, 0] := by decide +kernel

/-! ## Semaphores named by slices -/

theorem recv0_sem (p : Fin 2) {off : Fin 2 → ℕ} (h : off = ![0, p.val]) (inb : ∀ a, off a + S1x1.size a ≤ S2x2.size a) :
    ((cc0_scratch12.slice (Rect.unit (s := S2x2) off S1x1.size inb)).squeeze S_ squeezes_S1x1_S_).sem = recvS 0 p := by
  subst h; revert p; decide
theorem recv1_sem (p : Fin 2) {off : Fin 2 → ℕ} (h : off = ![1, p.val]) (inb : ∀ a, off a + S1x1.size a ≤ S2x2.size a) :
    ((cc0_scratch12.slice (Rect.unit (s := S2x2) off S1x1.size inb)).squeeze S_ squeezes_S1x1_S_).sem = recvS 1 p := by
  subst h; revert p; decide
theorem x0_sem (p : Fin 2) {off : Fin 2 → ℕ} (h : off = ![0, p.val]) (inb : ∀ a, off a + S1x1.size a ≤ S2x2.size a) :
    ((cc0_scratch13.slice (Rect.unit (s := S2x2) off S1x1.size inb)).squeeze S_ squeezes_S1x1_S_).sem = xS 0 p := by
  subst h; revert p; decide
theorem x1_sem (p : Fin 2) {off : Fin 2 → ℕ} (h : off = ![1, p.val]) (inb : ∀ a, off a + S1x1.size a ≤ S2x2.size a) :
    ((cc0_scratch13.slice (Rect.unit (s := S2x2) off S1x1.size inb)).squeeze S_ squeezes_S1x1_S_).sem = xS 1 p := by
  subst h; revert p; decide
theorem out0_sem (s : Fin 4) {off : Fin 2 → ℕ} (h : off = ![0, s.val]) (inb : ∀ a, off a + S1x1.size a ≤ S2x4.size a) :
    ((cc0_scratch14.slice (Rect.unit (s := S2x4) off S1x1.size inb)).squeeze S_ squeezes_S1x1_S_).sem = outS 0 s := by
  subst h; revert s; decide
theorem out1_sem (s : Fin 4) {off : Fin 2 → ℕ} (h : off = ![1, s.val]) (inb : ∀ a, off a + S1x1.size a ≤ S2x4.size a) :
    ((cc0_scratch14.slice (Rect.unit (s := S2x4) off S1x1.size inb)).squeeze S_ squeezes_S1x1_S_).sem = outS 1 s := by
  subst h; revert s; decide
theorem send0_sem (inb : ∀ a, (![0] : Fin 1 → ℕ) a + S1.size a ≤ S2.size a) :
    ((cc0_scratch11.slice (Rect.unit (s := S2) ![0] S1.size inb)).squeeze S_ squeezes_S1_S_).sem = sendS 0 := by revert inb; decide
theorem send1_sem (inb : ∀ a, (![1] : Fin 1 → ℕ) a + S1.size a ≤ S2.size a) :
    ((cc0_scratch11.slice (Rect.unit (s := S2) ![1] S1.size inb)).squeeze S_ squeezes_S1_S_).sem = sendS 1 := by revert inb; decide
theorem credit0_sem (inb : ∀ a, (![0] : Fin 1 → ℕ) a + S1.size a ≤ S2.size a) :
    ((cc0_scratch15.slice (Rect.unit (s := S2) ![0] S1.size inb)).squeeze S_ squeezes_S1_S_).sem = creditS 0 := by revert inb; decide
theorem credit1_sem (inb : ∀ a, (![1] : Fin 1 → ℕ) a + S1.size a ≤ S2.size a) :
    ((cc0_scratch15.slice (Rect.unit (s := S2) ![1] S1.size inb)).squeeze S_ squeezes_S1_S_).sem = creditS 1 := by revert inb; decide
theorem w_sem : cc0_scratch16.sem = wS := by decide
theorem bar_sem : (SemArray.scalar (sig.barrier 0 rfl) : Sems sig S_).sem = barS := by decide

/-! ## What a copy credits -/

/-- The credit of a transfer of a row block in the narrow format, of a row block of `x`, of an output
    block and of the weights. -/
def nS : ℕ := (sendM 0).view.dmaCredit
def nX : ℕ := (xslotM 0 0).view.dmaCredit
def nO : ℕ := (oblkM 0).view.dmaCredit
def nW : ℕ := wV.view.dmaCredit

theorem nS_pos : 0 < nS := View.dmaCredit_pos _ (by decide)
theorem nX_pos : 0 < nX := View.dmaCredit_pos _ (by decide)
theorem nO_pos : 0 < nO := View.dmaCredit_pos _ (by decide)
theorem nW_pos : 0 < nW := View.dmaCredit_pos _ (by decide)

theorem send_credit : ∀ b, (sendM b).view.dmaCredit = nS := by intro b; revert b; decide
theorem slot_credit : ∀ b p, (slotM b p).view.dmaCredit = nS := by intro b p; revert b p; decide
theorem xslot_credit : ∀ b p, (xslotM b p).view.dmaCredit = nX := by intro b p; revert b p; decide
theorem oblk_credit (i : Fin 32) : (oblkM i).view.dmaCredit = nO := rfl

end Cert.KernelIdeal.Ring

end
-- ==== Proof.KernelIdeal.Sched.lean ====
/-
  The protocol: what each semaphore's rounds are paid with, what a device owes, and the order in which
  devices may wait.

  A receive semaphore takes one transfer per step of its parity and hands over the received slot; a
  send semaphore hands the send buffer back; the copy semaphores hand over source and destination.
  The credit semaphore has one round: the device's own two units and one unit per step from the
  receiver, each telling how many of the receiver's slots have been given back by then.
-/
module

public import proofs.«01_k».proof.Proof.KernelIdeal.Forms

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A receive slot: the receiving device, the direction, the slot. -/
abbrev Key : Type := Dev nD × Fin 2 × Fin 2

/-- The ghost state: the launch's own, the rounds of the kernel's semaphores, the slots. -/
abbrev UU : Type := UR sig nD τ × (URounds (GSem nD τ sig) ℕ × USlots Key)

local notation "𝕄" => MT nD τ sig ℕ (Elt F) ℕ UU ℕ

abbrev EP : Emb (UR sig nD τ) 𝕄 := embL
def ER : Emb (URounds (GSem nD τ sig) ℕ) 𝕄 :=
  (Emb.inl : Emb (URounds (GSem nD τ sig) ℕ) (URounds (GSem nD τ sig) ℕ × USlots Key)).trans embR
def ES : Emb (USlots Key) 𝕄 :=
  (Emb.inr : Emb (USlots Key) (URounds (GSem nD τ sig) ℕ × USlots Key)).trans embR

instance ER_landsIn : (ER (F := F)).LandsIn (upEmb : UEmb _ 𝕄) := by unfold ER; infer_instance
instance ES_landsIn : (ES (F := F)).LandsIn (upEmb : UEmb _ 𝕄) := by unfold ES; infer_instance

/-! ## Counts -/

/-- How many steps before `g` have the parity of slot `p`. -/
def rc (g : ℕ) (p : Fin 2) : ℕ := (g + 1 - p.val) / 2

theorem rc_mono {g g' : ℕ} (h : g ≤ g') (p : Fin 2) : rc g p ≤ rc g' p := by unfold rc; omega
theorem rc_par (g : ℕ) : rc g (par g) = g / 2 := by
  unfold rc; show (g + 1 - g % 2) / 2 = g / 2; omega
theorem rc_succ_par (g : ℕ) : rc (g + 1) (par g) = g / 2 + 1 := by
  unfold rc; show (g + 1 + 1 - g % 2) / 2 = g / 2 + 1; omega
theorem rc_succ_other (g : ℕ) {p : Fin 2} (h : p ≠ par g) : rc (g + 1) p = rc g p := by
  have hp : p.val ≠ g % 2 := fun e => h (Fin.ext e)
  have := p.isLt
  unfold rc; omega
theorem rc_pred_par (g : ℕ) : rc (g - 1) (par g) = g / 2 := by
  unfold rc; show (g - 1 + 1 - g % 2) / 2 = g / 2; omega

/-- Output copies of site `s` among the first `n`. -/
def oc (n : ℕ) (s : Fin 4) : ℕ := (n + 3 - s.val) / 4
abbrev site (j : ℕ) : Fin 4 := Fin.ofNat 4 j

theorem oc_site (n : ℕ) : oc n (site n) = n / 4 := by
  unfold oc; show (n + 3 - n % 4) / 4 = n / 4; omega
theorem oc_succ_site (n : ℕ) : oc (n + 1) (site n) = n / 4 + 1 := by
  unfold oc; show (n + 1 + 3 - n % 4) / 4 = n / 4 + 1; omega
theorem oc_succ_other (n : ℕ) {s : Fin 4} (h : s ≠ site n) : oc (n + 1) s = oc n s := by
  have hs : s.val ≠ n % 4 := fun e => h (Fin.ext e)
  have := s.isLt
  unfold oc; omega

/-! ## The schedule -/

section Sched

variable (X : Dev nD → S8192x2048.Idx → Elt F .f32) (Wt : Dev nD → S2048x4096.Idx → Elt F .bf16)

/-- What device `e` has given back in direction `b` before step `g`: its slots, and the rounds of its
    receive semaphores that have begun. -/
def heard (b : Fin 2) (e : Dev nD) (g : ℕ) : sProp 𝕄 :=
  iprop((released ES ((e, b, 0) : Key) (rc g 0 + 1) ∗ reached ER (cell (.recv b 0) e) (rc g 0))
    ∗ (released ES ((e, b, 1) : Key) (rc g 1 + 1) ∗ reached ER (cell (.recv b 1) e) (rc g 1)))

instance heard_persistent (b : Fin 2) (e : Dev nD) (g : ℕ) : BI.Persistent (heard (F := F) b e g) := by
  unfold heard; infer_instance
instance heard_storable (b : Fin 2) (e : Dev nD) (g : ℕ) : BI.Storable (upEmb : UEmb _ 𝕄) (heard (F := F) b e g) := by
  unfold heard; infer_instance

/-- The greeting at the barrier from device `e`, which receives direction `b`. -/
def greet (b : Fin 2) (e : Dev nD) : sProp 𝕄 := iprop(heard b e 0 ∗ reached ER (cell (.credit (1 - b)) e) 0)

instance greet_persistent (b : Fin 2) (e : Dev nD) : BI.Persistent (greet (F := F) b e) := by
  unfold greet; infer_instance
instance greet_storable (b : Fin 2) (e : Dev nD) : BI.Storable (upEmb : UEmb _ 𝕄) (greet (F := F) b e) := by
  unfold greet; infer_instance

/-- A credit unit: the device's own, or the receiver's after its step `d`. -/
def credPay (b : Fin 2) (c : Dev nD) (d : ℕ) : sProp 𝕄 := if d = 24 then iprop(emp) else heard b (tgt b c) (d + 1)

instance credPay_persistent (b : Fin 2) (c : Dev nD) (d : ℕ) : BI.Persistent (credPay (F := F) b c d) := by
  unfold credPay; split <;> infer_instance
instance credPay_storable (b : Fin 2) (c : Dev nD) (d : ℕ) : BI.Storable (upEmb : UEmb _ 𝕄) (credPay (F := F) b c d) := by
  unfold credPay; split <;> infer_instance

/-- The two greetings at a device's barrier. -/
def barPay (c : Dev nD) (d : ℕ) : sProp 𝕄 := if d = 0 then greet 0 (tgt 0 c) else greet 1 (tgt 1 c)

instance barPay_storable (c : Dev nD) (d : ℕ) : BI.Storable (upEmb : UEmb _ 𝕄) (barPay (F := F) c d) := by
  unfold barPay; split <;> infer_instance

/-- A piece of a buffer at named contents. -/
abbrev has {sp : Space} {s : Shape} {e : EltTy} (c : Dev nD) (m : Memref sig .tc sp s e) (v : s.Idx → Elt F e) : sProp 𝕄 :=
  owns (c : Thread nD τ) m fullShare v
/-- A piece of a buffer at some contents. -/
abbrev some' {sp : Space} {s : Shape} {e : EltTy} (c : Dev nD) (m : Memref sig .tc sp s e) : sProp 𝕄 :=
  iprop(∃ v : s.Idx → Elt F e, has c m v)

def pay : Role → Dev nD → ℕ → ℕ → sProp 𝕄
  | .send b, c, r, _ => has c (sendM b) (sendV X Wt b r c)
  | .recv b p, c, r, _ => has c (slotM b p) (recvV X Wt b (2 * r + p.val) c)
  | .xs b p, c, r, _ => iprop(has c (xslotM b p) (xBlk X c (useBlk b c (2 * r + p.val)))
      ∗ has c (xblkM (useBlk b c (2 * r + p.val))) (xBlk X c (useBlk b c (2 * r + p.val))))
  | .out b s, c, r, _ => iprop(has c (oblkM (outBlk b c (4 * r + s.val))) (outV X Wt b c (4 * r + s.val))
      ∗ has c (ostM b) (outV X Wt b c (4 * r + s.val)))
  | .w, c, _, _ => iprop(has c wV (Wt c) ∗ has c wA (Wt c))
  | .credit b, c, _, d => credPay b c d
  | .bar, c, _, d => barPay c d

instance pay_storable (k : Role) (c : Dev nD) (r d : ℕ) : BI.Storable (upEmb : UEmb _ 𝕄) (pay X Wt k c r d) := by
  cases k <;> unfold pay <;> infer_instance

def dutiesOf : Role → ℕ → Finset ℕ
  | .send _, r => if r < 24 then {0} else ∅
  | .recv _ _, r => if r < 12 then {0} else ∅
  | .xs _ _, r => if r < 8 then {0} else ∅
  | .out _ _, r => if r < 4 then {0} else ∅
  | .w, r => if r < 1 then {0} else ∅
  | .credit _, r => if r < 1 then Finset.range 25 else ∅
  | .bar, r => if r < 1 then {0, 1} else ∅

def lastOf : Role → ℕ
  | .send _ => 24 | .recv _ _ => 12 | .xs _ _ => 8 | .out _ _ => 4 | .w => 1 | .credit _ => 1 | .bar => 1

theorem dutiesOf_later (k : Role) {r : ℕ} (h : lastOf k ≤ r) : dutiesOf k r = ∅ := by
  cases k <;> exact if_neg (Nat.not_lt.mpr h)

def amountOf : Role → ℕ → ℕ
  | .send _, _ => nS | .recv _ _, _ => nS | .xs _ _, _ => nX | .out _ _, _ => nO | .w, _ => nW
  | .credit _, d => if d = 24 then 2 else 1
  | .bar, _ => 1

theorem amountOf_pos (k : Role) (d : ℕ) : 0 < amountOf k d := by
  cases k with
  | send b => exact nS_pos
  | recv b p => exact nS_pos
  | xs b p => exact nX_pos
  | out b s => exact nO_pos
  | w => exact nW_pos
  | credit b => show 0 < if d = 24 then 2 else 1; split <;> decide
  | bar => exact Nat.one_pos

/-- The schedule of the kernel's semaphores, on the TensorCores. -/
def sched : Schedule (GSem nD τ sig) ℕ 𝕄 where
  duties g r := if g.1.2 = .tc then dutiesOf (roleOf g.2) r else ∅
  unitless _ := False
  amount g _ d := amountOf (roleOf g.2) d
  payload g r d := pay X Wt (roleOf g.2) g.1.1 r d
  amount_pos g _ d _ := amountOf_pos _ d

instance sched_payload_storable (g : GSem nD τ sig) (r d : ℕ) :
    BI.Storable (upEmb : UEmb _ 𝕄) ((sched X Wt).payload g r d) := by
  show BI.Storable upEmb (pay X Wt (roleOf g.2) g.1.1 r d); infer_instance

theorem duties_cell (k : Role) (c : Dev nD) (r : ℕ) : (sched (F := F) X Wt).duties (cell k c) r = dutiesOf k r := by
  show (if (Proc.tc : Proc τ) = .tc then dutiesOf (roleOf (semOf k)) r else ∅) = _
  rw [if_pos rfl, roleOf_semOf]
theorem amount_cell (k : Role) (c : Dev nD) (r d : ℕ) : (sched (F := F) X Wt).amount (cell k c) r d = amountOf k d := by
  show amountOf (roleOf (semOf k)) d = _; rw [roleOf_semOf]
theorem payload_cell (k : Role) (c : Dev nD) (r d : ℕ) : (sched (F := F) X Wt).payload (cell k c) r d = pay X Wt k c r d := by
  show pay X Wt (roleOf (semOf k)) c r d = _; rw [roleOf_semOf]
theorem duties_later (k : Role) (c : Dev nD) {r : ℕ} (h : lastOf k ≤ r) : (sched (F := F) X Wt).duties (cell k c) r = ∅ := by
  rw [duties_cell, dutiesOf_later k h]

/-- A cell with a single duty expects its amount and hands over its payload. -/
theorem expect_one (k : Role) (c : Dev nD) (r : ℕ) (h : dutiesOf k r = {0}) :
    (sched (F := F) X Wt).expect (cell k c) r = amountOf k 0 := by
  unfold Schedule.expect Schedule.amountOf
  rw [duties_cell, h, Finset.sum_singleton, amount_cell]
theorem rest_one (k : Role) (c : Dev nD) (r : ℕ) (h : dutiesOf k r = {0}) :
    bigSep ((sched (F := F) X Wt).duties (cell k c) r \ ∅) (fun d => (sched (F := F) X Wt).payload (cell k c) r d)
      = pay X Wt k c r 0 := by
  rw [Finset.sdiff_empty, duties_cell, h, bigSep_singleton, payload_cell]
theorem mem_one (k : Role) (c : Dev nD) (r : ℕ) (h : dutiesOf k r = {0}) :
    0 ∈ (sched (F := F) X Wt).duties (cell k c) r := by
  rw [duties_cell, h]; exact Finset.mem_singleton_self _

theorem expect_credit (b : Fin 2) (c : Dev nD) : (sched (F := F) X Wt).expect (cell (.credit b) c) 0 = 26 := by
  unfold Schedule.expect Schedule.amountOf
  rw [duties_cell, Finset.sum_congr rfl fun d _ => amount_cell X Wt (.credit b) c 0 d]
  show ∑ d ∈ Finset.range 25, (if d = 24 then 2 else 1) = 26
  decide
theorem expect_bar (c : Dev nD) : (sched (F := F) X Wt).expect (cell .bar c) 0 = 2 := by
  unfold Schedule.expect Schedule.amountOf
  rw [duties_cell, Finset.sum_congr rfl fun d _ => amount_cell X Wt .bar c 0 d]
  rfl
theorem rest_bar (c : Dev nD) :
    bigSep ((sched (F := F) X Wt).duties (cell .bar c) 0 \ ∅) (fun d => (sched (F := F) X Wt).payload (cell .bar c) 0 d)
      = iprop(greet 0 (tgt 0 c) ∗ greet 1 (tgt 1 c)) := by
  rw [Finset.sdiff_empty, duties_cell]
  rw [bigSep_congr (fun d _ => payload_cell X Wt .bar c 0 d)]
  show bigSep ({0, 1} : Finset ℕ) _ = _
  rw [bigSep_insert (by decide), bigSep_singleton]
  rfl

end Sched

/-! ## Levels and debts -/

/-- Which counts a cell's credits are kept under, and the order in which they are waited for. -/
def L (g : GSem nD τ sig) : Finset ℕ := if g.1.2 = .tc then Finset.range 25 else ∅
def levOf : Role → ℕ → ℕ
  | .recv _ _, s => 2 * s + 2
  | .credit _, s => if s = 24 then 0 else 2 * s + 3
  | .bar, _ => 1
  | _, _ => 0
def lv (g : GSem nD τ sig) (s : ℕ) : ℕ := levOf (roleOf g.2) s + 1

theorem L_of_ne (g : GSem nD τ sig) (h : g.1.2 ≠ .tc) : L g = ∅ := if_neg h
theorem L_tc (k : Role) (c : Dev nD) : L (cell k c) = Finset.range 25 := if_pos rfl
theorem lv_cell (k : Role) (c : Dev nD) (s : ℕ) : lv (cell k c) s = levOf k s + 1 := by
  unfold lv; show levOf (roleOf (semOf k)) s + 1 = _; rw [roleOf_semOf]

/-- The transfers of direction `b` device `c` still has to make from step `n` on, and the credit units. -/
def owR (b : Fin 2) (n : ℕ) (c : Dev nD) : CellTallies nD τ sig ℕ :=
  ∑ s ∈ Finset.Ico n 24, tallyAt (cell (.recv b (par s)) (tgt b c)) s nS
def owC (b : Fin 2) (n : ℕ) (c : Dev nD) : CellTallies nD τ sig ℕ :=
  ∑ s ∈ Finset.Ico n 24, tallyAt (cell (.credit b) (frm b c)) s 1
def owed (n₀ n₁ m₀ m₁ : ℕ) (c : Dev nD) : CellTallies nD τ sig ℕ :=
  owR 0 n₀ c + owR 1 n₁ c + owC 0 m₀ c + owC 1 m₁ c

theorem Ico_head {n m : ℕ} (h : n < m) : Finset.Ico n m = insert n (Finset.Ico (n + 1) m) := by
  ext x; simp only [Finset.mem_insert, Finset.mem_Ico]; omega

theorem owR_pop (b : Fin 2) {n : ℕ} (h : n < 24) (c : Dev nD) :
    owR b n c = owR b (n + 1) c + tallyAt (cell (.recv b (par n)) (tgt b c)) n nS := by
  unfold owR; rw [Ico_head h, Finset.sum_insert (by simp), add_comm]
theorem owC_pop (b : Fin 2) {n : ℕ} (h : n < 24) (c : Dev nD) :
    owC b n c = owC b (n + 1) c + tallyAt (cell (.credit b) (frm b c)) n 1 := by
  unfold owC; rw [Ico_head h, Finset.sum_insert (by simp), add_comm]

theorem owed_send0 {n₀ : ℕ} (h : n₀ < 24) (n₁ m₀ m₁ : ℕ) (c : Dev nD) :
    owed n₀ n₁ m₀ m₁ c = owed (n₀ + 1) n₁ m₀ m₁ c + tallyAt (cell (.recv 0 (par n₀)) (tgt 0 c)) n₀ nS := by
  unfold owed; rw [owR_pop 0 h]; ac_rfl
theorem owed_send1 {n₁ : ℕ} (h : n₁ < 24) (n₀ m₀ m₁ : ℕ) (c : Dev nD) :
    owed n₀ n₁ m₀ m₁ c = owed n₀ (n₁ + 1) m₀ m₁ c + tallyAt (cell (.recv 1 (par n₁)) (tgt 1 c)) n₁ nS := by
  unfold owed; rw [owR_pop 1 h]; ac_rfl
theorem owed_credit0 {m₀ : ℕ} (h : m₀ < 24) (n₀ n₁ m₁ : ℕ) (c : Dev nD) :
    owed n₀ n₁ m₀ m₁ c = owed n₀ n₁ (m₀ + 1) m₁ c + tallyAt (cell (.credit 0) (frm 0 c)) m₀ 1 := by
  unfold owed; rw [owC_pop 0 h]; ac_rfl
theorem owed_credit1 {m₁ : ℕ} (h : m₁ < 24) (n₀ n₁ m₀ : ℕ) (c : Dev nD) :
    owed n₀ n₁ m₀ m₁ c = owed n₀ n₁ m₀ (m₁ + 1) c + tallyAt (cell (.credit 1) (frm 1 c)) m₁ 1 := by
  unfold owed; rw [owC_pop 1 h]; ac_rfl
theorem owed_none (c : Dev nD) : owed 24 24 24 24 c = 0 := by
  unfold owed owR owC; simp

/-- Every debt of `O` is under a known count and above level `cut`. -/
def Above (cut : ℕ) (O : CellTallies nD τ sig ℕ) : Prop := ∀ g s, 0 < O g s → s ∈ L g ∧ cut + 1 < lv g s

theorem Above.add {cut : ℕ} {O O' : CellTallies nD τ sig ℕ} (h : Above cut O) (h' : Above cut O') : Above cut (O + O') := by
  intro g s hs
  rw [Pi.add_apply, Finsupp.add_apply] at hs
  rcases Nat.lt_or_ge 0 (O g s) with h0 | h0
  · exact h g s h0
  · exact h' g s (by omega)
theorem Above.zero (cut : ℕ) : Above cut 0 := fun g s h => absurd h (Nat.lt_irrefl 0)
theorem Above.at {cut : ℕ} (k : Role) (c : Dev nD) (s n : ℕ) (hs : s < 25) (h : cut < levOf k s) :
    Above cut (tallyAt (cell k c) s n) := by
  intro g s' hp
  rw [tallyAt_apply] at hp
  by_cases hg : g = cell k c ∧ s' = s
  · rw [hg.1, hg.2]
    exact ⟨by rw [L_tc]; exact Finset.mem_range.mpr hs, by rw [lv_cell]; exact Nat.succ_lt_succ h⟩
  · rw [if_neg hg] at hp; exact absurd hp (Nat.lt_irrefl 0)
theorem Above.sum {cut : ℕ} (S : Finset ℕ) (f : ℕ → CellTallies nD τ sig ℕ) (h : ∀ s ∈ S, Above cut (f s)) :
    Above cut (∑ s ∈ S, f s) := by
  classical
  induction S using Finset.induction_on with
  | empty => rw [Finset.sum_empty]; exact Above.zero _
  | insert a S ha ih =>
    rw [Finset.sum_insert ha]
    exact (h a (Finset.mem_insert_self _ _)).add (ih fun s hs => h s (Finset.mem_insert_of_mem hs))

theorem Above.owR {cut : ℕ} (b : Fin 2) (n : ℕ) (c : Dev nD) (h : cut < 2 * n + 2 ∨ 24 ≤ n) : Above cut (owR b n c) :=
  Above.sum _ _ fun s hs => by
    have := Finset.mem_Ico.mp hs
    exact Above.at _ _ _ _ (by omega) (show cut < 2 * s + 2 by omega)
theorem Above.owC {cut : ℕ} (b : Fin 2) (n : ℕ) (c : Dev nD) (h : cut < 2 * n + 3 ∨ 24 ≤ n) : Above cut (owC b n c) :=
  Above.sum _ _ fun s hs => by
    have := Finset.mem_Ico.mp hs
    exact Above.at _ _ _ _ (by omega) (show cut < if s = 24 then 0 else 2 * s + 3 by rw [if_neg (by omega)]; omega)
theorem Above.owed {cut n₀ n₁ m₀ m₁ : ℕ} (c : Dev nD) (h₀ : cut < 2 * n₀ + 2 ∨ 24 ≤ n₀) (h₁ : cut < 2 * n₁ + 2 ∨ 24 ≤ n₁)
    (h₂ : cut < 2 * m₀ + 3 ∨ 24 ≤ m₀) (h₃ : cut < 2 * m₁ + 3 ∨ 24 ≤ m₁) : Above cut (owed n₀ n₁ m₀ m₁ c) :=
  (((Above.owR 0 n₀ c h₀).add (Above.owR 1 n₁ c h₁)).add (Above.owC 0 m₀ c h₂)).add (Above.owC 1 m₁ c h₃)

/-- A wait at a level below every debt is in order. -/
theorem mayWait {cut : ℕ} {O : CellTallies nD τ sig ℕ} (k : Role) (c : Dev nD) (s : ℕ) (hs : s < 25) (hk : levOf k s ≤ cut)
    (h : Above cut O) : (levAts L lv : sProp 𝕄) ⊢ MayWait (c : Thread nD τ) (semOf k) s O :=
  MayOwe.of_cut (L := L) (lev := lv) (cut + 1)
    (fun p hp => by
      rw [Finset.mem_singleton.mp hp]
      show s ∈ L (cell k c)
      rw [L_tc]; exact Finset.mem_range.mpr hs)
    (fun g u hg => (h g u hg).1)
    (fun p hp => by
      rw [Finset.mem_singleton.mp hp]
      show lv (cell k c) s ≤ cut + 1
      rw [lv_cell]; exact Nat.succ_le_succ hk)
    (fun g u hg => (h g u hg).2)

/-! ## What every device may use -/

/-- The receive slot of a key, at some contents. -/
def slotOf (k : Key) : sProp 𝕄 := some' (F := F) k.1 (slotM k.2.1 k.2.2)

instance slotOf_storable (k : Key) : BI.Storable (upEmb : UEmb _ 𝕄) (slotOf (F := F) k) := by
  unfold slotOf; infer_instance

/-- The invariants of all cells and all slots, and the levels. -/
def Ctx (X : Dev nD → S8192x2048.Idx → Elt F .f32) (Wt : Dev nD → S2048x4096.Idx → Elt F .bf16)
    (κ : GSem nD τ sig → ℕ) (ι : Key → ℕ) : sProp 𝕄 :=
  iprop(bigSep Finset.univ (fun x : Dev nD × SemLoc sig => cellInv ER (sched X Wt) (κ ((x.1 : Thread nD τ), x.2)) ((x.1 : Thread nD τ), x.2))
    ∗ bigSep Finset.univ (fun k : Key => slotInv ES (ι k) k (slotOf (F := F) k))
    ∗ levAts L lv)

section Ctx

variable {X : Dev nD → S8192x2048.Idx → Elt F .f32} {Wt : Dev nD → S2048x4096.Idx → Elt F .bf16}
variable {κ : GSem nD τ sig → ℕ} {ι : Key → ℕ}

instance Ctx_persistent : BI.Persistent (Ctx X Wt κ ι) := by unfold Ctx; infer_instance

theorem Ctx_cell (k : Role) (c : Dev nD) : Ctx X Wt κ ι ⊢ cellInv ER (sched X Wt) (κ (cell k c)) (cell k c) := by
  have h : bigSep Finset.univ (fun x : Dev nD × SemLoc sig => cellInv ER (sched X Wt) (κ ((x.1 : Thread nD τ), x.2)) ((x.1 : Thread nD τ), x.2))
      ⊢ cellInv ER (sched X Wt) (κ (cell k c)) (cell k c) :=
    bigSep_elim (Φ := fun x : Dev nD × SemLoc sig => cellInv ER (sched X Wt) (κ ((x.1 : Thread nD τ), x.2)) ((x.1 : Thread nD τ), x.2))
      (Finset.mem_univ ((c, semOf k) : Dev nD × SemLoc sig))
  unfold Ctx
  iintro ⟨H, -, -⟩
  iapply h
  iexact H
theorem Ctx_slot (k : Key) : Ctx X Wt κ ι ⊢ slotInv ES (ι k) k (slotOf (F := F) k) := by
  have h : bigSep Finset.univ (fun k : Key => slotInv ES (ι k) k (slotOf (F := F) k)) ⊢ slotInv ES (ι k) k (slotOf (F := F) k) :=
    bigSep_elim (Φ := fun k : Key => slotInv ES (ι k) k (slotOf (F := F) k)) (Finset.mem_univ k)
  unfold Ctx
  iintro ⟨-, H, -⟩
  iapply h
  iexact H
theorem Ctx_lev : Ctx X Wt κ ι ⊢ levAts L lv := by
  unfold Ctx
  iintro ⟨-, -, H⟩
  iexact H

theorem Ctx_mayWait {cut : ℕ} {O : CellTallies nD τ sig ℕ} (k : Role) (c : Dev nD) (s : ℕ) (hs : s < 25) (hk : levOf k s ≤ cut)
    (h : Above cut O) : Ctx X Wt κ ι ⊢ MayWait (c : Thread nD τ) (semOf k) s O :=
  Ctx_lev.trans (mayWait k c s hs hk h)

end Ctx

/-! ## Facts about given-back slots -/

theorem heard_mono (b : Fin 2) (e : Dev nD) {g g' : ℕ} (h : g ≤ g') : heard (F := F) b e g' ⊢ heard b e g := by
  unfold heard
  iintro ⟨⟨#H1, #H2⟩, ⟨#H3, #H4⟩⟩
  isplitr
  · isplitr
    · iapply (released_mono ES (Nat.succ_le_succ (rc_mono h 0))); iexact H1
    · iapply (reached_mono ER (rc_mono h 0)); iexact H2
  · isplitr
    · iapply (released_mono ES (Nat.succ_le_succ (rc_mono h 1))); iexact H3
    · iapply (reached_mono ER (rc_mono h 1)); iexact H4

/-- What one slot's sender needs before step `g`. -/
theorem heard_at (b : Fin 2) (e : Dev nD) (g : ℕ) (p : Fin 2) :
    heard (F := F) b e g ⊢ iprop(released ES ((e, b, p) : Key) (rc g p + 1) ∗ reached ER (cell (.recv b p) e) (rc g p)) := by
  unfold heard
  match p with
  | 0 => iintro ⟨H, -⟩; iexact H
  | 1 => iintro ⟨-, H⟩; iexact H

theorem heard_send (b : Fin 2) (e : Dev nD) (g : ℕ) :
    heard (F := F) b e (g - 1) ⊢ iprop(released ES ((e, b, par g) : Key) (g / 2 + 1) ∗ reached ER (cell (.recv b (par g)) e) (g / 2)) := by
  have h := heard_at (F := F) b e (g - 1) (par g)
  rwa [rc_pred_par] at h

/-- A set of paid credit units large enough contains one of a late step. -/
theorem late_unit {S : Finset ℕ} {g : ℕ} (hS : S ⊆ Finset.range 25) (hc : g ≤ S.card) (hg : 2 ≤ g) :
    ∃ s ∈ S, s ≠ 24 ∧ g ≤ s + 2 := by
  by_contra hn
  have hsub : S ⊆ insert 24 (Finset.range (g - 2)) := by
    intro s hs
    by_cases h : s = 24
    · exact h ▸ Finset.mem_insert_self _ _
    · refine Finset.mem_insert_of_mem (Finset.mem_range.mpr ?_)
      by_contra hlt
      exact hn ⟨s, hs, h, by omega⟩
  have h1 := Finset.card_le_card hsub
  have h2 := Finset.card_insert_le 24 (Finset.range (g - 2))
  rw [Finset.card_range] at h2
  omega

theorem credits_heard (b : Fin 2) (c : Dev nD) {S : Finset ℕ} {g : ℕ} (hS : S ⊆ Finset.range 25) (hc : g ≤ S.card) :
    iprop(heard b (tgt b c) 0 ∗ bigSep S (fun d => credPay (F := F) b c d)) ⊢ heard b (tgt b c) (g - 1) := by
  by_cases hg : 2 ≤ g
  · obtain ⟨s, hs, h24, hle⟩ := late_unit hS hc hg
    have h1 : bigSep S (fun d => credPay (F := F) b c d) ⊢ heard b (tgt b c) (s + 1) := by
      refine (bigSep_elim hs).trans ?_
      unfold credPay; rw [if_neg h24]; exact BI.Entails.refl _
    iintro ⟨-, H⟩
    iapply (heard_mono b (tgt b c) (show g - 1 ≤ s + 1 by omega))
    iapply h1
    iexact H
  · rw [show g - 1 = 0 by omega]
    iintro ⟨H, -⟩
    iexact H

end Cert.KernelIdeal.Ring

end
-- ==== Proof.KernelIdeal.Mem.lean ====
/-
  Loads, stores and stored values: what a load through a piece of a buffer reads, what a store leaves,
  and the arithmetic of each store as a function of what was read.
-/
module

public import proofs.«01_k».proof.Proof.KernelIdeal.Sched
public import Idealize.ShloMosaic.Lib.VecWindow

@[expose] public section

noncomputable section

namespace Cert.KernelIdeal.Ring

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ
local notation "𝕋" => TpuEff nD τ sig (Elt F) Λ₀ Proc.tc

abbrev 𝒱₀ : Variants := Variants.none

/-- A program of device `c`'s TensorCore ends in `Q`. -/
abbrev WP (c : Dev nD) {α : Type} (p : Prog 𝕋 α) (Q : α → sProp 𝕄) : sProp 𝕄 :=
  wp frame (wpE (defs₀) 𝒱₀ (c : Thread nD τ) none) Set.univ p Q

variable {α : Type} {Q : α → sProp (MT nD τ sig ℕ (Elt F) ℕ UU ℕ)}

/-! ## Loads -/

/-- A load of all of a buffer reads its contents. -/
theorem load_all (c : Dev nD) {cs : CoreSpace} {s : Shape} {e : EltTy} (m : Memref sig .tc cs s e)
    {off : Fin s.rank → ℕ} {inb : ∀ a, off a + s.size a ≤ s.size a} {hl : m.view.LoadsAt (Rect.unit off s.size inb).toLoadRect}
    {k : (s.Idx → Elt F e) → Prog 𝕋 α} (v : s.Idx → Elt F e) :
    has c m v ⊢ iprop((has c m v -∗ WP c (k v) Q) -∗ WP c (.op (.load m (Rect.unit off s.size inb).toLoadRect hl) k) Q) := by
  iintro H K
  unfold has owns
  icases H with ⟨%f, %hf, H⟩
  iapply (wp_load (defs := defs₀) 𝒱₀ (c : Thread nD τ) none Set.univ (m := m) (S := m.view.set) (q := fullShare) (f := f)
    (m.view.setOn_subset_set _)) $$ [H]
  · iexact H
  iintro H
  rw [View.readAt_full, hf]
  iapply K
  iexists f
  isplitr
  · ipureintro; exact hf
  · iexact H

/-- Contents of a squeezed slice, under the slice's own shape. -/
def unsq {s s' : Shape} {β : Type} (h : s.numel = s'.numel) (v : s'.Idx → β) : s.Idx → β :=
  fun i => v (Shape.reshapeEquiv h i)

/-- A load of a squeezed slice's rectangle reads its contents under the slice's shape. -/
theorem load_slice (c : Dev nD) {cs : CoreSpace} {s : Shape} {e : EltTy} (m : Memref sig .tc cs s e) (r : Rect s)
    (hr : ∀ a, r.stride a = 1) (s' : Shape) (hsq : r.shape.Squeezes s') {hl : m.view.LoadsAt r.toLoadRect}
    {k : (r.shape.Idx → Elt F e) → Prog 𝕋 α} (v : s'.Idx → Elt F e) :
    has c ((m.slice r hr).squeeze s' hsq) v
      ⊢ iprop((has c ((m.slice r hr).squeeze s' hsq) v -∗ WP c (k (unsq hsq.numel_eq.symm v)) Q)
          -∗ WP c (.op (.load m r.toLoadRect hl) k) Q) := by
  iintro H K
  unfold has owns
  icases H with ⟨%f, %hf, H⟩
  have hset : ((m.slice r hr).squeeze s' hsq).view.set = (m.view.slice r).set := View.set_reshape _ _
  have hval : m.view.readAt (Elt F) r.toLoadRect f = unsq hsq.numel_eq.symm v := by
    rw [← hf, View.readAt_rect]
    funext i
    show _ = (m.view.slice r).read (Elt F) f (Shape.reshapeEquiv _ (Shape.reshapeEquiv _ i))
    rw [Shape.reshapeEquiv_reshapeEquiv, Shape.reshapeEquiv_self]
  rw [hset]
  iapply (wp_load (defs := defs₀) 𝒱₀ (c : Thread nD τ) none Set.univ (m := m) (S := (m.view.slice r).set) (q := fullShare) (f := f)
    (by rw [View.set_slice]; exact le_of_eq rfl)) $$ [H]
  · iexact H
  iintro H
  rw [hval]
  iapply K
  iexists f
  isplitr
  · ipureintro; exact hf
  · iexact H

theorem load_slot (c : Dev nD) (b p : Fin 2) (m : Memref sig .tc .vmem S2x256x4096 .bf16) (hm : m = recvM b) {off : Fin 3 → ℕ}
    (h : off = ![p.val, 0, 0])
    {inb : ∀ a, off a + S1x256x4096.size a ≤ S2x256x4096.size a}
    {hl : m.view.LoadsAt (Rect.unit (s := S2x256x4096) off S1x256x4096.size inb).toLoadRect}
    {k : (S1x256x4096.Idx → Elt F .bf16) → Prog 𝕋 α} (v : S256x4096.Idx → Elt F .bf16) :
    has c (slotM b p) v
      ⊢ iprop((has c (slotM b p) v -∗ WP c (k (unsq (by decide) v)) Q)
          -∗ WP c (.op (.load (cs := .vmem) m (Rect.unit (s := S2x256x4096) off S1x256x4096.size inb).toLoadRect hl) k) Q) := by
  subst h; subst hm
  exact load_slice c (cs := .vmem) (recvM b) (slotR p) (fun _ => rfl) S256x4096 squeezes_S1x256x4096_S256x4096 v

theorem load_xslot (c : Dev nD) (b p : Fin 2) (m : Memref sig .tc .vmem S2x256x2048 .f32) (hm : m = xsM b) {off : Fin 3 → ℕ}
    (h : off = ![p.val, 0, 0])
    {inb : ∀ a, off a + S1x256x2048.size a ≤ S2x256x2048.size a}
    {hl : m.view.LoadsAt (Rect.unit (s := S2x256x2048) off S1x256x2048.size inb).toLoadRect}
    {k : (S1x256x2048.Idx → Elt F .f32) → Prog 𝕋 α} (v : S256x2048.Idx → Elt F .f32) :
    has c (xslotM b p) v
      ⊢ iprop((has c (xslotM b p) v -∗ WP c (k (unsq (by decide) v)) Q)
          -∗ WP c (.op (.load (cs := .vmem) m (Rect.unit (s := S2x256x2048) off S1x256x2048.size inb).toLoadRect hl) k) Q) := by
  subst h; subst hm
  exact load_slice c (cs := .vmem) (xsM b) (xslotR p) (fun _ => rfl) S256x2048 squeezes_S1x256x2048_S256x2048 v

/-! ## Stores -/

/-- A store over all of a buffer leaves the value stored. -/
theorem store_all (c : Dev nD) {cs : CoreSpace} {s : Shape} {e : EltTy} (m : Memref sig .tc cs s e)
    {off : Fin s.rank → ℕ} {inb : ∀ a, off a + s.size a ≤ s.size a} (w : s.Idx → Elt F e)
    {hx : (m.access (Rect.unit off s.size inb)).Stores Finset.univ} {hm}
    {k : PUnit → Prog 𝕋 α} (v : s.Idx → Elt F e) :
    has c m v ⊢ iprop((has c m w -∗ WP c (k ⟨⟩) Q) -∗ WP c (.op (.store m (Rect.unit off s.size inb) w Finset.univ hx hm) k) Q) := by
  iintro H K
  unfold has owns
  icases H with ⟨%f, %hf, H⟩
  have hval (g : m.view.ty.Contents (Elt F)) : (m.access (Rect.unit off s.size inb)).read (Elt F) g = m.view.read (Elt F) g :=
    View.readAt_full m.view g inb
  iapply (wp_store (defs := defs₀) 𝒱₀ (c : Thread nD τ) none Set.univ (m := m) (r := Rect.unit off s.size inb) (w := w) (Mk := Finset.univ) (hx := hx) (hm := hm)
    (S := m.view.set) (f := f) (((m.access (Rect.unit off s.size inb)).setOn_subset_set _).trans (View.set_slice_subset _ _))) $$ [H]
  · iexact H
  iintro H
  iapply K
  iexists (m.access (Rect.unit off s.size inb)).write (Elt F) f w Finset.univ
  isplitr
  · ipureintro
    rw [← hval, View.read_write_univ]
  · iexact H

/-! ## What is stored -/

theorem cast_unsq {s s' : Shape} {β : Type} (h : s.numel = s'.numel) (hc : s.ShapeCasts s') (v : s'.Idx → β) :
    (shapeCast s' (unsq h v) hc : s'.Idx → β) = v := by
  funext j
  show v (Shape.reshapeEquiv _ (Shape.reshapeEquiv _ j)) = v j
  rw [Shape.reshapeEquiv_reshapeEquiv, Shape.reshapeEquiv_self]

theorem cast_same {s : Shape} {β : Type} (hc : s.ShapeCasts s) (v : s.Idx → β) : (shapeCast s v hc : s.Idx → β) = v := by
  funext j
  show v (Shape.reshapeEquiv _ j) = v j
  rw [Shape.reshapeEquiv_self]

section Pays

variable (x : S256x2048.Idx → Elt F .f32) (w : S2048x4096.Idx → Elt F .bf16) (r : S256x4096.Idx → Elt F .bf16)
  (p : S256x4096.Idx → Elt F .f32)

theorem pay1_eq (h) : k0_pay1 (unsq h r) p = act (accum r p) := by
  unfold k0_pay1; simp only [cast_unsq]; rfl
theorem pay7_eq (h) : k0_pay7 (unsq h r) p = act (accum r p) := by
  unfold k0_pay7; simp only [cast_unsq]; rfl
theorem pay2_eq (h) : k0_pay2 (unsq h r) p = narrow (act (accum r p)) := by
  unfold k0_pay2; rw [pay1_eq]; exact cast_same _ _
theorem pay8_eq (h) : k0_pay8 (unsq h r) p = narrow (act (accum r p)) := by
  unfold k0_pay8; rw [pay7_eq]; exact cast_same _ _
theorem pay3_eq (h) : k0_pay3 (unsq h r) p = act (accum r p) := by
  unfold k0_pay3; rw [pay1_eq]; exact cast_same _ _
theorem pay9_eq (h) : k0_pay9 (unsq h r) p = act (accum r p) := by
  unfold k0_pay9; rw [pay7_eq]; exact cast_same _ _
theorem pay4_eq (h) : k0_pay4 (unsq h r) = r := by
  unfold k0_pay4; simp only [cast_unsq]; exact cast_same _ _
theorem pay10_eq (h) : k0_pay10 (unsq h r) = r := by
  unfold k0_pay10; simp only [cast_unsq]; exact cast_same _ _
theorem pay5_eq (h) : k0_pay5 (unsq h r) = widen r := by
  unfold k0_pay5; simp only [cast_unsq]; exact cast_same _ _
theorem pay11_eq (h) : k0_pay11 (unsq h r) = widen r := by
  unfold k0_pay11; simp only [cast_unsq]; exact cast_same _ _
theorem pay6_eq (h) : k0_pay6 (unsq h r) = widen r := by
  unfold k0_pay6; simp only [cast_unsq]; exact cast_same _ _
theorem pay12_eq (h) : k0_pay12 (unsq h r) = widen r := by
  unfold k0_pay12; simp only [cast_unsq]; exact cast_same _ _
theorem pay13_eq (h) : k0_pay13 (unsq h x) w = dotOf x w := by
  unfold k0_pay13; simp only [cast_unsq]; exact cast_same _ _
theorem pay14_eq (h) : k0_pay14 (unsq h x) w = dotOf x w := by
  unfold k0_pay14; simp only [cast_unsq]; exact cast_same _ _
theorem pay15_eq (h) : k0_pay15 (unsq h r) p = narrow (accum r p) := by
  unfold k0_pay15; simp only [cast_unsq]; exact cast_same _ _
theorem pay17_eq (h) : k0_pay17 (unsq h r) p = narrow (accum r p) := by
  unfold k0_pay17; simp only [cast_unsq]; exact cast_same _ _
theorem pay16_eq : k0_pay16 p = narrow p := by
  unfold k0_pay16; exact cast_same _ _
theorem pay20_eq : k0_pay20 p = narrow p := by
  unfold k0_pay20; exact cast_same _ _
theorem pay18_eq (h) : k0_pay18 (unsq h x) w = narrow (dotOf x w) := by
  unfold k0_pay18; simp only [cast_unsq]; exact cast_same _ _
theorem pay19_eq (h) : k0_pay19 (unsq h x) w = narrow (dotOf x w) := by
  unfold k0_pay19; simp only [cast_unsq]; exact cast_same _ _

end Pays

end Cert.KernelIdeal.Ring

end
-- ==== Proof.KernelIdeal.Ops.lean ====
/-
  One rule per operation of the kernel: a copy, a transfer to the neighbour, a wait, a signal, each as
  a step from what the device holds to what it holds afterwards.
-/
module

public import proofs.«01_k».proof.Proof.KernelIdeal.Mem

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ
local notation "𝕋" => TpuEff nD τ sig (Elt F) Λ₀ Proc.tc

variable {X : Dev nD → S8192x2048.Idx → Elt F .f32} {Wt : Dev nD → S2048x4096.Idx → Elt F .bf16}
variable {κ : GSem nD τ sig → ℕ} {ι : Key → ℕ}
variable {α : Type} {Q : α → sProp (MT nD τ sig ℕ (Elt F) ℕ UU ℕ)}

/-- What the device still owes. -/
def Ow (O : CellTallies nD τ sig ℕ) (c : Dev nD) : sProp 𝕄 := iprop(∃ W, owes (c : Thread nD τ) O W)

/-! ## Waits -/

/-- A wait for all of a round with a single duty. -/
theorem op_wait (k : Role) (c : Dev nD) (r s N : ℕ) (h1 : dutiesOf k r = {0}) (hN : amountOf k 0 = N) (hs : s < 25)
    {O : CellTallies nD τ sig ℕ} (hO : Above (levOf k s) O) {w : 𝕋 PUnit}
    (hw : ∀ K : PUnit → sProp 𝕄, wpE' (defs₀ (F := F)) 𝒱₀ (c : Thread nD τ) none .empty Set.univ w K
      = waitSpec (c : Thread nD τ) Set.univ (semOf k) N K) {kk : PUnit → Prog 𝕋 α} :
    iprop(Ctx X Wt κ ι ∗ cred (tallyAt (cell k c) s N) ∗ Ow O c ∗ atPos ER (cell k c) r ∅ 0)
      ⊢ iprop(((Ow O c ∗ atPos ER (cell k c) (r + 1) ∅ 0 ∗ reached ER (cell k c) (r + 1) ∗ pay X Wt k c r 0) -∗ WP c (kk ⟨⟩) Q)
          -∗ WP c (.op w kk) Q) := by
  unfold Ow
  iintro ⟨#HC, Hc, ⟨%W, HO⟩, Ha⟩ K
  iapply (Rounds.wp_wait_rest_token 𝒱₀ ER (sched X Wt) (c : Thread nD τ) none (κ := κ (cell k c)) (sm := semOf k) (k' := N)
    hw (Set.mem_univ _) s (O := O) (W := W) (R := r) (m := 0) (T := ∅) (by rw [expect_one X Wt k c r h1, hN, Nat.zero_add])) $$ [Hc HO Ha]
  · isplitr; · iapply (Ctx_cell k c); iexact HC
    iframe Hc HO
    isplitr; · iapply (Ctx_mayWait k c s hs (le_refl _) hO); iexact HC
    iexact Ha
  iintro ⟨HO, Ha, Hr, Hp⟩
  iapply K
  isplitl [HO]; · iexists _; iexact HO
  iframe Ha Hr
  iapply (Entails.of_eq (rest_one X Wt k c r h1))
  iexact Hp

/-- The same for a wait on a copy. -/
theorem op_waitDma (k : Role) (c : Dev nD) (r s N : ℕ) (h1 : dutiesOf k r = {0}) (hN : amountOf k 0 = N) (hs : s < 25)
    {O : CellTallies nD τ sig ℕ} (hO : Above (levOf k s) O) {sm : DmaSem sig} (hsm : SemLoc.dma sm = semOf k)
    {sp sp' : Space} {s₀ s' : Shape} {e e' : EltTy} {src : Memref sig .tc sp' s' e'} {dst : Memref sig .tc sp s₀ e}
    {hsrc : src.view.WordExact} {hdst : dst.view.WordExact} (hd : dst.view.dmaCredit = N) {kk : PUnit → Prog 𝕋 α} :
    iprop(Ctx X Wt κ ι ∗ cred (tallyAt (cell k c) s N) ∗ Ow O c ∗ atPos ER (cell k c) r ∅ 0)
      ⊢ iprop(((Ow O c ∗ atPos ER (cell k c) (r + 1) ∅ 0 ∗ reached ER (cell k c) (r + 1) ∗ pay X Wt k c r 0) -∗ WP c (kk ⟨⟩) Q)
          -∗ WP c (.op (.waitDma2 sm src dst hsrc hdst) kk) Q) :=
  op_wait k c r s N h1 hN hs hO (w := .waitDma2 sm src dst hsrc hdst) (fun K => by
    rw [← hsm, ← hd]
    exact wpE_waitDma2_eq (src := src) (dst := dst) 𝒱₀ (c : Thread nD τ) none Set.univ K)

/-! ## Copies on the device -/

/-- A copy on the device, paying a single duty. -/
theorem op_copy (k : Role) (c : Dev nD) (r N : ℕ) (h1 : dutiesOf k r = {0}) (hN : amountOf k 0 = N)
    {sp sp' : Space} {s : Shape} {e : EltTy} {src : Memref sig .tc sp s e} {dst : Memref sig .tc sp' s e} {sm : SemLoc sig}
    (hsm : sm = semOf k) {hsrc : src.view.WordExact} {hdst : dst.view.WordExact}
    {hsem : DmaTarget.Typed (nD := nD) (τ := τ) (p := Proc.tc) sp sm (.here dst)} (hd : dst.view.amount sm = N)
    (v : s.Idx → Elt F e) (hpay : iprop(has c dst v ∗ has c src v) ⊢ pay X Wt k c r 0) {kk : PUnit → Prog 𝕋 α} :
    iprop(Ctx X Wt κ ι ∗ has c src v ∗ some' c dst ∗ dutyTok ER (cell k c) r 0 ∗ reached ER (cell k c) r)
      ⊢ iprop((cred (tallyAt (cell k c) 0 N) -∗ WP c (kk ⟨⟩) Q)
          -∗ WP c (.op (.enqueueDma src (.here dst) sm hsrc hdst hsem) kk) Q) := by
  subst hsm
  unfold some' has owns
  iintro ⟨#HC, ⟨%fs, %hfs, Hs⟩, ⟨%d, %fd, -, Hd⟩, Ht, Hr⟩ K
  have hpay' : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ (sched X Wt).payload (cell k c) r 0 := by
    rw [payload_cell]
    refine BIBase.Entails.trans ?_ hpay
    unfold has owns
    iintro ⟨H1, H2⟩
    isplitl [H1]
    · iexists dst.view.write (Elt F) fd (src.view.read (Elt F) fs) Finset.univ
      isplitr; · ipureintro; rw [View.read_write_univ]; exact hfs
      iexact H1
    · iexists fs
      isplitr; · ipureintro; exact hfs
      iexact H2
  iapply (Rounds.wp_copy_pointsTo (defs := defs₀ (F := F)) (Q := Q) (k := kk) (hsrc := hsrc) (hdst := hdst) (hsem := hsem) 𝒱₀ ER (sched X Wt)
    (c : Thread nD τ) none (src := src) (dst := dst) (sem := semOf k)
    (q := fullShare) (fs := fs) (fd := fd) (r := r) (d := 0) (κ := κ (cell k c)) (Γ := .empty) (Es := Set.univ)
    (mem_one X Wt k c r h1) 0 N hd ((amount_cell X Wt k c r 0).trans hN) hpay') $$ [Hs Hd Ht Hr]
  · isplitr; · iapply (Ctx_cell k c); iexact HC
    iframe Hs Hd Ht Hr
  iintro Hc
  iapply K
  iexact Hc

/-! ## Signals -/

/-- A signal paying a duty of a regular cell. -/
theorem op_signal (k : Role) (c e : Dev nD) (r d s n : ℕ) (hd : d ∈ dutiesOf k r) (hn : amountOf k d = n)
    {O₀ : CellTallies nD τ sig ℕ} (O : CellTallies nD τ sig ℕ) (hO : O₀ = O + tallyAt (cell k e) s n)
    {sm : Sem sig} (hsm : SemLoc.reg sm = semOf k) {t : Thread nD τ} (ht : t = (e : Thread nD τ)) {z : ℤ} (hz : z = (n : ℤ)) {kk : PUnit → Prog 𝕋 α} :
    iprop(Ctx X Wt κ ι ∗ Ow O₀ c ∗ dutyTok ER (cell k e) r d ∗ pay X Wt k e r d ∗ reached ER (cell k e) r)
      ⊢ iprop((Ow O c -∗ WP c (kk ⟨⟩) Q) -∗ WP c (.op (.semSignal t sm z) kk) Q) := by
  subst ht; subst hz
  have hc : cell k e = ((e : Thread nD τ), SemLoc.reg sm) := by rw [hsm]
  unfold Ow
  iintro ⟨#HC, ⟨%W, HO⟩, Ht, Hp, Hr⟩ K
  ihave HI := (Ctx_cell k e) $$ HC
  ihave Hp := (Entails.of_eq (payload_cell X Wt k e r d).symm) $$ Hp
  have hm : d ∈ (sched (F := F) X Wt).duties (cell k e) r := by rw [duties_cell]; exact hd
  have ha : (sched (F := F) X Wt).amount (cell k e) r d = n := (amount_cell X Wt k e r d).trans hn
  rw [hc] at hm ha hO
  rw [hc]
  iapply (Rounds.wp_signal (defs := defs₀ (F := F)) 𝒱₀ ER (sched X Wt) (c : Thread nD τ) none (dst := (e : Thread nD τ)) (sem := sm) (r := r) (d := d)
      (κ := κ ((e : Thread nD τ), SemLoc.reg sm)) hm ha s O hO) $$ [HI HO Ht Hp Hr]
  · iframe HI HO Ht Hp Hr
  iintro HO
  iapply K
  iexists W
  iexact HO

end Cert.KernelIdeal.Ring

end
-- ==== Proof.KernelIdeal.Dir.lean ====
/-
  The state of a direction of the ring, in pieces, and how each operation of a step changes it.
-/
module

public import proofs.«01_k».proof.Proof.KernelIdeal.Ops
public import Idealize.SL.BI.BigOpNat

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ
local notation "𝕋" => TpuEff nD τ sig (Elt F) Λ₀ Proc.tc

variable {X : Dev nD → S8192x2048.Idx → Elt F .f32} {Wt : Dev nD → S2048x4096.Idx → Elt F .bf16}
variable {κ : GSem nD τ sig → ℕ} {ι : Key → ℕ}
variable {α : Type} {Q : α → sProp (MT nD τ sig ℕ (Elt F) ℕ UU ℕ)}

/-! ## Runs and families of cells -/

omit [FloatOps F] in
/-- One member of a family is changed, the others stay. -/
theorem step_at {A : Type} [Fintype A] [DecidableEq A] (p : A) (f f' : A → sProp 𝕄) (h : ∀ q, q ≠ p → f q = f' q) :
    bigSep Finset.univ f ⊢ iprop(f p ∗ (f' p -∗ bigSep Finset.univ f')) := by
  rw [bigSep_univ_split p (Φ := f), bigSep_univ_split p (Φ := f'),
    bigSep_congr (s := Finset.univ.erase p) (Φ := f) (Ψ := f') (fun q hq => h q (Finset.ne_of_mem_erase hq))]
  show iprop(f p ∗ bigSep (Finset.univ.erase p) f') ⊢ iprop(f p ∗ (f' p -∗ (f' p ∗ bigSep (Finset.univ.erase p) f')))
  iintro ⟨H, K⟩
  iframe H
  iintro H
  iframe H K

omit [FloatOps F] in
theorem ico_pop {n m : ℕ} (h : n < m) (f : ℕ → sProp 𝕄) :
    bigSep (Finset.Ico n m) f ⊢ iprop(f n ∗ bigSep (Finset.Ico (n + 1) m) f) := Entails.of_eq (bigSep_Ico_succ_bot h f)
omit [FloatOps F] in
theorem ico_push {n m : ℕ} (h : n ≤ m) (f : ℕ → sProp 𝕄) :
    iprop(f m ∗ bigSep (Finset.Ico n m) f) ⊢ bigSep (Finset.Ico n (m + 1)) f := Entails.of_eq (bigSep_Ico_succ_top h f).symm

/-- A cell's place: its round, begun. -/
def place (k : Role) (c : Dev nD) (r : ℕ) : sProp 𝕄 := iprop(atPos ER (cell k c) r ∅ 0 ∗ reached ER (cell k c) r)

/-! ## Sending -/

/-- The send semaphore before step `g`'s transfer, and while it is under way. -/
def SendIdle (b : Fin 2) (g : ℕ) (c : Dev nD) : sProp 𝕄 :=
  iprop(place (.send b) c g ∗ bigSep (Finset.Ico g 24) (fun r => dutyTok ER (cell (.send b) c) r 0))
def SendBusy (b : Fin 2) (g : ℕ) (c : Dev nD) : sProp 𝕄 :=
  iprop(atPos ER (cell (.send b) c) g ∅ 0 ∗ bigSep (Finset.Ico (g + 1) 24) (fun r => dutyTok ER (cell (.send b) c) r 0)
    ∗ cred (tallyAt (cell (.send b) c) 0 nS))

/-- The rights to the transfers from step `g` on: to pay the receiver's semaphore and to write the slot. -/
def OutToks (b : Fin 2) (g : ℕ) (c : Dev nD) : sProp 𝕄 :=
  bigSep (Finset.Ico g 24) (fun s => iprop(dutyTok ER (cell (.recv b (par s)) (tgt b c)) (s / 2) 0
    ∗ writeTok ES ((tgt b c, b, par s) : Key) (s / 2 + 1)))

theorem duties_send {b : Fin 2} {r : ℕ} (h : r < 24) : dutiesOf (.send b) r = {0} := if_pos h
theorem duties_recv {b p : Fin 2} {r : ℕ} (h : r < 12) : dutiesOf (.recv b p) r = {0} := if_pos h
theorem duties_xs {b p : Fin 2} {r : ℕ} (h : r < 8) : dutiesOf (.xs b p) r = {0} := if_pos h
theorem duties_out {b : Fin 2} {s : Fin 4} {r : ℕ} (h : r < 4) : dutiesOf (.out b s) r = {0} := if_pos h

theorem two_div_add_mod (g : ℕ) : 2 * (g / 2) + (par g).val = g := by show 2 * (g / 2) + g % 2 = g; omega
theorem four_div_add_mod (j : ℕ) : 4 * (j / 4) + (site j).val = j := by show 4 * (j / 4) + j % 4 = j; omega

/-- What a receive semaphore hands over for step `g`. -/
theorem pay_recv (b : Fin 2) (e : Dev nD) (g : ℕ) :
    pay X Wt (.recv b (par g)) e (g / 2) 0 = has e (slotM b (par g)) (recvV X Wt b g e) := by
  show has e (slotM b (par g)) (recvV X Wt b (2 * (g / 2) + (par g).val) e) = _
  rw [two_div_add_mod]

theorem pay_send (b : Fin 2) (c : Dev nD) (g : ℕ) : pay X Wt (.send b) c g 0 = has c (sendM b) (sendV X Wt b g c) := rfl

/-- The transfer of step `g`. -/
theorem op_send (b : Fin 2) (g : ℕ) (c n : Dev nD) (hn : n = tgt b c) (hg : g < 24)
    {src : Memref sig .tc .vmem S256x4096 .bf16} (hsrcM : src = sendM b)
    {dst : Memref sig (Dev.tc n : Thread nD τ).2.kind .vmem S256x4096 .bf16} (hdstM : dst = slotM b (par g))
    {sS sm : SemLoc sig} (hsS : sS = semOf (.send b)) (hsm : sm = semOf (.recv b (par g)))
    {hsc : dst.view.ref.isScScratch = false} {hsrc : src.view.WordExact} {hdst : dst.view.WordExact}
    {hsem : DmaTarget.Typed .vmem sm (.remote (Dev.tc n : Thread nD τ) dst sS hsc)}
    {O₀ : CellTallies nD τ sig ℕ} (O : CellTallies nD τ sig ℕ) (hO : O₀ = O + tallyAt (cell (.recv b (par g)) (tgt b c)) g nS)
    {kk : PUnit → Prog 𝕋 α} :
    iprop(Ctx X Wt κ ι ∗ SendIdle b g c ∗ OutToks b g c ∗ heard b (tgt b c) (g - 1) ∗ has c (sendM b) (sendV X Wt b g c) ∗ Ow O₀ c)
      ⊢ iprop(((SendBusy b g c ∗ OutToks b (g + 1) c ∗ Ow O c) -∗ WP c (kk ⟨⟩) Q)
          -∗ WP c (.op (.enqueueDma src (.remote (Dev.tc n : Thread nD τ) dst sS hsc) sm hsrc hdst hsem) kk) Q) := by
  subst hn hsrcM hdstM hsS hsm
  unfold SendIdle SendBusy OutToks place Ow
  iintro ⟨#HC, ⟨⟨Ha, #Hr⟩, Hts⟩, Hot, Hh, Hs, ⟨%W, HO⟩⟩ K
  ihave Hts := (ico_pop hg _) $$ Hts
  icases Hts with ⟨Ht, Hts⟩
  ihave Hot := (ico_pop hg _) $$ Hot
  icases Hot with ⟨⟨Hd, Hw⟩, Hot⟩
  ihave Hh := (heard_send b (tgt b c) g) $$ Hh
  icases Hh with ⟨Hrel, Hrr⟩
  imod (slot_take ES (S := slotOf ((tgt b c, b, par g) : Key)) (Set.mem_univ (ι (tgt b c, b, par g))) (g / 2 + 1)) $$ [Hrel Hw] with Hslot
  · isplitr; · iapply (Ctx_slot ((tgt b c, b, par g) : Key)); iexact HC
    iframe Hrel Hw
  unfold slotOf some' has owns
  icases Hslot with ⟨%v, %fd, -, Hslot⟩
  icases Hs with ⟨%fs, %hfs, Hs⟩
  have hpay₁ : ((sendM b).view.loc (c : Thread nD τ) ↦[(sendM b).view.set]{fullShare} fs)
      ⊢ (sched X Wt).payload (cell (.send b) c) g 0 := by
    rw [payload_cell]
    show _ ⊢ has c (sendM b) (sendV X Wt b g c)
    unfold has owns
    iintro H
    iexists fs
    isplitr; · ipureintro; exact hfs
    iexact H
  have hpay₂ : ((slotM b (par g)).view.loc (tgt b c : Thread nD τ) ↦[(slotM b (par g)).view.set]{fullShare}
        ((slotM b (par g)).view.write (Elt F) fd ((sendM b).view.read (Elt F) fs) Finset.univ))
      ⊢ (sched X Wt).payload (cell (.recv b (par g)) (tgt b c)) (g / 2) 0 := by
    rw [payload_cell, pay_recv]
    unfold has owns
    iintro H
    iexists (slotM b (par g)).view.write (Elt F) fd ((sendM b).view.read (Elt F) fs) Finset.univ
    isplitr
    · ipureintro
      rw [View.read_write_univ, hfs]; unfold recvV; rw [frm_tgt]
    iexact H
  iapply (Rounds.wp_send_pointsTo (defs := defs₀) (Q := Q) (k := kk) (hsrc := hsrc) (hdst := hdst) (hsem := hsem) 𝒱₀ ER (sched X Wt)
    (c : Thread nD τ) none (c' := (tgt b c : Thread nD τ)) (src := sendM b) (dst := slotM b (par g)) (sS := semOf (.send b)) (sem := semOf (.recv b (par g)))
    (q := fullShare) (fs := fs) (fd := fd) (r₁ := g) (r₂ := g / 2) (d₁ := 0) (d₂ := 0)
    (κ₁ := κ (cell (.send b) c)) (κ₂ := κ (cell (.recv b (par g)) (tgt b c))) (Γ := .empty) (Es := Set.univ)
    (mem_one X Wt (.send b) c g (duties_send hg)) (mem_one X Wt (.recv b (par g)) (tgt b c) (g / 2) (duties_recv (by omega)))
    g 0 nS (slot_credit b (par g)) (amount_cell X Wt (.send b) c g 0) (amount_cell X Wt (.recv b (par g)) (tgt b c) (g / 2) 0) O hO hpay₁ hpay₂)
    $$ [Hs Hslot HO Ht Hd Hrr]
  · isplitr; · iapply (Ctx_cell (.send b) c); iexact HC
    isplitr; · iapply (Ctx_cell (.recv b (par g)) (tgt b c)); iexact HC
    iframe Hs Hslot HO Ht Hr
    iframe Hd Hrr
  iintro ⟨Hc, HO⟩
  iapply K
  isplitl [Ha Hts Hc]
  · iframe Ha Hts Hc
  iframe Hot
  iexists W
  iexact HO

/-- The send buffer comes back. -/
theorem op_sendwait (b : Fin 2) (g : ℕ) (c : Dev nD) (hg : g < 24) {O : CellTallies nD τ sig ℕ} (hO : Above 0 O)
    {sm : DmaSem sig} (hsm : SemLoc.dma sm = semOf (.send b))
    {sp sp' : Space} {s₀ s' : Shape} {e e' : EltTy} {src : Memref sig .tc sp' s' e'} {dst : Memref sig .tc sp s₀ e}
    {hsrc : src.view.WordExact} {hdst : dst.view.WordExact} (hd : dst.view.dmaCredit = nS) {kk : PUnit → Prog 𝕋 α} :
    iprop(Ctx X Wt κ ι ∗ SendBusy b g c ∗ Ow O c)
      ⊢ iprop(((SendIdle b (g + 1) c ∗ has c (sendM b) (sendV X Wt b g c) ∗ Ow O c) -∗ WP c (kk ⟨⟩) Q)
          -∗ WP c (.op (.waitDma2 sm src dst hsrc hdst) kk) Q) := by
  unfold SendIdle SendBusy place
  iintro ⟨#HC, ⟨Ha, Hts, Hc⟩, HO⟩ K
  iapply (op_waitDma (.send b) c g 0 nS (duties_send hg) rfl (by decide) hO hsm hd) $$ [Ha Hc HO]
  · iframe HC Hc HO Ha
  iintro ⟨HO, Ha, Hr, Hp⟩
  iapply K
  isplitl [Ha Hr Hts]
  · isplitl [Ha Hr]
    · iframe Ha Hr
    iexact Hts
  isplitl [Hp]; · iapply (Entails.of_eq (pay_send b c g)); iexact Hp
  iexact HO

/-! ## Receiving -/

/-- The receive semaphores of a direction before step `n`'s arrival is waited for. -/
def RCells (b : Fin 2) (n : ℕ) (c : Dev nD) : sProp 𝕄 :=
  iprop(bigSep Finset.univ (fun p : Fin 2 => place (.recv b p) c (rc n p))
    ∗ bigSep (Finset.Ico n 24) (fun s => cred (tallyAt (cell (.recv b (par s)) c) s nS)))
/-- How often each slot has been given back before step `n`. -/
def Readers (b : Fin 2) (n : ℕ) (c : Dev nD) : sProp 𝕄 :=
  bigSep Finset.univ (fun p : Fin 2 => iprop(readerAt ES ((c, b, p) : Key) (rc n p + 1) ∗ released ES ((c, b, p) : Key) (rc n p + 1)))

theorem op_recvwait (b : Fin 2) (g : ℕ) (c : Dev nD) (hg : g < 24) {O : CellTallies nD τ sig ℕ} (hO : Above (2 * g + 2) O)
    {sm : DmaSem sig} (hsm : SemLoc.dma sm = semOf (.recv b (par g)))
    {sp sp' : Space} {s₀ s' : Shape} {e e' : EltTy} {src : Memref sig .tc sp' s' e'} {dst : Memref sig .tc sp s₀ e}
    {hsrc : src.view.WordExact} {hdst : dst.view.WordExact} (hd : dst.view.dmaCredit = nS) {kk : PUnit → Prog 𝕋 α} :
    iprop(Ctx X Wt κ ι ∗ RCells b g c ∗ Ow O c)
      ⊢ iprop(((RCells b (g + 1) c ∗ has c (slotM b (par g)) (recvV X Wt b g c) ∗ Ow O c) -∗ WP c (kk ⟨⟩) Q)
          -∗ WP c (.op (.waitDma2 sm src dst hsrc hdst) kk) Q) := by
  have hstep := step_at (par g) (fun p : Fin 2 => place (.recv b p) c (rc g p)) (fun p : Fin 2 => place (F := F) (.recv b p) c (rc (g + 1) p))
    (fun q hq => by rw [rc_succ_other g hq])
  rw [rc_succ_par, rc_par] at hstep
  unfold RCells
  iintro ⟨#HC, ⟨Hpl, Hcs⟩, HO⟩ K
  ihave Hpl := hstep $$ Hpl
  icases Hpl with ⟨Hp, Hback⟩
  ihave Hcs := (ico_pop hg _) $$ Hcs
  icases Hcs with ⟨Hc, Hcs⟩
  unfold place
  icases Hp with ⟨Ha, -⟩
  iapply (op_waitDma (.recv b (par g)) c (g / 2) g nS (duties_recv (by omega)) rfl (by omega) hO hsm hd) $$ [Ha Hc HO]
  · iframe HC Hc HO Ha
  iintro ⟨HO, Ha, Hr, Hp⟩
  iapply K
  isplitl [Ha Hr Hback Hcs]
  · isplitl [Ha Hr Hback]
    · iapply Hback
      iframe Ha Hr
    iexact Hcs
  isplitl [Hp]
  · iapply (Entails.of_eq (pay_recv b c g)); iexact Hp
  iexact HO

/-- What the receiver can tell its sender. -/
theorem tell (b : Fin 2) (g : ℕ) (c : Dev nD) :
    iprop(RCells b g c ∗ Readers b g c) ⊢ iprop(RCells (F := F) b g c ∗ Readers b g c ∗ heard b c g) := by
  have e : bigSep Finset.univ (fun p : Fin 2 => place (F := F) (.recv b p) c (rc g p)) = iprop(place (.recv b 0) c (rc g 0) ∗ place (.recv b 1) c (rc g 1)) :=
    bigSep_fin_two _
  have e' : bigSep Finset.univ (fun p : Fin 2 => iprop(readerAt ES ((c, b, p) : Key) (rc g p + 1) ∗ (released ES ((c, b, p) : Key) (rc g p + 1) : sProp 𝕄)))
      = iprop((readerAt ES ((c, b, 0) : Key) (rc g 0 + 1) ∗ released ES ((c, b, 0) : Key) (rc g 0 + 1))
        ∗ (readerAt ES ((c, b, 1) : Key) (rc g 1 + 1) ∗ released ES ((c, b, 1) : Key) (rc g 1 + 1))) :=
    bigSep_fin_two _
  unfold RCells Readers heard
  rw [e, e']
  unfold place
  iintro ⟨⟨⟨⟨Ha, #H0⟩, ⟨Hb, #H1⟩⟩, Hc⟩, ⟨⟨Hd, #H2⟩, ⟨He, #H3⟩⟩⟩
  isplitl [Ha Hb Hc]
  · isplitl [Ha Hb]
    · isplitl [Ha]
      · iframe Ha H0
      iframe Hb H1
    iexact Hc
  isplitl [Hd He]
  · isplitl [Hd]
    · iframe Hd H2
    iframe He H3
  isplitr
  · iframe H2 H0
  iframe H3 H1

theorem slot_twice (k : Key) : iprop(slotOf k ∗ slotOf k) ⊢ (False : sProp 𝕄) := by
  have hne : (slotM k.2.1 k.2.2).view.set.Nonempty := View.set_nonempty (by decide)
  obtain ⟨i, hi⟩ := hne
  unfold slotOf some' has owns
  iintro ⟨⟨%v, %f, -, Hf⟩, ⟨%w, %g, -, Hg⟩⟩
  iapply (pointsTo_overlap_false (ℓ := (slotM k.2.1 k.2.2).view.loc (k.1 : Thread nD τ)) (q := fullShare) (I := (slotM k.2.1 k.2.2).view.set)
    (J := (slotM k.2.1 k.2.2).view.set) (f := f) (g := g) hi hi)
  isplitl [Hf] <;> iassumption

/-- Giving a slot back after step `g`. -/
theorem release (b : Fin 2) (g : ℕ) (c : Dev nD) :
    iprop(Ctx X Wt κ ι ∗ Readers b g c ∗ some' c (slotM b (par g))) ⊢ (|={Set.univ}=> Readers b (g + 1) c : sProp 𝕄) := by
  have hstep := step_at (par g)
    (fun p : Fin 2 => iprop(readerAt ES ((c, b, p) : Key) (rc g p + 1) ∗ (released ES ((c, b, p) : Key) (rc g p + 1) : sProp 𝕄)))
    (fun p : Fin 2 => iprop(readerAt ES ((c, b, p) : Key) (rc (g + 1) p + 1) ∗ (released ES ((c, b, p) : Key) (rc (g + 1) p + 1) : sProp 𝕄)))
    (fun q hq => by rw [rc_succ_other g hq])
  rw [rc_succ_par, rc_par] at hstep
  unfold Readers
  iintro ⟨#HC, HR, HS⟩
  ihave HR := hstep $$ HR
  icases HR with ⟨⟨HR, -⟩, Hback⟩
  imod (slot_release ES (S := slotOf ((c, b, par g) : Key)) (Set.mem_univ (ι (c, b, par g))) (slot_twice _) (g / 2 + 1)) $$ [HR HS] with ⟨HR, Hn⟩
  · isplitr; · iapply (Ctx_slot ((c, b, par g) : Key)); iexact HC
    iframe HR
    iapply (Entails.of_eq (show some' c (slotM b (par g)) = slotOf ((c, b, par g) : Key) from rfl)); iexact HS
  imodintro
  iapply Hback
  iframe HR Hn

end Cert.KernelIdeal.Ring

end
-- ==== Proof.KernelIdeal.Dir2.lean ====
/-
  The credits, the row blocks of `x` and the output copies of a direction, and how the operations of a
  step change them.
-/
module

public import proofs.«01_k».proof.Proof.KernelIdeal.Dir

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ
local notation "𝕋" => TpuEff nD τ sig (Elt F) Λ₀ Proc.tc

variable {X : Dev nD → S8192x2048.Idx → Elt F .f32} {Wt : Dev nD → S2048x4096.Idx → Elt F .bf16}
variable {κ : GSem nD τ sig → ℕ} {ι : Key → ℕ}
variable {α : Type} {Q : α → sProp (MT nD τ sig ℕ (Elt F) ℕ UU ℕ)}

/-! ## Credits -/

/-- Under which count the unit of wait `s` is kept: the device's own two first. -/
def wIdx (s : ℕ) : ℕ := if s < 2 then 24 else s - 2

/-- The credit semaphore after `g` waits. -/
def Cred (b : Fin 2) (g : ℕ) (c : Dev nD) : sProp 𝕄 :=
  iprop(heard b (tgt b c) 0 ∗ bigSep (Finset.Ico g 26) (fun s => cred (tallyAt (cell (.credit b) c) (wIdx s) 1))
    ∗ ∃ T : Finset ℕ, ⌜T ⊆ Finset.range 25 ∧ g ≤ T.card + 1⌝ ∗ atPos ER (cell (.credit b) c) 0 T g
      ∗ bigSep T (fun d => credPay b c d))

theorem op_credit_wait (b : Fin 2) (g : ℕ) (c : Dev nD) (hg : g < 24) {O : CellTallies nD τ sig ℕ}
    (hO : Above (levOf (.credit b) (wIdx g)) O)
    {sm : Sem sig} (hsm : SemLoc.reg sm = semOf (.credit b)) {z : ℤ} (hz : z = ((1 : ℕ) : ℤ)) {kk : PUnit → Prog 𝕋 α} :
    iprop(Ctx X Wt κ ι ∗ Cred b g c ∗ Ow O c)
      ⊢ iprop(((Cred b (g + 1) c ∗ heard b (tgt b c) (g - 1) ∗ Ow O c) -∗ WP c (kk ⟨⟩) Q)
          -∗ WP c (.op (.semWait sm z) kk) Q) := by
  subst hz
  have hidx : wIdx g < 25 := by unfold wIdx; split <;> omega
  have hw : ∀ K : PUnit → sProp 𝕄, wpE' (defs₀) 𝒱₀ (c : Thread nD τ) none .empty Set.univ (.semWait sm ((1 : ℕ) : ℤ)) K
      = waitSpec (c : Thread nD τ) Set.univ (semOf (.credit b)) 1 K := fun K => by
    rw [← hsm]; exact wpE_semWait_eq 𝒱₀ (c : Thread nD τ) none Set.univ K
  unfold Cred Ow
  iintro ⟨#HC, ⟨#Hh, Hcs, ⟨%T, %hT, Ha, Hps⟩⟩, ⟨%W, HO⟩⟩ K
  ihave Hcs := (ico_pop (show g < 26 by omega) _) $$ Hcs
  icases Hcs with ⟨Hc, Hcs⟩
  iapply (Rounds.wp_wait (Q := Q) (k := kk) 𝒱₀ ER (sched X Wt) (c : Thread nD τ) none (κ := κ (cell (.credit b) c)) (sm := semOf (.credit b)) (k' := 1)
    hw (Set.mem_univ _) (cr := Finsupp.single (wIdx g) 1) (O := O) (W := W) {(semOf (.credit b), wIdx g)} (R := 0) (m := g) (T := T)
    (Util.total_single _ _) (image_single_subset _ _ _)) $$ [Hc HO Ha]
  · isplitr; · iapply (Ctx_cell (.credit b) c); iexact HC
    iframe Hc HO
    isplitr; · iapply (Ctx_mayWait (.credit b) c (wIdx g) hidx (le_refl _) hO); iexact HC
    iexact Ha
  iintro %S ⟨%hS, HO, Ha, Hn⟩
  have hS' : S ⊆ Finset.range 25 := by
    have := hS.2.1; rw [duties_cell] at this; exact this
  have hcard : g ≤ S.card := by
    have h := hS.2.2
    rw [duties_cell, expect_credit] at h
    have h2 : (Finset.range 25 \ S).card = 25 - S.card := by
      rw [Finset.card_sdiff_of_subset hS', Finset.card_range]
    have h3 : (dutiesOf (.credit b) 0 \ S).card = (Finset.range 25 \ S).card := rfl
    omega
  have hjoin : iprop(bigSep T (fun d => credPay b c d) ∗ bigSep (S \ T) (fun d => (sched X Wt).payload (cell (.credit b) c) 0 d))
      ⊢ bigSep S (fun d => credPay b c d) := by
    rw [bigSep_congr (s := S \ T) (fun d _ => payload_cell X Wt (.credit b) c 0 d)]
    rw [bigSep_sdiff_split hS.1 (Φ := fun d => credPay b c d)]
    exact BI.Entails.refl _
  ihave Hall := hjoin $$ [Hps Hn]
  · iframe Hps Hn
  icases Hall with #Hall
  iapply K
  isplitl [Hcs Ha]
  · iframe Hh Hcs
    iexists S
    isplitr; · ipureintro; exact ⟨hS', by omega⟩
    iframe Ha Hall
  isplitr
  · iapply (credits_heard b c hS' hcard)
    iframe Hh Hall
  iexists _
  iexact HO

/-- The rights to the credit units of the steps from `g` on. -/
def CreditToks (b : Fin 2) (g : ℕ) (c : Dev nD) : sProp 𝕄 :=
  iprop(reached ER (cell (.credit b) (frm b c)) 0 ∗ bigSep (Finset.Ico g 24) (fun s => dutyTok ER (cell (.credit b) (frm b c)) 0 s))

/-- The slot of step `g` is given back and the sender told. -/
theorem op_credit_signal (b : Fin 2) (g : ℕ) (c n : Dev nD) (hn : n = frm b c) (hg : g < 24)
    {O₀ : CellTallies nD τ sig ℕ} (O : CellTallies nD τ sig ℕ) (hO : O₀ = O + tallyAt (cell (.credit b) (frm b c)) g 1)
    {sm : Sem sig} (hsm : SemLoc.reg sm = semOf (.credit b)) {z : ℤ} (hz : z = ((1 : ℕ) : ℤ)) {kk : PUnit → Prog 𝕋 α} :
    iprop(Ctx X Wt κ ι ∗ CreditToks b g c ∗ RCells b (g + 1) c ∗ Readers b g c ∗ some' c (slotM b (par g)) ∗ Ow O₀ c)
      ⊢ iprop(((CreditToks b (g + 1) c ∗ RCells b (g + 1) c ∗ Readers b (g + 1) c ∗ Ow O c) -∗ WP c (kk ⟨⟩) Q)
          -∗ WP c (.op (.semSignal (Dev.tc n : Thread nD τ) sm z) kk) Q) := by
  subst hn
  iintro ⟨#HC, Hct, HR, Hrd, Hs, HO⟩ K
  imod (release b g c) $$ [Hrd Hs] with Hrd
  · iframe HC Hrd Hs
  ihave Hall := (tell b (g + 1) c) $$ [HR Hrd]
  · iframe HR Hrd
  icases Hall with ⟨HR, Hrd, Hh⟩
  unfold CreditToks
  icases Hct with ⟨#Hr, Hts⟩
  ihave Hts := (ico_pop hg _) $$ Hts
  icases Hts with ⟨Ht, Hts⟩
  have hp : heard b c (g + 1) ⊢ pay X Wt (.credit b) (frm b c) 0 g := by
    show _ ⊢ credPay b (frm b c) g
    unfold credPay
    rw [if_neg (show g ≠ 24 by omega), tgt_frm]
  iapply (op_signal (.credit b) c (frm b c) 0 g g 1
    (show g ∈ Finset.range 25 from Finset.mem_range.mpr (by omega)) (show (if g = 24 then 2 else 1) = 1 from if_neg (by omega)) O hO hsm rfl hz)
    $$ [HO Ht Hh]
  · iframe HC HO Ht
    isplitl [Hh]; · iapply hp; iexact Hh
    iexact Hr
  iintro HO
  iapply K
  isplitl [Hts]
  · iframe Hr Hts
  iframe HR Hrd HO

/-! ## Row blocks of `x` -/

/-- The row blocks of a direction: `n` waited for, `k` started. -/
def XS (X : Dev nD → S8192x2048.Idx → Elt F .f32) (b : Fin 2) (n k : ℕ) (c : Dev nD) : sProp 𝕄 :=
  iprop(bigSep Finset.univ (fun p : Fin 2 => place (.xs b p) c (rc n p))
    ∗ bigSep (Finset.Ico n k) (fun u => cred (tallyAt (cell (.xs b (par u)) c) 0 nX))
    ∗ bigSep (Finset.Ico k 16) (fun u => dutyTok ER (cell (.xs b (par u)) c) (u / 2) 0)
    ∗ bigSep (Finset.range 16 \ Finset.Ico n k) (fun u => has c (xblkM (useBlk b c u)) (xBlk X c (useBlk b c u))))

theorem pay_xs (b : Fin 2) (c : Dev nD) (u : ℕ) :
    pay X Wt (.xs b (par u)) c (u / 2) 0
      = iprop(has c (xslotM b (par u)) (xBlk X c (useBlk b c u)) ∗ has c (xblkM (useBlk b c u)) (xBlk X c (useBlk b c u))) := by
  show iprop(has c (xslotM b (par u)) (xBlk X c (useBlk b c (2 * (u / 2) + (par u).val)))
      ∗ has c (xblkM (useBlk b c (2 * (u / 2) + (par u).val))) (xBlk X c (useBlk b c (2 * (u / 2) + (par u).val)))) = _
  rw [two_div_add_mod]

theorem rc_next (n k : ℕ) (h : k = n ∨ k = n + 1) : rc n (par k) = k / 2 := by
  rcases h with rfl | rfl
  · exact rc_par _
  · unfold rc; show (n + 1 - (n + 1) % 2) / 2 = (n + 1) / 2; omega

/-- The copy of row block `k` into its slot. -/
theorem op_xstart (b : Fin 2) (n k : ℕ) (c : Dev nD) (hk : k < 16) (hnk : k = n ∨ k = n + 1)
    {src : Memref sig .tc .hbm S256x2048 .f32} (hsrcM : src = xblkM (useBlk b c k))
    {dst : Memref sig .tc .vmem S256x2048 .f32} (hdstM : dst = xslotM b (par k))
    {sm : SemLoc sig} (hsm : sm = semOf (.xs b (par k)))
    {hsrc : src.view.WordExact} {hdst : dst.view.WordExact}
    {hsem : DmaTarget.Typed (nD := nD) (τ := τ) (p := Proc.tc) .hbm sm (.here dst)} {kk : PUnit → Prog 𝕋 α} :
    iprop(Ctx X Wt κ ι ∗ XS X b n k c ∗ some' c (xslotM b (par k)))
      ⊢ iprop((XS X b n (k + 1) c -∗ WP c (kk ⟨⟩) Q)
          -∗ WP c (.op (.enqueueDma src (.here dst) sm hsrc hdst hsem) kk) Q) := by
  subst hsrcM hdstM hsm
  have hst : Finset.range 16 \ Finset.Ico n k = insert k (Finset.range 16 \ Finset.Ico n (k + 1)) := by
    ext u; simp only [Finset.mem_sdiff, Finset.mem_range, Finset.mem_Ico, Finset.mem_insert]; omega
  have hni : k ∉ Finset.range 16 \ Finset.Ico n (k + 1) := by
    simp only [Finset.mem_sdiff, Finset.mem_range, Finset.mem_Ico]; omega
  have hblk : bigSep (Finset.range 16 \ Finset.Ico n k) (fun u => has c (xblkM (useBlk b c u)) (xBlk X c (useBlk b c u)))
      ⊢ iprop(has c (xblkM (useBlk b c k)) (xBlk X c (useBlk b c k))
        ∗ bigSep (Finset.range 16 \ Finset.Ico n (k + 1)) (fun u => has c (xblkM (useBlk b c u)) (xBlk X c (useBlk b c u)))) := by
    rw [hst, bigSep_insert hni]; exact BI.Entails.refl _
  have hpl := step_at (par k) (fun p : Fin 2 => place (.xs b p) c (rc n p)) (fun p : Fin 2 => place (F := F) (.xs b p) c (rc n p)) (fun q _ => rfl)
  rw [rc_next n k hnk] at hpl
  unfold XS
  iintro ⟨#HC, ⟨Hpl, Hcs, Hts, Hb⟩, Hs⟩ K
  ihave Hpl := hpl $$ Hpl
  icases Hpl with ⟨Hp, Hback⟩
  unfold place
  icases Hp with ⟨Ha, #Hr⟩
  ihave Hts := (ico_pop hk _) $$ Hts
  icases Hts with ⟨Ht, Hts⟩
  ihave Hb := hblk $$ Hb
  icases Hb with ⟨Hx, Hb⟩
  iapply (op_copy (X := X) (Wt := Wt) (.xs b (par k)) c (k / 2) nX (duties_xs (by omega)) rfl rfl
    (xslot_credit b (par k)) (xBlk X c (useBlk b c k)) (by rw [pay_xs])) $$ [Hx Hs Ht]
  · iframe HC Hx Hs Ht Hr
  iintro Hc
  iapply K
  isplitl [Hback Ha]
  · iapply Hback
    iframe Ha Hr
  isplitl [Hc Hcs]
  · iapply (ico_push (show n ≤ k by omega) _)
    iframe Hc Hcs
  iframe Hts Hb

/-- The wait for row block `n`. -/
theorem op_xwait (b : Fin 2) (n k : ℕ) (c : Dev nD) (hn : n < k) (hk : k ≤ 16) {O : CellTallies nD τ sig ℕ} (hO : Above 0 O)
    {sm : DmaSem sig} (hsm : SemLoc.dma sm = semOf (.xs b (par n)))
    {sp sp' : Space} {s₀ s' : Shape} {e e' : EltTy} {src : Memref sig .tc sp' s' e'} {dst : Memref sig .tc sp s₀ e}
    {hsrc : src.view.WordExact} {hdst : dst.view.WordExact} (hd : dst.view.dmaCredit = nX) {kk : PUnit → Prog 𝕋 α} :
    iprop(Ctx X Wt κ ι ∗ XS X b n k c ∗ Ow O c)
      ⊢ iprop(((XS X b (n + 1) k c ∗ has c (xslotM b (par n)) (xBlk X c (useBlk b c n)) ∗ Ow O c) -∗ WP c (kk ⟨⟩) Q)
          -∗ WP c (.op (.waitDma2 sm src dst hsrc hdst) kk) Q) := by
  have hst : Finset.range 16 \ Finset.Ico (n + 1) k = insert n (Finset.range 16 \ Finset.Ico n k) := by
    ext u; simp only [Finset.mem_sdiff, Finset.mem_range, Finset.mem_Ico, Finset.mem_insert]; omega
  have hni : n ∉ Finset.range 16 \ Finset.Ico n k := by
    simp only [Finset.mem_sdiff, Finset.mem_range, Finset.mem_Ico]; omega
  have hblk : iprop(has c (xblkM (useBlk b c n)) (xBlk X c (useBlk b c n))
        ∗ bigSep (Finset.range 16 \ Finset.Ico n k) (fun u => has c (xblkM (useBlk b c u)) (xBlk X c (useBlk b c u))))
      ⊢ bigSep (Finset.range 16 \ Finset.Ico (n + 1) k) (fun u => has c (xblkM (useBlk b c u)) (xBlk X c (useBlk b c u))) := by
    rw [hst, bigSep_insert hni]; exact BI.Entails.refl _
  have hpl := step_at (par n) (fun p : Fin 2 => place (.xs b p) c (rc n p)) (fun p : Fin 2 => place (F := F) (.xs b p) c (rc (n + 1) p))
    (fun q hq => by rw [rc_succ_other n hq])
  rw [rc_succ_par, rc_par] at hpl
  unfold XS
  iintro ⟨#HC, ⟨Hpl, Hcs, Hts, Hb⟩, HO⟩ K
  ihave Hpl := hpl $$ Hpl
  icases Hpl with ⟨Hp, Hback⟩
  unfold place
  icases Hp with ⟨Ha, -⟩
  ihave Hcs := (ico_pop hn _) $$ Hcs
  icases Hcs with ⟨Hc, Hcs⟩
  iapply (op_waitDma (.xs b (par n)) c (n / 2) 0 nX (duties_xs (by omega)) rfl (by decide) hO hsm hd) $$ [Ha Hc HO]
  · iframe HC Hc HO Ha
  iintro ⟨HO, Ha, Hr, Hp⟩
  ihave Hp := (Entails.of_eq (pay_xs b c n)) $$ Hp
  icases Hp with ⟨Hs, Hx⟩
  iapply K
  isplitl [Ha Hr Hback Hcs Hts Hb Hx]
  · isplitl [Ha Hr Hback]
    · iapply Hback
      iframe Ha Hr
    iframe Hcs Hts
    iapply hblk
    iframe Hx Hb
  iframe Hs HO

/-! ## Output copies -/

/-- The output copies of a direction before copy `n`, and while it is under way. -/
def OutIdle (X : Dev nD → S8192x2048.Idx → Elt F .f32) (Wt : Dev nD → S2048x4096.Idx → Elt F .bf16) (b : Fin 2) (n : ℕ) (c : Dev nD) : sProp 𝕄 :=
  iprop(bigSep Finset.univ (fun s : Fin 4 => place (.out b s) c (oc n s))
    ∗ bigSep (Finset.Ico n 16) (fun j => dutyTok ER (cell (.out b (site j)) c) (j / 4) 0)
    ∗ bigSep (Finset.Ico 0 n) (fun j => has c (oblkM (outBlk b c j)) (outV X Wt b c j))
    ∗ bigSep (Finset.Ico n 16) (fun j => some' c (oblkM (outBlk b c j))))
def OutBusy (X : Dev nD → S8192x2048.Idx → Elt F .f32) (Wt : Dev nD → S2048x4096.Idx → Elt F .bf16) (b : Fin 2) (n : ℕ) (c : Dev nD) : sProp 𝕄 :=
  iprop(bigSep Finset.univ (fun s : Fin 4 => place (.out b s) c (oc n s))
    ∗ bigSep (Finset.Ico (n + 1) 16) (fun j => dutyTok ER (cell (.out b (site j)) c) (j / 4) 0)
    ∗ bigSep (Finset.Ico 0 n) (fun j => has c (oblkM (outBlk b c j)) (outV X Wt b c j))
    ∗ bigSep (Finset.Ico (n + 1) 16) (fun j => some' c (oblkM (outBlk b c j)))
    ∗ cred (tallyAt (cell (.out b (site n)) c) 0 nO))

theorem pay_out (b : Fin 2) (c : Dev nD) (j : ℕ) :
    pay X Wt (.out b (site j)) c (j / 4) 0
      = iprop(has c (oblkM (outBlk b c j)) (outV X Wt b c j) ∗ has c (ostM b) (outV X Wt b c j)) := by
  show iprop(has c (oblkM (outBlk b c (4 * (j / 4) + (site j).val))) (outV X Wt b c (4 * (j / 4) + (site j).val))
      ∗ has c (ostM b) (outV X Wt b c (4 * (j / 4) + (site j).val))) = _
  rw [four_div_add_mod]

/-- Output copy `n`. -/
theorem op_outstart (b : Fin 2) (n : ℕ) (c : Dev nD) (hn : n < 16)
    {src : Memref sig .tc .vmem S256x4096 .f32} (hsrcM : src = ostM b)
    {dst : Memref sig .tc .hbm S256x4096 .f32} (hdstM : dst = oblkM (outBlk b c n))
    {sm : SemLoc sig} (hsm : sm = semOf (.out b (site n)))
    {hsrc : src.view.WordExact} {hdst : dst.view.WordExact}
    {hsem : DmaTarget.Typed (nD := nD) (τ := τ) (p := Proc.tc) .vmem sm (.here dst)} {kk : PUnit → Prog 𝕋 α} :
    iprop(Ctx X Wt κ ι ∗ OutIdle X Wt b n c ∗ has c (ostM b) (outV X Wt b c n))
      ⊢ iprop((OutBusy X Wt b n c -∗ WP c (kk ⟨⟩) Q)
          -∗ WP c (.op (.enqueueDma src (.here dst) sm hsrc hdst hsem) kk) Q) := by
  subst hsrcM hdstM hsm
  have hpl := step_at (site n) (fun s : Fin 4 => place (.out b s) c (oc n s)) (fun s : Fin 4 => place (F := F) (.out b s) c (oc n s)) (fun q _ => rfl)
  rw [oc_site] at hpl
  unfold OutIdle OutBusy
  iintro ⟨#HC, ⟨Hpl, Hts, Hdone, Hb⟩, Hs⟩ K
  ihave Hpl := hpl $$ Hpl
  icases Hpl with ⟨Hp, Hback⟩
  unfold place
  icases Hp with ⟨Ha, #Hr⟩
  ihave Hts := (ico_pop hn _) $$ Hts
  icases Hts with ⟨Ht, Hts⟩
  ihave Hb := (ico_pop hn _) $$ Hb
  icases Hb with ⟨Hx, Hb⟩
  iapply (op_copy (.out b (site n)) c (n / 4) nO (duties_out (by omega)) rfl rfl
    (oblk_credit _) (outV X Wt b c n) (by rw [pay_out])) $$ [Hx Hs Ht]
  · iframe HC Hs Hx Ht Hr
  iintro Hc
  iapply K
  isplitl [Hback Ha]
  · iapply Hback
    iframe Ha Hr
  iframe Hts Hdone Hb Hc

/-- The wait for output copy `n`. -/
theorem op_outwait (b : Fin 2) (n : ℕ) (c : Dev nD) (hn : n < 16) {O : CellTallies nD τ sig ℕ} (hO : Above 0 O)
    {sm : DmaSem sig} (hsm : SemLoc.dma sm = semOf (.out b (site n)))
    {sp sp' : Space} {s₀ s' : Shape} {e e' : EltTy} {src : Memref sig .tc sp' s' e'} {dst : Memref sig .tc sp s₀ e}
    {hsrc : src.view.WordExact} {hdst : dst.view.WordExact} (hd : dst.view.dmaCredit = nO) {kk : PUnit → Prog 𝕋 α} :
    iprop(Ctx X Wt κ ι ∗ OutBusy X Wt b n c ∗ Ow O c)
      ⊢ iprop(((OutIdle X Wt b (n + 1) c ∗ some' c (ostM b) ∗ Ow O c) -∗ WP c (kk ⟨⟩) Q)
          -∗ WP c (.op (.waitDma2 sm src dst hsrc hdst) kk) Q) := by
  have hpl := step_at (site n) (fun s : Fin 4 => place (.out b s) c (oc n s)) (fun s : Fin 4 => place (F := F) (.out b s) c (oc (n + 1) s))
    (fun q hq => by rw [oc_succ_other n hq])
  rw [oc_succ_site, oc_site] at hpl
  unfold OutIdle OutBusy
  iintro ⟨#HC, ⟨Hpl, Hts, Hdone, Hb, Hc⟩, HO⟩ K
  ihave Hpl := hpl $$ Hpl
  icases Hpl with ⟨Hp, Hback⟩
  unfold place
  icases Hp with ⟨Ha, -⟩
  iapply (op_waitDma (X := X) (Wt := Wt) (.out b (site n)) c (n / 4) 0 nO (duties_out (by omega)) rfl (by decide) hO hsm hd) $$ [Ha Hc HO]
  · iframe HC Hc HO Ha
  iintro ⟨HO, Ha, Hr, Hp⟩
  ihave Hp := (Entails.of_eq (pay_out b c n)) $$ Hp
  icases Hp with ⟨Hx, Hs⟩
  iapply K
  isplitl [Ha Hr Hback Hts Hdone Hb Hx]
  · isplitl [Ha Hr Hback]
    · iapply Hback
      iframe Ha Hr
    iframe Hts
    isplitl [Hdone Hx]
    · iapply (ico_push (Nat.zero_le n) _)
      iframe Hx Hdone
    iexact Hb
  isplitl [Hs]; · iexists _; iexact Hs
  iexact HO

end Cert.KernelIdeal.Ring

end
-- ==== Proof.KernelIdeal.State.lean ====
/-
  The state of a direction between the operations of a step, and how programs are put together.
-/
module

public import proofs.«01_k».proof.Proof.KernelIdeal.Dir2

@[expose] public section

noncomputable section

namespace Cert.KernelIdeal.Ring

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ
local notation "𝕋" => TpuEff nD τ sig (Elt F) Λ₀ Proc.tc

variable {X : Dev nD → S8192x2048.Idx → Elt F .f32} {Wt : Dev nD → S2048x4096.Idx → Elt F .bf16}
variable {α : Type} {Q : α → sProp (MT nD τ sig ℕ (Elt F) ℕ UU ℕ)}

universe u

/-! ## The buffers the body is given -/

/-- A program over the buffers and counters of the kernel's body. -/
abbrev Over (β : Type u) : Type _ :=
    (a0 : Memref sig .tc .hbm S8192x2048 .f32) → a0.IsWhole →
    (a1 : Memref sig .tc .hbm S2048x4096 .bf16) → a1.IsWhole →
    (a2 : Memref sig .tc .hbm S8192x4096 .f32) → a2.IsWhole →
    (a3 : Memref sig .tc .vmem S256x4096 .bf16) → a3.IsWhole →
    (a4 : Memref sig .tc .vmem S2x256x4096 .bf16) → a4.IsWhole →
    (a5 : Memref sig .tc .vmem S256x4096 .f32) → a5.IsWhole →
    (a6 : Memref sig .tc .vmem S2x256x2048 .f32) → a6.IsWhole →
    (a7 : Memref sig .tc .vmem S256x4096 .f32) → a7.IsWhole →
    (a8 : Memref sig .tc .vmem S256x4096 .bf16) → a8.IsWhole →
    (a9 : Memref sig .tc .vmem S2x256x4096 .bf16) → a9.IsWhole →
    (a10 : Memref sig .tc .vmem S256x4096 .f32) → a10.IsWhole →
    (a11 : Memref sig .tc .vmem S2x256x2048 .f32) → a11.IsWhole →
    (a12 : Memref sig .tc .vmem S256x4096 .f32) → a12.IsWhole →
    (a13 : Memref sig .tc .vmem S2048x4096 .bf16) → a13.IsWhole →
    DmaSems sig S2 → DmaSems sig S2x2 → DmaSems sig S2x2 → DmaSems sig S2x4 → Sems sig S2 → DmaSems sig S_ → β

/-- The same on the buffers and counters of this program. -/
abbrev given {β : Type u} (p : Over β) : β :=
  p (.whole main_arg0) (Memref.isWhole_whole _) (.whole main_v1) (Memref.isWhole_whole _)
    (.whole main_v2) (Memref.isWhole_whole _) (.whole cc0_scratch0) (Memref.isWhole_whole _)
    (.whole cc0_scratch1) (Memref.isWhole_whole _) (.whole cc0_scratch2) (Memref.isWhole_whole _)
    (.whole cc0_scratch3) (Memref.isWhole_whole _) (.whole cc0_scratch4) (Memref.isWhole_whole _)
    (.whole cc0_scratch5) (Memref.isWhole_whole _) (.whole cc0_scratch6) (Memref.isWhole_whole _)
    (.whole cc0_scratch7) (Memref.isWhole_whole _) (.whole cc0_scratch8) (Memref.isWhole_whole _)
    (.whole cc0_scratch9) (Memref.isWhole_whole _) (.whole cc0_scratch10) (Memref.isWhole_whole _)
    cc0_scratch11 cc0_scratch12 cc0_scratch13 cc0_scratch14 cc0_scratch15 cc0_scratch16

/-! ## Sequencing -/

/-- A program, then its continuation. -/
theorem seq_run {β : Type} (R : β → sProp 𝕄) (c : Dev nD) (p : Prog 𝕋 β) (kk : β → Prog 𝕋 α) :
    WP c p R ⊢ iprop((∀ a, R a -∗ WP c (kk a) Q) -∗ WP c (p >>= kk) Q) := by
  have h1 : iprop((∀ a, R a -∗ WP c (kk a) Q) ∗ WP c p R) ⊢ WP c p (fun a => iprop((∀ a, R a -∗ WP c (kk a) Q) ∗ R a)) :=
    wp_frame_l _ _ _
  have h2 : WP c p (fun a => iprop((∀ a, R a -∗ WP c (kk a) Q) ∗ R a)) ⊢ WP c p (fun a => WP c (kk a) Q) :=
    wp_mono _ _ _ fun a => by
      iintro ⟨K, H⟩
      iapply K
      iexact H
  have h3 : WP c p (fun a => WP c (kk a) Q) ⊢ WP c (p >>= kk) Q := Entails.of_eq (wp_bind _ _ _ p kk Q).symm
  iintro H K
  iapply h3
  iapply h2
  iapply h1
  iframe K H

theorem ret_run {β : Type} (R : β → sProp 𝕄) (c : Dev nD) (r : β) : R r ⊢ WP c (.ret r) R := by
  show _ ⊢ wp frame (wpE (defs₀ (F := F)) 𝒱₀ (c : Thread nD τ) none) Set.univ (.ret r) R
  rw [wp_ret]
  iintro H
  imodintro
  iexact H

/-! ## The state of a direction between operations -/

/-- The row blocks when `n` have been waited for: the next two are under way, the slots not needed any more are free. -/
def XSt (X : Dev nD → S8192x2048.Idx → Elt F .f32) (b : Fin 2) (n : ℕ) (c : Dev nD) : sProp 𝕄 :=
  iprop(XS X b n (min 16 (n + 2)) c ∗ (if 15 ≤ n then some' c (xslotM b 0) else iprop(emp))
    ∗ (if 16 ≤ n then some' c (xslotM b 1) else iprop(emp)))

/-- The product buffer after `n` products; the first went straight into the send buffer. -/
def PartSt (X : Dev nD → S8192x2048.Idx → Elt F .f32) (Wt : Dev nD → S2048x4096.Idx → Elt F .bf16) (b : Fin 2) (n : ℕ) (c : Dev nD) : sProp 𝕄 :=
  iprop(∃ P, ⌜2 ≤ n → P = dotV X Wt c b (n - 1)⌝ ∗ has c (partM b) P)

/-- The output copies when `n` have been started: the last may be under way. -/
def OutSt (X : Dev nD → S8192x2048.Idx → Elt F .f32) (Wt : Dev nD → S2048x4096.Idx → Elt F .bf16) (b : Fin 2) : ℕ → Dev nD → sProp 𝕄
  | 0, c => iprop(OutIdle X Wt b 0 c ∗ some' c (ostM b))
  | n + 1, c => OutBusy X Wt b n c

/-- Between the arrival of step `g` and the end of its work: the work of the positions below `k` in the
    segment is done. -/
def Mid (X : Dev nD → S8192x2048.Idx → Elt F .f32) (Wt : Dev nD → S2048x4096.Idx → Elt F .bf16) (b : Fin 2) (g k : ℕ) (c : Dev nD) : sProp 𝕄 :=
  iprop(has c (slotM b (par g)) (recvV X Wt b g c) ∗ has c (partM b) (dotV X Wt c b (useOf (g + 1) - 1))
    ∗ has c (sendM b) (sendV X Wt b (if g % 6 < k then g + 1 else g) c) ∗ OutSt X Wt b (outOf (if g % 6 < k then g + 1 else g)) c)

theorem Mid_skip (b : Fin 2) (g k k' : ℕ) (c : Dev nD) (h : g % 6 < k ↔ g % 6 < k') : Mid X Wt b g k c ⊢ Mid X Wt b g k' c := by
  unfold Mid; simp only [h]; exact BI.Entails.refl _

theorem Mid_open (b : Fin 2) (g k : ℕ) (c : Dev nD) (h : ¬ g % 6 < k) :
    Mid X Wt b g k c ⊢ iprop(has c (slotM b (par g)) (recvV X Wt b g c) ∗ has c (partM b) (dotV X Wt c b (useOf (g + 1) - 1))
      ∗ has c (sendM b) (sendV X Wt b g c) ∗ OutSt X Wt b (outOf g) c) := by
  unfold Mid; simp only [if_neg h]; exact BI.Entails.refl _
theorem Mid_close (b : Fin 2) (g k : ℕ) (c : Dev nD) (h : g % 6 < k) :
    iprop(has c (slotM b (par g)) (recvV X Wt b g c) ∗ has c (partM b) (dotV X Wt c b (useOf (g + 1) - 1))
      ∗ has c (sendM b) (sendV X Wt b (g + 1) c) ∗ OutSt X Wt b (outOf (g + 1)) c) ⊢ Mid X Wt b g k c := by
  unfold Mid; simp only [if_pos h]; exact BI.Entails.refl _

theorem send_early (b : Fin 2) (g : ℕ) (c : Dev nD) (h : g % 6 < 2) :
    sendV X Wt b (g + 1) c = narrow (accum (recvV X Wt b g c) (dotV X Wt c b (useOf (g + 1) - 1))) := by
  show (if g % 6 < 2 then _ else _) = _; rw [if_pos h]; rfl
theorem send_act (b : Fin 2) (g : ℕ) (c : Dev nD) (h : g % 6 = 2) :
    sendV X Wt b (g + 1) c = narrow (act (accum (recvV X Wt b g c) (dotV X Wt c b (useOf (g + 1) - 1)))) := by
  show (if g % 6 < 2 then _ else _) = _; rw [if_neg (by omega), if_pos h]; rfl
theorem send_pass (b : Fin 2) (g : ℕ) (c : Dev nD) (h : g % 6 = 3 ∨ g % 6 = 4) :
    sendV X Wt b (g + 1) c = recvV X Wt b g c := by
  show (if g % 6 < 2 then _ else _) = _; rw [if_neg (by omega), if_neg (by omega), if_pos (by omega)]; rfl
theorem send_start (b : Fin 2) (g : ℕ) (c : Dev nD) (h : g % 6 = 5) :
    sendV X Wt b (g + 1) c = narrow (dotV X Wt c b (useOf (g + 1) - 1)) := by
  show (if g % 6 < 2 then _ else _) = _; rw [if_neg (by omega), if_neg (by omega), if_neg (by omega)]

theorem stepOf_outOf {g : ℕ} (h : 2 ≤ g % 6) : stepOf (outOf g) = g := by
  unfold stepOf outOf; omega
theorem outOf_mod {g : ℕ} (h : 2 ≤ g % 6) : outOf g % 4 = g % 6 - 2 := by unfold outOf; omega
theorem outOf_succ_early {g : ℕ} (h : g % 6 < 2) : outOf (g + 1) = outOf g := by unfold outOf; omega
theorem outOf_succ {g : ℕ} (h : 2 ≤ g % 6) : outOf (g + 1) = outOf g + 1 := by unfold outOf; omega
theorem outOf_lt {g : ℕ} (h : g < 24) : outOf g < 16 := by unfold outOf; omega

theorem out_act (b : Fin 2) (g : ℕ) (c : Dev nD) (h : g % 6 = 2) :
    outV X Wt b c (outOf g) = act (accum (recvV X Wt b g c) (dotV X Wt c b (useOf (g + 1) - 1))) := by
  unfold outV; rw [if_pos (by rw [outOf_mod (by omega)]; omega), stepOf_outOf (by omega)]
theorem out_pass (b : Fin 2) (g : ℕ) (c : Dev nD) (h : 3 ≤ g % 6) : outV X Wt b c (outOf g) = widen (recvV X Wt b g c) := by
  unfold outV; rw [if_neg (by rw [outOf_mod (by omega)]; omega), stepOf_outOf (by omega)]

/-- The wait for the output copy under way, if any, is what the next one needs. -/
theorem OutSt_first (b : Fin 2) (n : ℕ) (c : Dev nD) (h : n = 0) : OutSt X Wt b n c ⊢ iprop(OutIdle X Wt b n c ∗ some' c (ostM b)) := by
  subst h; exact BI.Entails.refl _
theorem OutSt_busy (b : Fin 2) (n : ℕ) (c : Dev nD) (h : 0 < n) : OutSt X Wt b n c ⊢ OutBusy X Wt b (n - 1) c := by
  obtain ⟨k, rfl⟩ : ∃ k, n = k + 1 := ⟨n - 1, by omega⟩
  exact BI.Entails.refl _

/-! ## The row blocks as the loop uses them -/

/-- The slots left over after the wait for row block `n`. -/
def XFree (b : Fin 2) (n : ℕ) (c : Dev nD) : sProp 𝕄 :=
  iprop((if 15 ≤ n then some' (F := F) c (xslotM b 0) else iprop(emp)) ∗ (if 16 ≤ n then some' c (xslotM b 1) else iprop(emp)))

theorem XSt_eq (b : Fin 2) (n : ℕ) (c : Dev nD) : XSt X b n c = iprop(XS X b n (min 16 (n + 2)) c ∗ XFree b n c) := rfl

theorem XFree_early (b : Fin 2) {n : ℕ} (c : Dev nD) (h : n + 2 < 16) : XFree (F := F) b n c ⊢ XFree b (n + 1) c := by
  unfold XFree; rw [if_neg (show ¬ 15 ≤ n by omega), if_neg (show ¬ 16 ≤ n by omega), if_neg (show ¬ 15 ≤ n + 1 by omega), if_neg (show ¬ 16 ≤ n + 1 by omega)]
theorem XFree_late (b : Fin 2) {n : ℕ} (c : Dev nD) (h : ¬ n + 2 < 16) (h' : n < 16) :
    iprop(XFree (F := F) b n c ∗ some' c (xslotM b (par n))) ⊢ XFree b (n + 1) c := by
  unfold XFree
  rcases (show n = 14 ∨ n = 15 by omega) with rfl | rfl
  · show iprop((emp ∗ emp) ∗ some' c (xslotM b 0)) ⊢ iprop(some' c (xslotM b 0) ∗ emp)
    iintro ⟨-, H⟩
    isplitl [H]; · iexact H
    iempintro
  · show iprop((some' c (xslotM b 0) ∗ emp) ∗ some' c (xslotM b 1)) ⊢ iprop(some' c (xslotM b 0) ∗ some' c (xslotM b 1))
    iintro ⟨⟨H, -⟩, H'⟩
    iframe H
    iexact H'

theorem useOf_lt {g : ℕ} (h : useOf (g + 1) = useOf g + 1) : useOf g < 16 := by
  unfold useOf at *; omega
theorem useOf_pos (g : ℕ) : 1 ≤ useOf g := by unfold useOf; omega
theorem useOf_stay {g : ℕ} (h : ¬ useOf (g + 1) = useOf g + 1) : useOf (g + 1) = useOf g ∧ 2 ≤ useOf g := by
  unfold useOf at *; omega

end Cert.KernelIdeal.Ring

end
-- ==== Proof.KernelIdeal.TripA.lean ====
/-
  The waits for credits and the transfer of direction 0 in one step.
-/
module

public import proofs.«01_k».proof.Proof.KernelIdeal.State

@[expose] public section

noncomputable section

namespace Cert.KernelIdeal.Ring

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}
variable {κ : GSem nD τ sig → ℕ} {ι : Key → ℕ}

theorem trip_lt (t : Trip) : t.val < 24 := trips_eq ▸ t.isLt

theorem above_credit (g : ℕ) (b : Fin 2) (hg : g < 24) : levOf (.credit b) (wIdx g) ≤ 2 * g - 1 := by
  unfold wIdx
  split
  · exact Nat.zero_le _
  · show (if g - 2 = 24 then 0 else 2 * (g - 2) + 3) ≤ _
    rw [if_neg (by omega)]; omega

theorem Above.mono {cut cut' : ℕ} {O : CellTallies nD τ sig ℕ} (h : Above cut O) (hc : cut' ≤ cut) : Above cut' O :=
  fun g s hs => ⟨(h g s hs).1, Nat.lt_of_le_of_lt (Nat.succ_le_succ hc) (h g s hs).2⟩

/-- What is owed during a step is above what is waited for in it. -/
theorem owed_credit (b : Fin 2) (g n₀ n₁ m₀ m₁ : ℕ) (c : Dev nD) (hg : g < 24) (h₀ : g ≤ n₀) (h₁ : g ≤ n₁) (h₂ : g ≤ m₀) (h₃ : g ≤ m₁) :
    Above (levOf (.credit b) (wIdx g)) (owed n₀ n₁ m₀ m₁ c) :=
  (Above.owed (cut := 2 * g - 1) c (by omega) (by omega) (by omega) (by omega)).mono (above_credit g b hg)
theorem owed_recv (g n₀ n₁ m₀ m₁ : ℕ) (c : Dev nD) (h₀ : g < n₀) (h₁ : g < n₁) (h₂ : g ≤ m₀) (h₃ : g ≤ m₁) :
    Above (2 * g + 2) (owed n₀ n₁ m₀ m₁ c) := Above.owed c (by omega) (by omega) (by omega) (by omega)
theorem owed_zero (n₀ n₁ m₀ m₁ : ℕ) (c : Dev nD) : Above 0 (owed n₀ n₁ m₀ m₁ c) :=
  Above.owed c (by omega) (by omega) (by omega) (by omega)

/-- The wait for a credit of direction 0. -/
theorem part15_run (t : Trip) (c : Dev nD) (z z' : BitVec 32) :
    iprop(Ctx X Wt κ ι ∗ Cred 0 t.val c ∗ Ow (owed t.val t.val t.val t.val c) c)
      ⊢ WP (F := F) c ((given k0_part15) z z' t)
        (fun _ => iprop(Cred 0 (t.val + 1) c ∗ heard 0 (tgt 0 c) (t.val - 1) ∗ Ow (owed t.val t.val t.val t.val c) c)) := by
  have hg := trip_lt t
  unfold given; rw [k0_part15_eq_skeleton]
  unfold k0_part15_skel
  simp only [semWaitWord, Prog.lift, Prog.bind_op, Prog.bind_ret, Prog.pure_eq_ret]
  iintro ⟨#HC, Hc, HO⟩
  iapply (op_credit_wait 0 t.val c hg (owed_credit 0 t.val t.val t.val t.val t.val c hg (by omega) (by omega) (by omega) (by omega))
    (congrArg SemLoc.reg (credit0_sem _)) rfl) $$ [Hc HO]
  · iframe HC Hc HO
  iintro H
  iapply (ret_run _ c _)
  iexact H

/-- The transfer of direction 0 and the wait for a credit of direction 1. -/
theorem part16_run (t : Trip) (c : Dev nD) (v2 z : BitVec 32) :
    iprop(Ctx X Wt κ ι ∗ SendIdle 0 t.val c ∗ OutToks 0 t.val c ∗ heard 0 (tgt 0 c) (t.val - 1) ∗ has c (sendM 0) (sendV X Wt 0 t.val c)
        ∗ Cred 1 t.val c ∗ Ow (owed t.val t.val t.val t.val c) c)
      ⊢ WP (F := F) c ((given k0_part16) c v2 t z)
        (fun _ => iprop(SendBusy 0 t.val c ∗ OutToks 0 (t.val + 1) c ∗ Cred 1 (t.val + 1) c ∗ heard 1 (tgt 1 c) (t.val - 1)
          ∗ Ow (owed (t.val + 1) t.val t.val t.val c) c)) := by
  have hg := trip_lt t
  unfold given; rw [k0_part16_eq_skeleton]
  unfold k0_part16_skel
  simp only [semWaitWord, Prog.lift, Prog.bind_op, Prog.bind_ret, Prog.pure_eq_ret]
  iintro ⟨#HC, Hsd, Hot, Hh, Hs, Hc, HO⟩
  iapply (op_send 0 t.val c _ (dev3_eq c) hg rfl (slot_eq 0 (par t.val) (off3_eq t) _) (congrArg SemLoc.dma (send0_sem _))
    (congrArg SemLoc.dma (recv0_sem (par t.val) (off2_eq t) _)) (owed (t.val + 1) t.val t.val t.val c) (owed_send0 hg _ _ _ c)) $$ [Hsd Hot Hh Hs HO]
  · iframe HC Hsd Hot Hh Hs HO
  iintro ⟨Hsd, Hot, HO⟩
  iapply (op_credit_wait 1 t.val c hg (owed_credit 1 t.val (t.val + 1) t.val t.val t.val c hg (by omega) (by omega) (by omega) (by omega))
    (congrArg SemLoc.reg (credit1_sem _)) rfl) $$ [Hc HO]
  · iframe HC Hc HO
  iintro ⟨Hc, Hh, HO⟩
  iapply (ret_run _ c _)
  iframe Hsd Hot Hc Hh HO

end Cert.KernelIdeal.Ring

end
-- ==== Proof.KernelIdeal.TripB.lean ====
/-
  The products of one step.
-/
module

public import proofs.«01_k».proof.Proof.KernelIdeal.TripA

@[expose] public section

noncomputable section

namespace Cert.KernelIdeal.Ring

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}
variable {κ : GSem nD τ sig → ℕ} {ι : Key → ℕ}
variable {α : Type} {Q : α → sProp 𝕄}

theorem par_again {n : ℕ} (h : n + 2 < 16) : par (min 16 (n + 2)) = par n :=
  Fin.ext (show min 16 (n + 2) % 2 = n % 2 by omega)

section Steps
variable (X Wt) (b : Fin 2) (c : Dev nD) {g : ℕ}

theorem xst_stay (h : ¬ useOf (g + 1) = useOf g + 1) : XSt X b (useOf g) c ⊢ XSt X b (useOf (g + 1)) c := by
  rw [(useOf_stay h).1]

theorem part_stay (h : ¬ useOf (g + 1) = useOf g + 1) :
    PartSt X Wt b (useOf g) c ⊢ has c (partM b) (dotV X Wt c b (useOf (g + 1) - 1)) := by
  unfold PartSt
  iintro ⟨%P, %hP, Hp⟩
  rw [hP (useOf_stay h).2, (useOf_stay h).1]
  iexact Hp

theorem part_open (n : ℕ) : PartSt X Wt b n c ⊢ iprop(∃ P, has c (partM b) P) := by
  unfold PartSt
  iintro ⟨%P, -, Hp⟩
  iexists P; iexact Hp

theorem part_step (h : useOf (g + 1) = useOf g + 1) :
    has c (partM b) (dotV X Wt c b (useOf g)) ⊢ has c (partM b) (dotV X Wt c b (useOf (g + 1) - 1)) := by
  rw [h, Nat.add_sub_cancel]

theorem xst_early (h : useOf (g + 1) = useOf g + 1) (hk : useOf g + 2 < 16) :
    iprop(XS X b (useOf g + 1) (min 16 (useOf g + 2) + 1) c ∗ XFree b (useOf g) c) ⊢ XSt X b (useOf (g + 1)) c := by
  rw [XSt_eq, h, show min 16 (useOf g + 2) + 1 = min 16 (useOf g + 1 + 2) by omega]
  iintro ⟨Hx, Hf⟩
  iframe Hx
  iapply (XFree_early b c hk); iexact Hf

theorem xst_late (h : useOf (g + 1) = useOf g + 1) (hk : ¬ useOf g + 2 < 16) (v : S256x2048.Idx → Elt F .f32) :
    iprop(XS X b (useOf g + 1) (min 16 (useOf g + 2)) c ∗ XFree b (useOf g) c ∗ has c (xslotM b (par (useOf g))) v) ⊢ XSt X b (useOf (g + 1)) c := by
  rw [XSt_eq, h, show min 16 (useOf g + 2) = min 16 (useOf g + 1 + 2) by omega]
  iintro ⟨Hx, Hf, Hs⟩
  iframe Hx
  iapply (XFree_late b c hk (useOf_lt h))
  iframe Hf
  iexists v; iexact Hs

end Steps

theorem pay_dot0 (c : Dev nD) (u : ℕ) (h) : k0_pay13 (F := F) (unsq h (xBlk X c (useBlk 0 c u))) (Wt c) = dotV X Wt c 0 u := pay13_eq _ _ h
theorem pay_dot1 (c : Dev nD) (u : ℕ) (h) : k0_pay14 (F := F) (unsq h (xBlk X c (useBlk 1 c u))) (Wt c) = dotV X Wt c 1 u := pay14_eq _ _ h

theorem ret_post {α : Type} {R Q : α → sProp 𝕄} (hQ : ∀ a, R a ⊢ Q a) (c : Dev nD) (r : α) : R r ⊢ WP (F := F) c (.ret r) Q :=
  BIBase.Entails.trans (hQ r) (ret_run Q c r)

/-- The transfer of direction 1, the products of both directions, the return of direction 0's send buffer. -/
theorem part17_run (t : Trip) (c : Dev nD) (v2 v361 v363 v378 v413 : BitVec 32) {Q : (Σ' (_ : BitVec 32), BitVec 32) → sProp 𝕄}
    (hQ : ∀ a, iprop(SendBusy 1 t.val c ∗ OutToks 1 (t.val + 1) c
          ∗ XSt X 0 (useOf (t.val + 1)) c ∗ has c (partM 0) (dotV X Wt c 0 (useOf (t.val + 1) - 1))
          ∗ XSt X 1 (useOf (t.val + 1)) c ∗ has c (partM 1) (dotV X Wt c 1 (useOf (t.val + 1) - 1)) ∗ has c wV (Wt c)
          ∗ SendIdle 0 (t.val + 1) c ∗ has c (sendM 0) (sendV X Wt 0 t.val c)
          ∗ Ow (owed (t.val + 1) (t.val + 1) t.val t.val c) c) ⊢ Q a) :
    iprop(Ctx X Wt κ ι ∗ SendIdle 1 t.val c ∗ OutToks 1 t.val c ∗ heard 1 (tgt 1 c) (t.val - 1) ∗ has c (sendM 1) (sendV X Wt 1 t.val c)
        ∗ XSt X 0 (useOf t.val) c ∗ PartSt X Wt 0 (useOf t.val) c ∗ XSt X 1 (useOf t.val) c ∗ PartSt X Wt 1 (useOf t.val) c ∗ has c wV (Wt c)
        ∗ SendBusy 0 t.val c ∗ Ow (owed (t.val + 1) t.val t.val t.val c) c)
      ⊢ WP (F := F) c ((given k0_part17) c v2 t v361 v363 v378 v413)
        Q := by
  have hg := trip_lt t
  unfold given; rw [k0_part17_eq_skeleton]
  unfold k0_part17_skel
  simp -zeta only [Prog.lift, Prog.bind_op, Prog.bind_ret, Prog.pure_eq_ret]
  iintro ⟨#HC, Hsd, Hot, Hh, Hs, Hx0, Hp0, Hx1, Hp1, Hw, Hb0, HO⟩
  iapply (op_send 1 t.val c _ (dev4_eq c) hg rfl (slot_eq 1 (par t.val) (off3_eq t) _) (congrArg SemLoc.dma (send1_sem _))
    (congrArg SemLoc.dma (recv1_sem (par t.val) (off4_eq t) _)) (owed (t.val + 1) (t.val + 1) t.val t.val c) (owed_send1 hg _ _ _ c)) $$ [Hsd Hot Hh Hs HO]
  · iframe HC Hsd Hot Hh Hs HO
  iintro ⟨Hsd, Hot, HO⟩
  extract_lets
  rename Unit → Prog _ _ => jp
  have hj : iprop(Ctx X Wt κ ι ∗ SendBusy 1 t.val c ∗ OutToks 1 (t.val + 1) c
      ∗ XSt X 0 (useOf (t.val + 1)) c ∗ has c (partM 0) (dotV X Wt c 0 (useOf (t.val + 1) - 1))
      ∗ XSt X 1 (useOf t.val) c ∗ PartSt X Wt 1 (useOf t.val) c ∗ has c wV (Wt c)
      ∗ SendBusy 0 t.val c ∗ Ow (owed (t.val + 1) (t.val + 1) t.val t.val c) c)
      ⊢ WP (F := F) c (jp ⟨⟩) Q := by
    unfold jp
    simp +zetaDelta only []
    iintro ⟨#HC, Hsd, Hot, Hx0, Hp0, Hx1, Hp1, Hw, Hb0, HO⟩
    obtain h1 | h1 := Classical.em (k0_cond3 t = 1#1)
    rotate_left
    rw [dif_neg h1]
    ihave Hx1 := (xst_stay X 1 c (fun h' => h1 ((cond3_iff t).mpr h'))) $$ Hx1
    ihave Hp1 := (part_stay X Wt 1 c (fun h' => h1 ((cond3_iff t).mpr h'))) $$ Hp1
    rotate_left
    rw [dif_pos h1]
    obtain ⟨r3, e3⟩ : ∃ r, (given (k0_part7 (F := F))) v2 v378 = .ret r := ⟨_, rfl⟩
    unfold given at e3; rw [e3]
    simp only [Prog.bind_ret]
    obtain ⟨r4, e4⟩ : ∃ r, (given (k0_part8 (F := F))) v2 v378 r3.1 r3.2.1 r3.2.2.1 r3.2.2.2.1 r3.2.2.2.2.1 r3.2.2.2.2.2.1 r3.2.2.2.2.2.2 = .ret r := ⟨_, rfl⟩
    unfold given at e4; rw [e4]
    simp only [Prog.bind_ret, Prog.lift, Prog.bind_op]
    ihave Hx1 := (Entails.of_eq (XSt_eq (X := X) 1 (useOf t.val) c)) $$ Hx1
    ihave Hp1 := (part_open X Wt 1 c (useOf t.val)) $$ Hp1
    icases Hx1 with ⟨Hx, Hf⟩
    icases Hp1 with ⟨%P1, Hp1⟩
    iapply (op_xwait 1 (useOf t.val) (min 16 (useOf t.val + 2)) c (by have := useOf_lt ((cond3_iff t).mp h1); omega) (by omega) (owed_zero (t.val + 1) (t.val + 1) t.val t.val c)
      (congrArg SemLoc.dma (x1_sem (par (useOf t.val)) (off12_eq t h1) _)) ((congrArg (fun m => m.view.dmaCredit) (xslot_eq 1 (par (useOf t.val)) (off13_eq t h1) _)).trans (xslot_credit _ _))) $$ [Hx HO]
    · iframe HC Hx HO
    iintro ⟨Hx, Hs, HO⟩
    iapply (load_xslot c 1 (par (useOf t.val)) _ rfl (off15_eq t h1) _) $$ [Hs]
    · iexact Hs
    iintro Hs
    iapply (load_all c wV (Wt c)) $$ [Hw]
    · iexact Hw
    iintro Hw
    iapply (load_all c (partM 1) P1) $$ [Hp1]
    · iexact Hp1
    iintro Hp1
    iapply (store_all c (partM 1) _ P1) $$ [Hp1]
    · iexact Hp1
    iintro Hp1
    ihave Hp1 := (Entails.of_eq (congrArg (has c (partM 1)) (pay_dot1 c (useOf t.val) _))) $$ Hp1
    ihave Hp1 := (part_step X Wt 1 c ((cond3_iff t).mp h1)) $$ Hp1
    obtain h1' | h1' := Classical.em (k0_cond4 t = 1#1)
    rotate_left
    rw [dif_neg h1']
    icombine Hx Hf Hs as Hx1
    ihave Hx1 := (xst_late X 1 c ((cond3_iff t).mp h1) (fun h' => h1' ((cond4_iff t h1).mpr h')) _) $$ Hx1
    rotate_left
    rotate_left
    rw [dif_pos h1']
    obtain ⟨r1, e1⟩ : ∃ r, (given (k0_part5 (F := F))) v2 v378 = .ret r := ⟨_, rfl⟩
    unfold given at e1; rw [e1]
    simp only [Prog.bind_ret]
    obtain ⟨r2, e2⟩ : ∃ r, (given (k0_part6 (F := F))) v2 r1.1 r1.2.1 r1.2.2.1 r1.2.2.2.1 r1.2.2.2.2.1 r1.2.2.2.2.2.1 r1.2.2.2.2.2.2.1 r1.2.2.2.2.2.2.2.1 r1.2.2.2.2.2.2.2.2 = .ret r := ⟨_, rfl⟩
    unfold given at e2; rw [e2]
    simp only [Prog.bind_ret, Prog.lift, Prog.bind_op]
    iapply (op_xstart 1 (useOf t.val + 1) (min 16 (useOf t.val + 2)) c (by have := (cond4_iff t h1).mp h1'; omega) (.inr (by have := (cond4_iff t h1).mp h1'; omega))
      (xblk_eq (useBlk 1 c (min 16 (useOf t.val + 2))) ((off18_eq c t h1 h1').trans (by rw [Nat.min_eq_right (show useOf t.val + 2 ≤ 16 from ((cond4_iff t h1).mp h1').le)])) _)
      ((xslot_eq 1 (par (useOf t.val)) (off17_eq t h1 h1') _).trans (by rw [par_again ((cond4_iff t h1).mp h1')]))
      (congrArg SemLoc.dma ((x1_sem (par (useOf t.val)) (off16_eq t h1 h1') _).trans (by rw [par_again ((cond4_iff t h1).mp h1')])))) $$ [Hx Hs]
    · iframe HC Hx
      rw [par_again ((cond4_iff t h1).mp h1')]
      iexists _; iexact Hs
    iintro Hx
    icombine Hx Hf as Hx1
    ihave Hx1 := (xst_early X 1 c ((cond3_iff t).mp h1) ((cond4_iff t h1).mp h1')) $$ Hx1
    all_goals
      iapply (op_sendwait 0 t.val c hg (owed_zero (t.val + 1) (t.val + 1) t.val t.val c) (congrArg SemLoc.dma (send0_sem _)) (send_credit 0)) $$ [Hb0 HO]
      · iframe HC Hb0 HO
      iintro ⟨Hi, Hs, HO⟩
      iapply (ret_post hQ c _)
      iframe Hsd Hot Hx0 Hp0 Hx1 Hp1 Hw Hi Hs HO
  simp +zetaDelta only [] at hj ⊢
  obtain h0 | h0 := Classical.em (k0_cond1 t = 1#1)
  rotate_left
  rw [dif_neg h0]
  ihave Hx0 := (xst_stay X 0 c (fun h' => h0 ((cond1_iff t).mpr h'))) $$ Hx0
  ihave Hp0 := (part_stay X Wt 0 c (fun h' => h0 ((cond1_iff t).mpr h'))) $$ Hp0
  rotate_left
  rw [dif_pos h0]
  obtain ⟨r3, e3⟩ : ∃ r, (given (k0_part3 (F := F))) v2 v378 = .ret r := ⟨_, rfl⟩
  unfold given at e3; rw [e3]
  simp only [Prog.bind_ret]
  obtain ⟨r4, e4⟩ : ∃ r, (given (k0_part4 (F := F))) v2 v378 r3.1 r3.2.1 r3.2.2.1 r3.2.2.2.1 r3.2.2.2.2.1 r3.2.2.2.2.2.1 r3.2.2.2.2.2.2 = .ret r := ⟨_, rfl⟩
  unfold given at e4; rw [e4]
  simp only [Prog.bind_ret, Prog.lift, Prog.bind_op]
  ihave Hx0 := (Entails.of_eq (XSt_eq (X := X) 0 (useOf t.val) c)) $$ Hx0
  ihave Hp0 := (part_open X Wt 0 c (useOf t.val)) $$ Hp0
  icases Hx0 with ⟨Hx, Hf⟩
  icases Hp0 with ⟨%P0, Hp0⟩
  iapply (op_xwait 0 (useOf t.val) (min 16 (useOf t.val + 2)) c (by have := useOf_lt ((cond1_iff t).mp h0); omega) (by omega) (owed_zero (t.val + 1) (t.val + 1) t.val t.val c)
    (congrArg SemLoc.dma (x0_sem (par (useOf t.val)) (off5_eq t h0) _)) ((congrArg (fun m => m.view.dmaCredit) (xslot_eq 0 (par (useOf t.val)) (off6_eq t h0) _)).trans (xslot_credit _ _))) $$ [Hx HO]
  · iframe HC Hx HO
  iintro ⟨Hx, Hs, HO⟩
  iapply (load_xslot c 0 (par (useOf t.val)) _ rfl (off8_eq t h0) _) $$ [Hs]
  · iexact Hs
  iintro Hs
  iapply (load_all c wV (Wt c)) $$ [Hw]
  · iexact Hw
  iintro Hw
  iapply (load_all c (partM 0) P0) $$ [Hp0]
  · iexact Hp0
  iintro Hp0
  iapply (store_all c (partM 0) _ P0) $$ [Hp0]
  · iexact Hp0
  iintro Hp0
  ihave Hp0 := (Entails.of_eq (congrArg (has c (partM 0)) (pay_dot0 c (useOf t.val) _))) $$ Hp0
  ihave Hp0 := (part_step X Wt 0 c ((cond1_iff t).mp h0)) $$ Hp0
  obtain h0' | h0' := Classical.em (k0_cond2 t = 1#1)
  rotate_left
  rw [dif_neg h0']
  icombine Hx Hf Hs as Hx0
  ihave Hx0 := (xst_late X 0 c ((cond1_iff t).mp h0) (fun h' => h0' ((cond2_iff t h0).mpr h')) _) $$ Hx0
  rotate_left
  rotate_left
  rw [dif_pos h0']
  obtain ⟨r1, e1⟩ : ∃ r, (given (k0_part1 (F := F))) v2 v378 = .ret r := ⟨_, rfl⟩
  unfold given at e1; rw [e1]
  simp only [Prog.bind_ret]
  obtain ⟨r2, e2⟩ : ∃ r, (given (k0_part2 (F := F))) v2 r1.1 r1.2.1 r1.2.2.1 r1.2.2.2.1 r1.2.2.2.2.1 r1.2.2.2.2.2.1 r1.2.2.2.2.2.2.1 r1.2.2.2.2.2.2.2.1 r1.2.2.2.2.2.2.2.2 = .ret r := ⟨_, rfl⟩
  unfold given at e2; rw [e2]
  simp only [Prog.bind_ret, Prog.lift, Prog.bind_op]
  iapply (op_xstart 0 (useOf t.val + 1) (min 16 (useOf t.val + 2)) c (by have := (cond2_iff t h0).mp h0'; omega) (.inr (by have := (cond2_iff t h0).mp h0'; omega))
    (xblk_eq (useBlk 0 c (min 16 (useOf t.val + 2))) ((off11_eq c t h0 h0').trans (by rw [Nat.min_eq_right (show useOf t.val + 2 ≤ 16 from ((cond2_iff t h0).mp h0').le)])) _)
    ((xslot_eq 0 (par (useOf t.val)) (off10_eq t h0 h0') _).trans (by rw [par_again ((cond2_iff t h0).mp h0')]))
    (congrArg SemLoc.dma ((x0_sem (par (useOf t.val)) (off9_eq t h0 h0') _).trans (by rw [par_again ((cond2_iff t h0).mp h0')])))) $$ [Hx Hs]
  · iframe HC Hx
    rw [par_again ((cond2_iff t h0).mp h0')]
    iexists _; iexact Hs
  iintro Hx
  icombine Hx Hf as Hx0
  ihave Hx0 := (xst_early X 0 c ((cond1_iff t).mp h0) ((cond2_iff t h0).mp h0')) $$ Hx0
  all_goals
    iapply hj
    iframe HC Hsd Hot Hx0 Hp0 Hx1 Hp1 Hw Hb0 HO

end Cert.KernelIdeal.Ring

end
-- ==== Proof.KernelIdeal.TripC.lean ====
/-
  The work of a segment's later positions.
-/
module

public import proofs.«01_k».proof.Proof.KernelIdeal.TripB

@[expose] public section

noncomputable section

namespace Cert.KernelIdeal.Ring

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}
variable {κ : GSem nD τ sig → ℕ} {ι : Key → ℕ}
variable {α : Type} {Q : α → sProp 𝕄}

theorem out_hd {i : Fin 32} {m : Memref sig .tc .hbm S256x4096 .f32} (h : m = oblkM i) : m.view.dmaCredit = nO := by
  subst h; exact oblk_credit i

theorem site_before (b : Fin 2) {n : ℕ} (h : n % 4 = 0) (hn : 0 < n) : (![b.val, 3] : Fin 2 → ℕ) = ![b.val, (site (n - 1)).val] := by
  rw [show (site (n - 1)).val = 3 from (show (n - 1) % 4 = 3 by omega)]
theorem site_last2 (b : Fin 2) {n : ℕ} (h : n % 4 = 3) : (![b.val, 2] : Fin 2 → ℕ) = ![b.val, (site (n - 1)).val] := by
  rw [show (site (n - 1)).val = 2 from (show (n - 1) % 4 = 2 by omega)]
theorem site_last (b : Fin 2) {n : ℕ} (h : n % 4 = 3) : (![b.val, 3] : Fin 2 → ℕ) = ![b.val, (site n).val] := by
  rw [show (site n).val = 3 from h]
theorem site_first (b : Fin 2) {n : ℕ} (h : n % 4 = 0) : (![b.val, 0] : Fin 2 → ℕ) = ![b.val, (site n).val] := by
  rw [show (site n).val = 0 from h]

theorem OutBusy_st (b : Fin 2) (c : Dev nD) {g : ℕ} (h : 2 ≤ g % 6) : OutBusy X Wt b (outOf g) c = OutSt X Wt b (outOf (g + 1)) c := by
  rw [outOf_succ h]; rfl

/-- Position 2 of a segment, direction 0: the activation goes to the next device and to the output. -/
theorem part9_run (t : Trip) (c : Dev nD) (v2 v361 v373 : BitVec 32) (h : k0_cond6 t = 1#1) {O : CellTallies nD τ sig ℕ} (hO : Above 0 O)
    {Q : _ → sProp 𝕄} (hQ : ∀ a, iprop(OutIdle X Wt 0 (outOf t.val) c ∗ has c (ostM 0) (outV X Wt 0 c (outOf t.val)) ∗ has c (slotM 0 (par t.val)) (recvV X Wt 0 t.val c) ∗ has c (partM 0) (dotV X Wt c 0 (useOf (t.val + 1) - 1)) ∗ has c (sendM 0) (sendV X Wt 0 (t.val + 1) c) ∗ Ow O c) ⊢ Q a) :
    iprop(Ctx X Wt κ ι ∗ OutSt X Wt 0 (outOf t.val) c ∗ has c (slotM 0 (par t.val)) (recvV X Wt 0 t.val c) ∗ has c (partM 0) (dotV X Wt c 0 (useOf (t.val + 1) - 1)) ∗ has c (sendM 0) (sendV X Wt 0 t.val c) ∗ Ow O c) ⊢ WP (F := F) c ((given k0_part9) c v2 t v361 v373 h) Q := by
  have hg := trip_lt t
  have hk := (cond6_iff t).mp h
  unfold given; rw [k0_part9_eq_skeleton]
  unfold k0_part9_skel
  simp only [Prog.lift, Prog.bind_op, Prog.bind_ret, Prog.pure_eq_ret]
  iintro ⟨#HC, Ho, Hsl, Hp, Hs, HO⟩
  obtain h7 | h7 := Classical.em (k0_cond7 t = 1#1)
  rotate_left
  rw [dif_neg h7]
  ihave Ho := (OutSt_first 0 (outOf t.val) c (by have := mt (cond7_iff t h).mpr h7; omega)) $$ Ho
  icases Ho with ⟨Ho, Hw⟩
  icases Hw with ⟨%w, Hw⟩
  rotate_left
  rw [dif_pos h7]
  have hpos := (cond7_iff t h).mp h7
  ihave Ho := (OutSt_busy 0 (outOf t.val) c hpos) $$ Ho
  iapply (op_outwait 0 (outOf t.val - 1) c (by have := outOf_lt hg; omega) hO (congrArg SemLoc.dma (out0_sem (site (outOf t.val - 1)) (site_before 0 (show outOf t.val % 4 = 0 by rw [outOf_mod (by omega)]; omega) hpos) _))
      (out_hd (oblk_eq (outBlk 0 c (outOf t.val - 1)) (off20_eq c t h h7) _))) $$ [Ho HO]
  · iframe HC Ho HO
  iintro ⟨Ho, Hw, HO⟩
  icases Hw with ⟨%w, Hw⟩
  ihave Ho := (Entails.of_eq (congrArg (fun n => OutIdle X Wt 0 n c) (Nat.sub_add_cancel hpos))) $$ Ho
  all_goals
    iapply (load_slot c 0 (par t.val) _ rfl (off21_eq t) _) $$ [Hsl]
    · iexact Hsl
    iintro Hsl
    iapply (load_all c (partM 0) _) $$ [Hp]
    · iexact Hp
    iintro Hp
    iapply (load_all c (sendM 0) _) $$ [Hs]
    · iexact Hs
    iintro Hs
    iapply (store_all c (sendM 0) _ _) $$ [Hs]
    · iexact Hs
    iintro Hs
    ihave Hs := (Entails.of_eq (congrArg (has c (sendM 0)) ((pay2_eq (recvV X Wt 0 t.val c) (dotV X Wt c 0 (useOf (t.val + 1) - 1)) _).trans (send_act 0 t.val c hk).symm))) $$ Hs
    iapply (load_all c (ostM 0) _) $$ [Hw]
    · iexact Hw
    iintro Hw
    iapply (store_all c (ostM 0) _ _) $$ [Hw]
    · iexact Hw
    iintro Hw
    ihave Hw := (Entails.of_eq (congrArg (has c (ostM 0)) ((pay3_eq (recvV X Wt 0 t.val c) (dotV X Wt c 0 (useOf (t.val + 1) - 1)) _).trans (out_act 0 t.val c hk).symm))) $$ Hw
    iapply (ret_post hQ c _)
    iframe Ho Hw Hsl Hp Hs HO

/-- Positions 3 and 4, direction 0: what arrived is passed on. -/
theorem part10_run (t : Trip) (c : Dev nD) (v2 v361 v363 v373 : BitVec 32) (h : k0_cond8 t = 1#1) {O : CellTallies nD τ sig ℕ} (hO : Above 0 O)
    {Q : (Σ' (_ : BitVec 32), FVec F S256x4096 .f32) → sProp 𝕄} (hQ : ∀ a, iprop(⌜a.2 = outV X Wt 0 c (outOf t.val)⌝ ∗ some' c (ostM 0) ∗ OutIdle X Wt 0 (outOf t.val) c ∗ has c (slotM 0 (par t.val)) (recvV X Wt 0 t.val c) ∗ has c (sendM 0) (sendV X Wt 0 (t.val + 1) c) ∗ Ow O c) ⊢ Q a) :
    iprop(Ctx X Wt κ ι ∗ OutSt X Wt 0 (outOf t.val) c ∗ has c (slotM 0 (par t.val)) (recvV X Wt 0 t.val c) ∗ has c (sendM 0) (sendV X Wt 0 t.val c) ∗ Ow O c) ⊢ WP (F := F) c ((given k0_part10) c v2 t v361 v363 v373 h) Q := by
  have hg := trip_lt t
  have hk := (cond8_iff t).mp h
  have hpos : 0 < outOf t.val := by unfold outOf; omega
  unfold given; rw [k0_part10_eq_skeleton]
  unfold k0_part10_skel
  simp only [Prog.lift, Prog.bind_op, Prog.bind_ret, Prog.pure_eq_ret]
  iintro ⟨#HC, Ho, Hsl, Hs, HO⟩
  ihave Ho := (OutSt_busy 0 (outOf t.val) c hpos) $$ Ho
  iapply (op_outwait 0 (outOf t.val - 1) c (by have := outOf_lt hg; omega) hO (congrArg SemLoc.dma (out0_sem (site (outOf t.val - 1)) (off23_eq t h) _))
      (out_hd (oblk_eq (outBlk 0 c (outOf t.val - 1)) (off24_eq c t h) _))) $$ [Ho HO]
  · iframe HC Ho HO
  iintro ⟨Ho, Hw, HO⟩
  icases Hw with ⟨%w, Hw⟩
  ihave Ho := (Entails.of_eq (congrArg (fun n => OutIdle X Wt 0 n c) (Nat.sub_add_cancel hpos))) $$ Ho
  iapply (load_slot c 0 (par t.val) _ rfl (off25_eq t) _) $$ [Hsl]
  · iexact Hsl
  iintro Hsl
  iapply (load_all c (sendM 0) _) $$ [Hs]
  · iexact Hs
  iintro Hs
  iapply (store_all c (sendM 0) _ _) $$ [Hs]
  · iexact Hs
  iintro Hs
  ihave Hs := (Entails.of_eq (congrArg (has c (sendM 0)) ((pay4_eq (recvV X Wt 0 t.val c) _).trans (send_pass 0 t.val c hk).symm))) $$ Hs
  iapply (load_slot c 0 (par t.val) _ rfl (off25_eq t) _) $$ [Hsl]
  · iexact Hsl
  iintro Hsl
  iapply (load_all c (ostM 0) _) $$ [Hw]
  · iexact Hw
  iintro Hw
  iapply (ret_post hQ c _)
  isplitr
  · ipureintro
    exact (pay5_eq (recvV X Wt 0 t.val c) _).trans (out_pass 0 t.val c (by omega)).symm
  isplitl [Hw]; · iexists w; iexact Hw
  iframe Ho Hsl Hs HO

/-- Position 5, direction 0: the last of a segment is kept. -/
theorem part11_run (t : Trip) (c : Dev nD) (v2 v361 v373 : BitVec 32) (h : k0_cond9 t = 1#1) {O : CellTallies nD τ sig ℕ} (hO : Above 0 O)
    {Q : _ → sProp 𝕄} (hQ : ∀ a, iprop(OutIdle X Wt 0 (outOf t.val) c ∗ has c (ostM 0) (outV X Wt 0 c (outOf t.val)) ∗ has c (slotM 0 (par t.val)) (recvV X Wt 0 t.val c) ∗ Ow O c) ⊢ Q a) :
    iprop(Ctx X Wt κ ι ∗ OutSt X Wt 0 (outOf t.val) c ∗ has c (slotM 0 (par t.val)) (recvV X Wt 0 t.val c) ∗ Ow O c) ⊢ WP (F := F) c ((given k0_part11) c v2 t v361 v373 h) Q := by
  have hg := trip_lt t
  have hk := (cond9_iff t).mp h
  have hpos : 0 < outOf t.val := by unfold outOf; omega
  unfold given; rw [k0_part11_eq_skeleton]
  unfold k0_part11_skel
  simp only [Prog.lift, Prog.bind_op, Prog.bind_ret, Prog.pure_eq_ret]
  iintro ⟨#HC, Ho, Hsl, HO⟩
  ihave Ho := (OutSt_busy 0 (outOf t.val) c hpos) $$ Ho
  iapply (op_outwait 0 (outOf t.val - 1) c (by have := outOf_lt hg; omega) hO (congrArg SemLoc.dma (out0_sem (site (outOf t.val - 1)) (site_last2 0 (show outOf t.val % 4 = 3 by rw [outOf_mod (by omega)]; omega)) _))
      (out_hd (oblk_eq (outBlk 0 c (outOf t.val - 1)) (off28_eq1 c t h) _))) $$ [Ho HO]
  · iframe HC Ho HO
  iintro ⟨Ho, Hw, HO⟩
  icases Hw with ⟨%w, Hw⟩
  ihave Ho := (Entails.of_eq (congrArg (fun n => OutIdle X Wt 0 n c) (Nat.sub_add_cancel hpos))) $$ Ho
  iapply (load_slot c 0 (par t.val) _ rfl (off29_eq t) _) $$ [Hsl]
  · iexact Hsl
  iintro Hsl
  iapply (load_all c (ostM 0) _) $$ [Hw]
  · iexact Hw
  iintro Hw
  iapply (store_all c (ostM 0) _ _) $$ [Hw]
  · iexact Hw
  iintro Hw
  ihave Hw := (Entails.of_eq (congrArg (has c (ostM 0)) ((pay6_eq (recvV X Wt 0 t.val c) _).trans (out_pass 0 t.val c (by omega)).symm))) $$ Hw
  iapply (ret_post hQ c _)
  iframe Ho Hw Hsl HO

/-- Position 2 of a segment, direction 1: the activation goes to the next device and to the output. -/
theorem part12_run (t : Trip) (c : Dev nD) (v2 v361 v373 : BitVec 32) (h : k0_cond11 t = 1#1) {O : CellTallies nD τ sig ℕ} (hO : Above 0 O)
    {Q : _ → sProp 𝕄} (hQ : ∀ a, iprop(OutIdle X Wt 1 (outOf t.val) c ∗ has c (ostM 1) (outV X Wt 1 c (outOf t.val)) ∗ has c (slotM 1 (par t.val)) (recvV X Wt 1 t.val c) ∗ has c (partM 1) (dotV X Wt c 1 (useOf (t.val + 1) - 1)) ∗ has c (sendM 1) (sendV X Wt 1 (t.val + 1) c) ∗ Ow O c) ⊢ Q a) :
    iprop(Ctx X Wt κ ι ∗ OutSt X Wt 1 (outOf t.val) c ∗ has c (slotM 1 (par t.val)) (recvV X Wt 1 t.val c) ∗ has c (partM 1) (dotV X Wt c 1 (useOf (t.val + 1) - 1)) ∗ has c (sendM 1) (sendV X Wt 1 t.val c) ∗ Ow O c) ⊢ WP (F := F) c ((given k0_part12) c v2 t v361 v373 h) Q := by
  have hg := trip_lt t
  have hk := (cond11_iff t).mp h
  unfold given; rw [k0_part12_eq_skeleton]
  unfold k0_part12_skel
  simp only [Prog.lift, Prog.bind_op, Prog.bind_ret, Prog.pure_eq_ret]
  iintro ⟨#HC, Ho, Hsl, Hp, Hs, HO⟩
  obtain h7 | h7 := Classical.em (k0_cond12 t = 1#1)
  rotate_left
  rw [dif_neg h7]
  ihave Ho := (OutSt_first 1 (outOf t.val) c (by have := mt (cond12_iff t h).mpr h7; omega)) $$ Ho
  icases Ho with ⟨Ho, Hw⟩
  icases Hw with ⟨%w, Hw⟩
  rotate_left
  rw [dif_pos h7]
  have hpos := (cond12_iff t h).mp h7
  ihave Ho := (OutSt_busy 1 (outOf t.val) c hpos) $$ Ho
  iapply (op_outwait 1 (outOf t.val - 1) c (by have := outOf_lt hg; omega) hO (congrArg SemLoc.dma (out1_sem (site (outOf t.val - 1)) (site_before 1 (show outOf t.val % 4 = 0 by rw [outOf_mod (by omega)]; omega) hpos) _))
      (out_hd (oblk_eq (outBlk 1 c (outOf t.val - 1)) (off31_eq c t h h7) _))) $$ [Ho HO]
  · iframe HC Ho HO
  iintro ⟨Ho, Hw, HO⟩
  icases Hw with ⟨%w, Hw⟩
  ihave Ho := (Entails.of_eq (congrArg (fun n => OutIdle X Wt 1 n c) (Nat.sub_add_cancel hpos))) $$ Ho
  all_goals
    iapply (load_slot c 1 (par t.val) _ rfl (off32_eq t) _) $$ [Hsl]
    · iexact Hsl
    iintro Hsl
    iapply (load_all c (partM 1) _) $$ [Hp]
    · iexact Hp
    iintro Hp
    iapply (load_all c (sendM 1) _) $$ [Hs]
    · iexact Hs
    iintro Hs
    iapply (store_all c (sendM 1) _ _) $$ [Hs]
    · iexact Hs
    iintro Hs
    ihave Hs := (Entails.of_eq (congrArg (has c (sendM 1)) ((pay8_eq (recvV X Wt 1 t.val c) (dotV X Wt c 1 (useOf (t.val + 1) - 1)) _).trans (send_act 1 t.val c hk).symm))) $$ Hs
    iapply (load_all c (ostM 1) _) $$ [Hw]
    · iexact Hw
    iintro Hw
    iapply (store_all c (ostM 1) _ _) $$ [Hw]
    · iexact Hw
    iintro Hw
    ihave Hw := (Entails.of_eq (congrArg (has c (ostM 1)) ((pay9_eq (recvV X Wt 1 t.val c) (dotV X Wt c 1 (useOf (t.val + 1) - 1)) _).trans (out_act 1 t.val c hk).symm))) $$ Hw
    iapply (ret_post hQ c _)
    iframe Ho Hw Hsl Hp Hs HO

/-- Positions 3 and 4, direction 1: what arrived is passed on. -/
theorem part13_run (t : Trip) (c : Dev nD) (v2 v361 v363 v373 : BitVec 32) (h : k0_cond13 t = 1#1) {O : CellTallies nD τ sig ℕ} (hO : Above 0 O)
    {Q : (Σ' (_ : BitVec 32), FVec F S256x4096 .f32) → sProp 𝕄} (hQ : ∀ a, iprop(⌜a.2 = outV X Wt 1 c (outOf t.val)⌝ ∗ some' c (ostM 1) ∗ OutIdle X Wt 1 (outOf t.val) c ∗ has c (slotM 1 (par t.val)) (recvV X Wt 1 t.val c) ∗ has c (sendM 1) (sendV X Wt 1 (t.val + 1) c) ∗ Ow O c) ⊢ Q a) :
    iprop(Ctx X Wt κ ι ∗ OutSt X Wt 1 (outOf t.val) c ∗ has c (slotM 1 (par t.val)) (recvV X Wt 1 t.val c) ∗ has c (sendM 1) (sendV X Wt 1 t.val c) ∗ Ow O c) ⊢ WP (F := F) c ((given k0_part13) c v2 t v361 v363 v373 h) Q := by
  have hg := trip_lt t
  have hk := (cond13_iff t).mp h
  have hpos : 0 < outOf t.val := by unfold outOf; omega
  unfold given; rw [k0_part13_eq_skeleton]
  unfold k0_part13_skel
  simp only [Prog.lift, Prog.bind_op, Prog.bind_ret, Prog.pure_eq_ret]
  iintro ⟨#HC, Ho, Hsl, Hs, HO⟩
  ihave Ho := (OutSt_busy 1 (outOf t.val) c hpos) $$ Ho
  iapply (op_outwait 1 (outOf t.val - 1) c (by have := outOf_lt hg; omega) hO (congrArg SemLoc.dma (out1_sem (site (outOf t.val - 1)) (off34_eq t h) _))
      (out_hd (oblk_eq (outBlk 1 c (outOf t.val - 1)) (off35_eq c t h) _))) $$ [Ho HO]
  · iframe HC Ho HO
  iintro ⟨Ho, Hw, HO⟩
  icases Hw with ⟨%w, Hw⟩
  ihave Ho := (Entails.of_eq (congrArg (fun n => OutIdle X Wt 1 n c) (Nat.sub_add_cancel hpos))) $$ Ho
  iapply (load_slot c 1 (par t.val) _ rfl (off36_eq t) _) $$ [Hsl]
  · iexact Hsl
  iintro Hsl
  iapply (load_all c (sendM 1) _) $$ [Hs]
  · iexact Hs
  iintro Hs
  iapply (store_all c (sendM 1) _ _) $$ [Hs]
  · iexact Hs
  iintro Hs
  ihave Hs := (Entails.of_eq (congrArg (has c (sendM 1)) ((pay10_eq (recvV X Wt 1 t.val c) _).trans (send_pass 1 t.val c hk).symm))) $$ Hs
  iapply (load_slot c 1 (par t.val) _ rfl (off36_eq t) _) $$ [Hsl]
  · iexact Hsl
  iintro Hsl
  iapply (load_all c (ostM 1) _) $$ [Hw]
  · iexact Hw
  iintro Hw
  iapply (ret_post hQ c _)
  isplitr
  · ipureintro
    exact (pay11_eq (recvV X Wt 1 t.val c) _).trans (out_pass 1 t.val c (by omega)).symm
  isplitl [Hw]; · iexists w; iexact Hw
  iframe Ho Hsl Hs HO

/-- Position 5, direction 1: the last of a segment is kept. -/
theorem part14_run (t : Trip) (c : Dev nD) (v2 v361 v373 : BitVec 32) (h : k0_cond14 t = 1#1) {O : CellTallies nD τ sig ℕ} (hO : Above 0 O)
    {Q : _ → sProp 𝕄} (hQ : ∀ a, iprop(OutIdle X Wt 1 (outOf t.val) c ∗ has c (ostM 1) (outV X Wt 1 c (outOf t.val)) ∗ has c (slotM 1 (par t.val)) (recvV X Wt 1 t.val c) ∗ Ow O c) ⊢ Q a) :
    iprop(Ctx X Wt κ ι ∗ OutSt X Wt 1 (outOf t.val) c ∗ has c (slotM 1 (par t.val)) (recvV X Wt 1 t.val c) ∗ Ow O c) ⊢ WP (F := F) c ((given k0_part14) c v2 t v361 v373 h) Q := by
  have hg := trip_lt t
  have hk := (cond14_iff t).mp h
  have hpos : 0 < outOf t.val := by unfold outOf; omega
  unfold given; rw [k0_part14_eq_skeleton]
  unfold k0_part14_skel
  simp only [Prog.lift, Prog.bind_op, Prog.bind_ret, Prog.pure_eq_ret]
  iintro ⟨#HC, Ho, Hsl, HO⟩
  ihave Ho := (OutSt_busy 1 (outOf t.val) c hpos) $$ Ho
  iapply (op_outwait 1 (outOf t.val - 1) c (by have := outOf_lt hg; omega) hO (congrArg SemLoc.dma (out1_sem (site (outOf t.val - 1)) (site_last2 1 (show outOf t.val % 4 = 3 by rw [outOf_mod (by omega)]; omega)) _))
      (out_hd (oblk_eq (outBlk 1 c (outOf t.val - 1)) (off39_eq1 c t h) _))) $$ [Ho HO]
  · iframe HC Ho HO
  iintro ⟨Ho, Hw, HO⟩
  icases Hw with ⟨%w, Hw⟩
  ihave Ho := (Entails.of_eq (congrArg (fun n => OutIdle X Wt 1 n c) (Nat.sub_add_cancel hpos))) $$ Ho
  iapply (load_slot c 1 (par t.val) _ rfl (off40_eq t) _) $$ [Hsl]
  · iexact Hsl
  iintro Hsl
  iapply (load_all c (ostM 1) _) $$ [Hw]
  · iexact Hw
  iintro Hw
  iapply (store_all c (ostM 1) _ _) $$ [Hw]
  · iexact Hw
  iintro Hw
  ihave Hw := (Entails.of_eq (congrArg (has c (ostM 1)) ((pay12_eq (recvV X Wt 1 t.val c) _).trans (out_pass 1 t.val c (by omega)).symm))) $$ Hw
  iapply (ret_post hQ c _)
  iframe Ho Hw Hsl HO

end Cert.KernelIdeal.Ring

end
-- ==== Proof.KernelIdeal.TripD.lean ====
/-
  The arrivals of one trip and the work on what arrived.
-/
module

public import proofs.«01_k».proof.Proof.KernelIdeal.TripC

@[expose] public section

noncomputable section

namespace Cert.KernelIdeal.Ring

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}
variable {κ : GSem nD τ sig → ℕ} {ι : Key → ℕ}
variable {α : Type} {Q : α → sProp 𝕄}

variable (X Wt) in
/-- Direction `b` before its work of step `g` on the arrived slot. -/
abbrev Fresh (b : Fin 2) (g : ℕ) (c : Dev nD) : sProp 𝕄 :=
  iprop(OutSt X Wt b (outOf g) c ∗ has c (slotM b (par g)) (recvV X Wt b g c) ∗ has c (partM b) (dotV X Wt c b (useOf (g + 1) - 1)) ∗ has c (sendM b) (sendV X Wt b g c))

variable (X Wt) in
/-- Direction `b` after its work of step `g`: the send buffer holds the next value, the slot is free. -/
abbrev Worked (b : Fin 2) (g : ℕ) (c : Dev nD) : sProp 𝕄 :=
  iprop(OutSt X Wt b (outOf (g + 1)) c ∗ some' c (slotM b (par g)) ∗ has c (partM b) (dotV X Wt c b (useOf (g + 1) - 1)) ∗ has c (sendM b) (sendV X Wt b (g + 1) c))

variable (X Wt) in
/-- Direction 1 between its first two cases and its last two. -/
abbrev Halfway (g : ℕ) (c : Dev nD) : sProp 𝕄 :=
  iprop((⌜g % 6 ≤ 2⌝ ∗ Worked X Wt 1 g c) ∨ (⌜2 < g % 6⌝ ∗ Fresh X Wt 1 g c))

theorem slot_hd (b p : Fin 2) {m : Memref sig .tc .vmem S256x4096 .bf16} (h : m = slotM b p) : m.view.dmaCredit = nS := by
  subst h; exact slot_credit b p

/-- The arrival of direction 0 and its work on what arrived. -/
theorem part18_run (t : Trip) (c : Dev nD) (v2 v361 v363 v373 v445 z : BitVec 32) {Q : _ → sProp 𝕄}
    (hQ : ∀ a, iprop(RCells 0 (t.val + 1) c ∗ Worked X Wt 0 t.val c ∗ Ow (owed (t.val + 1) (t.val + 1) t.val t.val c) c) ⊢ Q a) :
    iprop(Ctx X Wt κ ι ∗ RCells 0 t.val c ∗ (OutSt X Wt 0 (outOf t.val) c ∗ has c (partM 0) (dotV X Wt c 0 (useOf (t.val + 1) - 1)) ∗ has c (sendM 0) (sendV X Wt 0 t.val c)) ∗ Ow (owed (t.val + 1) (t.val + 1) t.val t.val c) c)
      ⊢ WP (F := F) c ((given k0_part18) c v2 t v361 v363 v373 v445 z) Q := by
  have hg := trip_lt t
  unfold given; rw [k0_part18_eq_skeleton]
  unfold k0_part18_skel
  simp only [Prog.lift, Prog.bind_op, Prog.bind_ret, Prog.pure_eq_ret, semWaitWord, semSignalWord]
  iintro ⟨#HC, HR, ⟨Ho, Hp, Hs⟩, HO⟩
  iapply (op_recvwait 0 t.val c hg (owed_recv _ (t.val + 1) (t.val + 1) t.val t.val c (by omega) (by omega) (by omega) (by omega)) (congrArg SemLoc.dma (recv0_sem (par t.val) (off2_eq t) _)) (slot_hd 0 (par t.val) (slot_eq 0 (par t.val) (off3_eq t) _))) $$ [HR HO]
  · iframe HC HR HO
  iintro ⟨HR, Hsl, HO⟩
  rcases (show t.val % 6 < 2 ∨ t.val % 6 = 2 ∨ (t.val % 6 = 3 ∨ t.val % 6 = 4) ∨ t.val % 6 = 5 by omega) with h | h | h | h
  · have h5 : k0_cond5 t = 1#1 := (cond5_iff t).mpr h
    have h6 : ¬ k0_cond6 t = 1#1 := fun h' => by have := (cond6_iff t).mp h'; omega
    have h8 : ¬ k0_cond8 t = 1#1 := fun h' => by have := (cond8_iff t).mp h'; omega
    have h9 : ¬ k0_cond9 t = 1#1 := fun h' => by have := (cond9_iff t).mp h'; omega
    simp only [dif_pos h5, dif_neg h6, dif_neg h8, dif_neg h9, Prog.bind_op, Prog.bind_ret]
    iapply (load_slot c 0 (par t.val) _ rfl (off19_eq t) _) $$ [Hsl]
    · iexact Hsl
    iintro Hsl
    iapply (load_all c (partM 0) _) $$ [Hp]
    · iexact Hp
    iintro Hp
    iapply (load_all c (sendM 0) _) $$ [Hs]
    · iexact Hs
    iintro Hs
    iapply (store_all c (sendM 0) _ _) $$ [Hs]
    · iexact Hs
    iintro Hs
    ihave Hs := (Entails.of_eq (congrArg (has c (sendM 0)) ((pay15_eq (recvV X Wt 0 t.val c) (dotV X Wt c 0 (useOf (t.val + 1) - 1)) _).trans (send_early 0 t.val c h).symm))) $$ Hs
    ihave Ho := (Entails.of_eq (congrArg (fun n => OutSt X Wt 0 n c) (outOf_succ_early h).symm)) $$ Ho
    iapply (ret_post hQ c _)
    iframe HR Ho Hp Hs HO
    iexists _; iexact Hsl
  · have h5 : ¬ k0_cond5 t = 1#1 := fun h' => by have := (cond5_iff t).mp h'; omega
    have h6 : k0_cond6 t = 1#1 := (cond6_iff t).mpr h
    have h8 : ¬ k0_cond8 t = 1#1 := fun h' => by have := (cond8_iff t).mp h'; omega
    have h9 : ¬ k0_cond9 t = 1#1 := fun h' => by have := (cond9_iff t).mp h'; omega
    simp only [dif_neg h5, dif_pos h6, dif_neg h8, dif_neg h9, Prog.bind_op, Prog.bind_ret]
    iapply (seq_run (fun a => iprop(OutIdle X Wt 0 (outOf t.val) c ∗ has c (ostM 0) (outV X Wt 0 c (outOf t.val)) ∗ has c (slotM 0 (par t.val)) (recvV X Wt 0 t.val c) ∗ has c (partM 0) (dotV X Wt c 0 (useOf (t.val + 1) - 1)) ∗ has c (sendM 0) (sendV X Wt 0 (t.val + 1) c) ∗ Ow (owed (t.val + 1) (t.val + 1) t.val t.val c) c)) c _ _) $$ [Ho Hsl Hp Hs HO]
    · iapply (part9_run t c _ _ _ h6 (owed_zero (t.val + 1) (t.val + 1) t.val t.val c) (fun _ => BI.Entails.refl _)) $$ [Ho Hsl Hp Hs HO]
      iframe HC Ho Hsl Hp Hs HO
    iintro %a ⟨Ho, Hw, Hsl, Hp, Hs, HO⟩
    obtain ⟨_, a⟩ := a
    iapply (op_outstart 0 (outOf t.val) c (outOf_lt hg) rfl (oblk_eq (outBlk 0 c (outOf t.val)) (off22_eq c t h6) _)
        (congrArg SemLoc.dma (out0_sem (site (outOf t.val)) (site_first 0 (show outOf t.val % 4 = 0 by rw [outOf_mod (by omega)]; omega)) _))) $$ [Ho Hw]
    · iframe HC Ho Hw
    iintro Ho
    ihave Ho := (Entails.of_eq (OutBusy_st 0 c (show 2 ≤ t.val % 6 by omega))) $$ Ho
    iapply (ret_post hQ c _)
    iframe HR Ho Hp Hs HO
    iexists _; iexact Hsl
  · have h5 : ¬ k0_cond5 t = 1#1 := fun h' => by have := (cond5_iff t).mp h'; omega
    have h6 : ¬ k0_cond6 t = 1#1 := fun h' => by have := (cond6_iff t).mp h'; omega
    have h8 : k0_cond8 t = 1#1 := (cond8_iff t).mpr h
    have h9 : ¬ k0_cond9 t = 1#1 := fun h' => by have := (cond9_iff t).mp h'; omega
    simp only [dif_neg h5, dif_neg h6, dif_pos h8, dif_neg h9, Prog.bind_op, Prog.bind_ret]
    iapply (seq_run (fun a => iprop(⌜a.2 = outV X Wt 0 c (outOf t.val)⌝ ∗ some' c (ostM 0) ∗ OutIdle X Wt 0 (outOf t.val) c ∗ has c (slotM 0 (par t.val)) (recvV X Wt 0 t.val c) ∗ has c (sendM 0) (sendV X Wt 0 (t.val + 1) c) ∗ Ow (owed (t.val + 1) (t.val + 1) t.val t.val c) c)) c _ _) $$ [Ho Hsl Hs HO]
    · iapply (part10_run t c _ _ _ _ h8 (owed_zero (t.val + 1) (t.val + 1) t.val t.val c) (fun _ => BI.Entails.refl _)) $$ [Ho Hsl Hs HO]
      iframe HC Ho Hsl Hs HO
    iintro %a ⟨%ha, Hw, Ho, Hsl, Hs, HO⟩
    obtain ⟨z, a⟩ := a
    icases Hw with ⟨%w, Hw⟩
    iapply (store_all c (ostM 0) _ _) $$ [Hw]
    · iexact Hw
    iintro Hw
    ihave Hw := (Entails.of_eq (congrArg (has c (ostM 0)) (show a = outV X Wt 0 c (outOf t.val) from ha))) $$ Hw
    iapply (op_outstart 0 (outOf t.val) c (outOf_lt hg) rfl (oblk_eq (outBlk 0 c (outOf t.val)) (off27_eq c t h8) _)
        (congrArg SemLoc.dma (out0_sem (site (outOf t.val)) (off26_eq t h8) _))) $$ [Ho Hw]
    · iframe HC Ho Hw
    iintro Ho
    ihave Ho := (Entails.of_eq (OutBusy_st 0 c (show 2 ≤ t.val % 6 by omega))) $$ Ho
    iapply (ret_post hQ c _)
    iframe HR Ho Hp Hs HO
    iexists _; iexact Hsl
  · have h5 : ¬ k0_cond5 t = 1#1 := fun h' => by have := (cond5_iff t).mp h'; omega
    have h6 : ¬ k0_cond6 t = 1#1 := fun h' => by have := (cond6_iff t).mp h'; omega
    have h8 : ¬ k0_cond8 t = 1#1 := fun h' => by have := (cond8_iff t).mp h'; omega
    have h9 : k0_cond9 t = 1#1 := (cond9_iff t).mpr h
    simp only [dif_neg h5, dif_neg h6, dif_neg h8, dif_pos h9, Prog.bind_op, Prog.bind_ret]
    iapply (seq_run (fun a => iprop(OutIdle X Wt 0 (outOf t.val) c ∗ has c (ostM 0) (outV X Wt 0 c (outOf t.val)) ∗ has c (slotM 0 (par t.val)) (recvV X Wt 0 t.val c) ∗ Ow (owed (t.val + 1) (t.val + 1) t.val t.val c) c)) c _ _) $$ [Ho Hsl HO]
    · iapply (part11_run t c _ _ _ h9 (owed_zero (t.val + 1) (t.val + 1) t.val t.val c) (fun _ => BI.Entails.refl _)) $$ [Ho Hsl HO]
      iframe HC Ho Hsl HO
    iintro %a ⟨Ho, Hw, Hsl, HO⟩
    obtain ⟨_, a⟩ := a
    iapply (op_outstart 0 (outOf t.val) c (outOf_lt hg) rfl (oblk_eq (outBlk 0 c (outOf t.val)) (off28_eq2 c t h9) _)
        (congrArg SemLoc.dma (out0_sem (site (outOf t.val)) (site_last 0 (show outOf t.val % 4 = 3 by rw [outOf_mod (by omega)]; omega)) _))) $$ [Ho Hw]
    · iframe HC Ho Hw
    iintro Ho
    ihave Ho := (Entails.of_eq (OutBusy_st 0 c (show 2 ≤ t.val % 6 by omega))) $$ Ho
    iapply (load_all c (partM 0) _) $$ [Hp]
    · iexact Hp
    iintro Hp
    iapply (load_all c (sendM 0) _) $$ [Hs]
    · iexact Hs
    iintro Hs
    iapply (store_all c (sendM 0) _ _) $$ [Hs]
    · iexact Hs
    iintro Hs
    ihave Hs := (Entails.of_eq (congrArg (has c (sendM 0)) ((pay16_eq (dotV X Wt c 0 (useOf (t.val + 1) - 1))).trans (send_start 0 t.val c h).symm))) $$ Hs
    iapply (ret_post hQ c _)
    iframe HR Ho Hp Hs HO
    iexists _; iexact Hsl

/-- The credit of direction 0, the return of direction 1's send buffer, its arrival and the first of its work. -/
theorem part19_run (t : Trip) (c : Dev nD) (v2 v361 v363 v373 v478 z : BitVec 32) {Q : _ → sProp 𝕄}
    (hQ : ∀ a, iprop(CreditToks 0 (t.val + 1) c ∗ RCells 0 (t.val + 1) c ∗ Readers 0 (t.val + 1) c ∗ SendIdle 1 (t.val + 1) c ∗ RCells 1 (t.val + 1) c ∗ Halfway X Wt t.val c ∗ Ow (owed (t.val + 1) (t.val + 1) (t.val + 1) t.val c) c) ⊢ Q a) :
    iprop(Ctx X Wt κ ι ∗ CreditToks 0 t.val c ∗ RCells 0 (t.val + 1) c ∗ Readers 0 t.val c ∗ some' c (slotM 0 (par t.val)) ∗ SendBusy 1 t.val c ∗ RCells 1 t.val c
        ∗ (OutSt X Wt 1 (outOf t.val) c ∗ has c (partM 1) (dotV X Wt c 1 (useOf (t.val + 1) - 1))) ∗ Ow (owed (t.val + 1) (t.val + 1) t.val t.val c) c)
      ⊢ WP (F := F) c ((given k0_part19) c v2 t v361 v363 v373 v478 z) Q := by
  have hg := trip_lt t
  unfold given; rw [k0_part19_eq_skeleton]
  unfold k0_part19_skel
  simp only [Prog.lift, Prog.bind_op, Prog.bind_ret, Prog.pure_eq_ret, semWaitWord, semSignalWord]
  iintro ⟨#HC, Hct, HR0, Hrd, Hsl0, Hb, HR, ⟨Ho, Hp⟩, HO⟩
  iapply (op_credit_signal 0 t.val c _ (dev5_eq c) hg (owed (t.val + 1) (t.val + 1) (t.val + 1) t.val c) (owed_credit0 hg _ _ _ c) (congrArg SemLoc.reg (credit0_sem _)) rfl) $$ [Hct HR0 Hrd Hsl0 HO]
  · iframe HC Hct HR0 Hrd Hsl0 HO
  iintro ⟨Hct, HR0, Hrd, HO⟩
  iapply (op_sendwait 1 t.val c hg (owed_zero (t.val + 1) (t.val + 1) (t.val + 1) t.val c) (congrArg SemLoc.dma (send1_sem _)) (send_credit 1)) $$ [Hb HO]
  · iframe HC Hb HO
  iintro ⟨Hi, Hs, HO⟩
  iapply (op_recvwait 1 t.val c hg (owed_recv _ (t.val + 1) (t.val + 1) (t.val + 1) t.val c (by omega) (by omega) (by omega) (by omega)) (congrArg SemLoc.dma (recv1_sem (par t.val) (off4_eq t) _)) (slot_hd 1 (par t.val) (slot_eq 1 (par t.val) (off3_eq t) _))) $$ [HR HO]
  · iframe HC HR HO
  iintro ⟨HR, Hsl, HO⟩
  rcases (show t.val % 6 < 2 ∨ t.val % 6 = 2 ∨ (2 < t.val % 6) by omega) with h | h | h
  · have h5 : k0_cond10 t = 1#1 := (cond10_iff t).mpr h
    have h6 : ¬ k0_cond11 t = 1#1 := fun h' => by have := (cond11_iff t).mp h'; omega
    simp only [dif_pos h5, dif_neg h6, Prog.bind_op, Prog.bind_ret]
    iapply (load_slot c 1 (par t.val) _ rfl (off30_eq t) _) $$ [Hsl]
    · iexact Hsl
    iintro Hsl
    iapply (load_all c (partM 1) _) $$ [Hp]
    · iexact Hp
    iintro Hp
    iapply (load_all c (sendM 1) _) $$ [Hs]
    · iexact Hs
    iintro Hs
    iapply (store_all c (sendM 1) _ _) $$ [Hs]
    · iexact Hs
    iintro Hs
    ihave Hs := (Entails.of_eq (congrArg (has c (sendM 1)) ((pay17_eq (recvV X Wt 1 t.val c) (dotV X Wt c 1 (useOf (t.val + 1) - 1)) _).trans (send_early 1 t.val c h).symm))) $$ Hs
    ihave Ho := (Entails.of_eq (congrArg (fun n => OutSt X Wt 1 n c) (outOf_succ_early h).symm)) $$ Ho
    iapply (ret_post hQ c _)
    iframe Hct HR0 Hrd Hi HR HO
    ileft
    isplitr; · ipureintro; omega
    iframe Ho Hp Hs
    iexists _; iexact Hsl
  · have h5 : ¬ k0_cond10 t = 1#1 := fun h' => by have := (cond10_iff t).mp h'; omega
    have h6 : k0_cond11 t = 1#1 := (cond11_iff t).mpr h
    simp only [dif_neg h5, dif_pos h6, Prog.bind_op, Prog.bind_ret]
    iapply (seq_run (fun a => iprop(OutIdle X Wt 1 (outOf t.val) c ∗ has c (ostM 1) (outV X Wt 1 c (outOf t.val)) ∗ has c (slotM 1 (par t.val)) (recvV X Wt 1 t.val c) ∗ has c (partM 1) (dotV X Wt c 1 (useOf (t.val + 1) - 1)) ∗ has c (sendM 1) (sendV X Wt 1 (t.val + 1) c) ∗ Ow (owed (t.val + 1) (t.val + 1) (t.val + 1) t.val c) c)) c _ _) $$ [Ho Hsl Hp Hs HO]
    · iapply (part12_run t c _ _ _ h6 (owed_zero (t.val + 1) (t.val + 1) (t.val + 1) t.val c) (fun _ => BI.Entails.refl _)) $$ [Ho Hsl Hp Hs HO]
      iframe HC Ho Hsl Hp Hs HO
    iintro %a ⟨Ho, Hw, Hsl, Hp, Hs, HO⟩
    obtain ⟨_, a⟩ := a
    iapply (op_outstart 1 (outOf t.val) c (outOf_lt hg) rfl (oblk_eq (outBlk 1 c (outOf t.val)) (off33_eq c t h6) _)
        (congrArg SemLoc.dma (out1_sem (site (outOf t.val)) (site_first 1 (show outOf t.val % 4 = 0 by rw [outOf_mod (by omega)]; omega)) _))) $$ [Ho Hw]
    · iframe HC Ho Hw
    iintro Ho
    ihave Ho := (Entails.of_eq (OutBusy_st 1 c (show 2 ≤ t.val % 6 by omega))) $$ Ho
    iapply (ret_post hQ c _)
    iframe Hct HR0 Hrd Hi HR HO
    ileft
    isplitr; · ipureintro; omega
    iframe Ho Hp Hs
    iexists _; iexact Hsl
  · have h5 : ¬ k0_cond10 t = 1#1 := fun h' => by have := (cond10_iff t).mp h'; omega
    have h6 : ¬ k0_cond11 t = 1#1 := fun h' => by have := (cond11_iff t).mp h'; omega
    simp only [dif_neg h5, dif_neg h6, Prog.bind_op, Prog.bind_ret]
    iapply (ret_post hQ c _)
    iframe Hct HR0 Hrd Hi HR HO
    iright
    isplitr; · ipureintro; exact h
    iframe Ho Hsl Hp Hs

end Cert.KernelIdeal.Ring

end
-- ==== Proof.KernelIdeal.TripE.lean ====
/-
  One trip of the loop.
-/
module

public import proofs.«01_k».proof.Proof.KernelIdeal.TripD

@[expose] public section

noncomputable section

namespace Cert.KernelIdeal.Ring

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}
variable {κ : GSem nD τ sig → ℕ} {ι : Key → ℕ}

variable (X Wt) in
/-- Direction `b` at the start of step `g`. -/
def DirSt (b : Fin 2) (g : ℕ) (c : Dev nD) : sProp 𝕄 :=
  iprop(SendIdle b g c ∗ has c (sendM b) (sendV X Wt b g c) ∗ OutToks b g c ∗ Cred b g c ∗ RCells b g c ∗ Readers b g c ∗ CreditToks b g c
    ∗ XSt X b (useOf g) c ∗ PartSt X Wt b (useOf g) c ∗ OutSt X Wt b (outOf g) c)

variable (X Wt) in
/-- A device at the start of step `g`. -/
def StepSt (g : ℕ) (c : Dev nD) : sProp 𝕄 :=
  iprop(DirSt X Wt 0 g c ∗ DirSt X Wt 1 g c ∗ has c wV (Wt c) ∗ Ow (owed g g g g c) c)

/-- The pieces a step leaves, as the direction's state at the next. -/
theorem dir_next (b : Fin 2) (g : ℕ) (c : Dev nD) :
    iprop(SendIdle b g c ∗ has c (sendM b) (sendV X Wt b g c) ∗ OutToks b g c ∗ Cred b g c ∗ RCells b g c ∗ Readers b g c ∗ CreditToks b g c
      ∗ XSt X b (useOf g) c ∗ has c (partM b) (dotV X Wt c b (useOf g - 1)) ∗ OutSt X Wt b (outOf g) c) ⊢ DirSt X Wt b g c := by
  unfold DirSt PartSt
  iintro ⟨Hi, Hs, Hot, Hcr, HR, Hrd, Hct, Hx, Hp, Ho⟩
  iframe Hi Hs Hot Hcr HR Hrd Hct Hx
  isplitl [Hp]
  · iexists _
    isplitr
    · ipureintro; exact fun _ => rfl
    iexact Hp
  iexact Ho

/-- One trip of the loop. -/
theorem trip_run (t : Trip) (c : Dev nD) (v2 v276 v286 z : BitVec 32) :
    iprop(Ctx X Wt κ ι ∗ StepSt X Wt t.val c) ⊢ WP (F := F) c ((given k0_t1_body) c v2 v276 v286 z t ()) (fun _ => StepSt X Wt (t.val + 1) c) := by
  have hg := trip_lt t
  unfold given k0_t1_body
  simp only [Prog.lift, Prog.bind_op, Prog.bind_ret, Prog.pure_eq_ret, semWaitWord, semSignalWord]
  unfold StepSt DirSt
  iintro ⟨#HC, ⟨Hi0, Hs0, Hot0, Hcr0, HR0, Hrd0, Hct0, Hx0, Hp0, Ho0⟩, ⟨Hi1, Hs1, Hot1, Hcr1, HR1, Hrd1, Hct1, Hx1, Hp1, Ho1⟩, Hwt, HO⟩
  iapply (seq_run (fun a => iprop(Cred 0 (t.val + 1) c ∗ heard 0 (tgt 0 c) (t.val - 1) ∗ Ow (owed t.val t.val t.val t.val c) c)) c _ _) $$ [Hcr0 HO]
  · iapply (part15_run t c _ _) $$ [Hcr0 HO]
    iframe HC Hcr0 HO
  iintro %a ⟨Hcr0, Hh0, HO⟩
  obtain ⟨_, _, _, _, _⟩ := a
  iapply (seq_run (fun a => iprop(SendBusy 0 t.val c ∗ OutToks 0 (t.val + 1) c ∗ Cred 1 (t.val + 1) c ∗ heard 1 (tgt 1 c) (t.val - 1) ∗ Ow (owed (t.val + 1) t.val t.val t.val c) c)) c _ _) $$ [Hi0 Hot0 Hh0 Hs0 Hcr1 HO]
  · iapply (part16_run t c _ _) $$ [Hi0 Hot0 Hh0 Hs0 Hcr1 HO]
    iframe HC Hi0 Hot0 Hh0 Hs0 Hcr1 HO
  iintro %a ⟨Hb0, Hot0, Hcr1, Hh1, HO⟩
  iapply (seq_run (fun a => iprop(SendBusy 1 t.val c ∗ OutToks 1 (t.val + 1) c ∗ XSt X 0 (useOf (t.val + 1)) c ∗ has c (partM 0) (dotV X Wt c 0 (useOf (t.val + 1) - 1)) ∗ XSt X 1 (useOf (t.val + 1)) c ∗ has c (partM 1) (dotV X Wt c 1 (useOf (t.val + 1) - 1)) ∗ has c wV (Wt c) ∗ SendIdle 0 (t.val + 1) c ∗ has c (sendM 0) (sendV X Wt 0 t.val c) ∗ Ow (owed (t.val + 1) (t.val + 1) t.val t.val c) c)) c _ _) $$ [Hi1 Hot1 Hh1 Hs1 Hx0 Hp0 Hx1 Hp1 Hwt Hb0 HO]
  · iapply (part17_run t c _ _ _ _ _ (fun _ => BI.Entails.refl _)) $$ [Hi1 Hot1 Hh1 Hs1 Hx0 Hp0 Hx1 Hp1 Hwt Hb0 HO]
    iframe HC Hi1 Hot1 Hh1 Hs1 Hx0 Hp0 Hx1 Hp1 Hwt Hb0 HO
  iintro %a ⟨Hb1, Hot1, Hx0, Hp0, Hx1, Hp1, Hwt, Hi0, Hs0, HO⟩
  obtain ⟨_, _⟩ := a
  icombine Hp0 Hs0 as H0
  icombine Ho0 H0 as H0
  iapply (seq_run (fun a => iprop(RCells 0 (t.val + 1) c ∗ Worked X Wt 0 t.val c ∗ Ow (owed (t.val + 1) (t.val + 1) t.val t.val c) c)) c _ _) $$ [HR0 H0 HO]
  · iapply (part18_run t c _ _ _ _ _ _ (fun _ => BI.Entails.refl _)) $$ [HR0 H0 HO]
    iframe HC HR0 H0 HO
  iintro %a ⟨HR0, ⟨Ho0, Hsl0, Hp0, Hs0⟩, HO⟩
  obtain ⟨_, _⟩ := a
  icombine Ho1 Hp1 as H1
  iapply (seq_run (fun a => iprop(CreditToks 0 (t.val + 1) c ∗ RCells 0 (t.val + 1) c ∗ Readers 0 (t.val + 1) c ∗ SendIdle 1 (t.val + 1) c ∗ RCells 1 (t.val + 1) c ∗ Halfway X Wt t.val c ∗ Ow (owed (t.val + 1) (t.val + 1) (t.val + 1) t.val c) c)) c _ _) $$ [Hct0 HR0 Hrd0 Hsl0 Hb1 HR1 H1 HO]
  · iapply (part19_run t c _ _ _ _ _ _ (fun _ => BI.Entails.refl _)) $$ [Hct0 HR0 Hrd0 Hsl0 Hb1 HR1 H1 HO]
    iframe HC Hct0 HR0 Hrd0 Hsl0 Hb1 HR1 H1 HO
  iintro %a ⟨Hct0, HR0, Hrd0, Hi1, HR1, HH, HO⟩
  icases HH with (⟨%hh, HH⟩ | ⟨%hh, HH⟩)
  · have h8 : ¬ k0_cond13 t = 1#1 := fun h' => by have := (cond13_iff t).mp h'; omega
    have h9 : ¬ k0_cond14 t = 1#1 := fun h' => by have := (cond14_iff t).mp h'; omega
    simp only [dif_neg h8, dif_neg h9, Prog.bind_op, Prog.bind_ret]
    icases HH with ⟨Ho1, Hsl1, Hp1, Hs1⟩
    iapply (op_credit_signal 1 t.val c _ (dev6_eq c) hg (owed (t.val + 1) (t.val + 1) (t.val + 1) (t.val + 1) c) (owed_credit1 hg _ _ _ c) (congrArg SemLoc.reg (credit1_sem _)) rfl) $$ [Hct1 HR1 Hrd1 Hsl1 HO]
    · iframe HC Hct1 HR1 Hrd1 Hsl1 HO
    iintro ⟨Hct1, HR1, Hrd1, HO⟩
    iapply (ret_run (fun _ => StepSt X Wt (t.val + 1) c) c ())
    unfold StepSt
    isplitl [Hi0 Hs0 Hot0 Hcr0 HR0 Hrd0 Hct0 Hx0 Hp0 Ho0]
    · iapply (dir_next 0 (t.val + 1) c)
      iframe Hi0 Hs0 Hot0 Hcr0 HR0 Hrd0 Hct0 Hx0 Hp0 Ho0
    isplitl [Hi1 Hs1 Hot1 Hcr1 HR1 Hrd1 Hct1 Hx1 Hp1 Ho1]
    · iapply (dir_next 1 (t.val + 1) c)
      iframe Hi1 Hs1 Hot1 Hcr1 HR1 Hrd1 Hct1 Hx1 Hp1 Ho1
    iframe Hwt HO
  rcases (show (t.val % 6 = 3 ∨ t.val % 6 = 4) ∨ t.val % 6 = 5 by omega) with h | h
  · have h8 : k0_cond13 t = 1#1 := (cond13_iff t).mpr h
    have h9 : ¬ k0_cond14 t = 1#1 := fun h' => by have := (cond14_iff t).mp h'; omega
    simp only [dif_pos h8, dif_neg h9, Prog.bind_op, Prog.bind_ret]
    icases HH with ⟨Ho, Hsl, Hp, Hs⟩
    iapply (seq_run (fun a => iprop(⌜a.2 = outV X Wt 1 c (outOf t.val)⌝ ∗ some' c (ostM 1) ∗ OutIdle X Wt 1 (outOf t.val) c ∗ has c (slotM 1 (par t.val)) (recvV X Wt 1 t.val c) ∗ has c (sendM 1) (sendV X Wt 1 (t.val + 1) c) ∗ Ow (owed (t.val + 1) (t.val + 1) (t.val + 1) t.val c) c)) c _ _) $$ [Ho Hsl Hs HO]
    · iapply (part13_run t c _ _ _ _ h8 (owed_zero (t.val + 1) (t.val + 1) (t.val + 1) t.val c) (fun _ => BI.Entails.refl _)) $$ [Ho Hsl Hs HO]
      iframe HC Ho Hsl Hs HO
    iintro %a ⟨%ha, Hw, Ho, Hsl, Hs, HO⟩
    obtain ⟨z, a⟩ := a
    icases Hw with ⟨%w, Hw⟩
    iapply (store_all c (ostM 1) _ _) $$ [Hw]
    · iexact Hw
    iintro Hw
    ihave Hw := (Entails.of_eq (congrArg (has c (ostM 1)) (show a = outV X Wt 1 c (outOf t.val) from ha))) $$ Hw
    iapply (op_outstart 1 (outOf t.val) c (outOf_lt hg) rfl (oblk_eq (outBlk 1 c (outOf t.val)) (off38_eq c t h8) _)
        (congrArg SemLoc.dma (out1_sem (site (outOf t.val)) (off37_eq t h8) _))) $$ [Ho Hw]
    · iframe HC Ho Hw
    iintro Ho
    ihave Ho := (Entails.of_eq (OutBusy_st 1 c (show 2 ≤ t.val % 6 by omega))) $$ Ho
    iapply (op_credit_signal 1 t.val c _ (dev6_eq c) hg (owed (t.val + 1) (t.val + 1) (t.val + 1) (t.val + 1) c) (owed_credit1 hg _ _ _ c) (congrArg SemLoc.reg (credit1_sem _)) rfl) $$ [Hct1 HR1 Hrd1 Hsl HO]
    · iframe HC Hct1 HR1 Hrd1
      isplitl [Hsl]; · iexists _; iexact Hsl
      iexact HO
    iintro ⟨Hct1, HR1, Hrd1, HO⟩
    iapply (ret_run (fun _ => StepSt X Wt (t.val + 1) c) c ())
    unfold StepSt
    isplitl [Hi0 Hs0 Hot0 Hcr0 HR0 Hrd0 Hct0 Hx0 Hp0 Ho0]
    · iapply (dir_next 0 (t.val + 1) c)
      iframe Hi0 Hs0 Hot0 Hcr0 HR0 Hrd0 Hct0 Hx0 Hp0 Ho0
    isplitl [Hi1 Hs Hot1 Hcr1 HR1 Hrd1 Hct1 Hx1 Hp Ho]
    · iapply (dir_next 1 (t.val + 1) c)
      iframe Hi1 Hs Hot1 Hcr1 HR1 Hrd1 Hct1 Hx1 Hp Ho
    iframe Hwt HO
  · have h8 : ¬ k0_cond13 t = 1#1 := fun h' => by have := (cond13_iff t).mp h'; omega
    have h9 : k0_cond14 t = 1#1 := (cond14_iff t).mpr h
    simp only [dif_neg h8, dif_pos h9, Prog.bind_op, Prog.bind_ret]
    icases HH with ⟨Ho, Hsl, Hp, Hs⟩
    iapply (seq_run (fun a => iprop(OutIdle X Wt 1 (outOf t.val) c ∗ has c (ostM 1) (outV X Wt 1 c (outOf t.val)) ∗ has c (slotM 1 (par t.val)) (recvV X Wt 1 t.val c) ∗ Ow (owed (t.val + 1) (t.val + 1) (t.val + 1) t.val c) c)) c _ _) $$ [Ho Hsl HO]
    · iapply (part14_run t c _ _ _ h9 (owed_zero (t.val + 1) (t.val + 1) (t.val + 1) t.val c) (fun _ => BI.Entails.refl _)) $$ [Ho Hsl HO]
      iframe HC Ho Hsl HO
    iintro %a ⟨Ho, Hw, Hsl, HO⟩
    obtain ⟨_, a⟩ := a
    iapply (op_outstart 1 (outOf t.val) c (outOf_lt hg) rfl (oblk_eq (outBlk 1 c (outOf t.val)) (off39_eq2 c t h9) _)
        (congrArg SemLoc.dma (out1_sem (site (outOf t.val)) (site_last 1 (show outOf t.val % 4 = 3 by rw [outOf_mod (by omega)]; omega)) _))) $$ [Ho Hw]
    · iframe HC Ho Hw
    iintro Ho
    ihave Ho := (Entails.of_eq (OutBusy_st 1 c (show 2 ≤ t.val % 6 by omega))) $$ Ho
    iapply (load_all c (partM 1) _) $$ [Hp]
    · iexact Hp
    iintro Hp
    iapply (load_all c (sendM 1) _) $$ [Hs]
    · iexact Hs
    iintro Hs
    iapply (store_all c (sendM 1) _ _) $$ [Hs]
    · iexact Hs
    iintro Hs
    ihave Hs := (Entails.of_eq (congrArg (has c (sendM 1)) ((pay20_eq (dotV X Wt c 1 (useOf (t.val + 1) - 1))).trans (send_start 1 t.val c h).symm))) $$ Hs
    iapply (op_credit_signal 1 t.val c _ (dev6_eq c) hg (owed (t.val + 1) (t.val + 1) (t.val + 1) (t.val + 1) c) (owed_credit1 hg _ _ _ c) (congrArg SemLoc.reg (credit1_sem _)) rfl) $$ [Hct1 HR1 Hrd1 Hsl HO]
    · iframe HC Hct1 HR1 Hrd1
      isplitl [Hsl]; · iexists _; iexact Hsl
      iexact HO
    iintro ⟨Hct1, HR1, Hrd1, HO⟩
    iapply (ret_run (fun _ => StepSt X Wt (t.val + 1) c) c ())
    unfold StepSt
    isplitl [Hi0 Hs0 Hot0 Hcr0 HR0 Hrd0 Hct0 Hx0 Hp0 Ho0]
    · iapply (dir_next 0 (t.val + 1) c)
      iframe Hi0 Hs0 Hot0 Hcr0 HR0 Hrd0 Hct0 Hx0 Hp0 Ho0
    isplitl [Hi1 Hs Hot1 Hcr1 HR1 Hrd1 Hct1 Hx1 Hp Ho]
    · iapply (dir_next 1 (t.val + 1) c)
      iframe Hi1 Hs Hot1 Hcr1 HR1 Hrd1 Hct1 Hx1 Hp Ho
    iframe Hwt HO

end Cert.KernelIdeal.Ring

end
-- ==== Proof.KernelIdeal.Enter.lean ====
/-
  What a device does before and after the loop, one operation at a time.
-/
module

public import proofs.«01_k».proof.Proof.KernelIdeal.TripE

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ
local notation "𝕋" => TpuEff nD τ sig (Elt F) Λ₀ Proc.tc

variable {X : Dev nD → S8192x2048.Idx → Elt F .f32} {Wt : Dev nD → S2048x4096.Idx → Elt F .bf16}
variable {κ : GSem nD τ sig → ℕ} {ι : Key → ℕ}
variable {α : Type} {Q : α → sProp (MT nD τ sig ℕ (Elt F) ℕ UU ℕ)}

theorem op_deviceId (c : Dev nD) {kk : Dev nD → Prog 𝕋 α} : WP c (kk c) Q ⊢ WP c (.op .deviceId kk) Q := by
  show _ ⊢ wp frame (wpE (defs₀) 𝒱₀ (c : Thread nD τ) none) Set.univ (.op .deviceId kk) Q
  rw [wp_deviceId]

/-- The two units a device gives itself. -/
theorem op_own (b : Fin 2) (c : Dev nD) (O : CellTallies nD τ sig ℕ) {O₀ : CellTallies nD τ sig ℕ} (hO : O₀ = O + tallyAt (cell (.credit b) c) 24 2)
    {sm : Sem sig} (hsm : SemLoc.reg sm = semOf (.credit b)) {z : ℤ} (hz : z = ((2 : ℕ) : ℤ)) {kk : PUnit → Prog 𝕋 α} :
    iprop(Ctx X Wt κ ι ∗ Ow O₀ c ∗ dutyTok ER (cell (.credit b) c) 0 24 ∗ reached ER (cell (.credit b) c) 0)
      ⊢ iprop((Ow O c -∗ WP c (kk ⟨⟩) Q) -∗ WP c (.op (.semSignal (Dev.tc c : Thread nD τ) sm z) kk) Q) := by
  iintro ⟨#HC, HO, Ht, Hr⟩ K
  have hp : (iprop(emp) : sProp 𝕄) ⊢ pay X Wt (.credit b) c 0 24 := by
    show _ ⊢ credPay b c 24
    unfold credPay
    rw [if_pos rfl]
  iapply (op_signal (.credit b) c c 0 24 24 2 (by decide : (24 : ℕ) ∈ Finset.range 25) rfl O hO hsm rfl hz) $$ [HO Ht Hr]
  · iframe HC HO Ht
    isplitr; · iapply hp; iempintro
    iexact Hr
  iintro HO
  iapply K
  iexact HO

/-- The greeting to the device that sends direction `b` here. -/
theorem op_greet (b : Fin 2) (d : ℕ) (hd : d = b.val) (c n : Dev nD) (hn : n = frm b c) (O : CellTallies nD τ sig ℕ) {O₀ : CellTallies nD τ sig ℕ}
    (hO : O₀ = O + tallyAt (cell .bar (frm b c)) 0 1)
    {sm : Sem sig} (hsm : SemLoc.reg sm = semOf .bar) {z : ℤ} (hz : z = ((1 : ℕ) : ℤ)) {kk : PUnit → Prog 𝕋 α} :
    iprop(Ctx X Wt κ ι ∗ Ow O₀ c ∗ dutyTok ER (cell .bar (frm b c)) 0 d ∗ reached ER (cell .bar (frm b c)) 0
        ∗ RCells b 0 c ∗ Readers b 0 c ∗ reached ER (cell (.credit (1 - b)) c) 0)
      ⊢ iprop(((Ow O c ∗ RCells b 0 c ∗ Readers b 0 c) -∗ WP c (kk ⟨⟩) Q) -∗ WP c (.op (.semSignal (Dev.tc n : Thread nD τ) sm z) kk) Q) := by
  subst hn hd
  iintro ⟨#HC, HO, Ht, Hr, HR, Hrd, Hk⟩ K
  ihave Hall := (tell b 0 c) $$ [HR Hrd]
  · iframe HR Hrd
  icases Hall with ⟨HR, Hrd, Hh⟩
  have hp : greet b c ⊢ pay X Wt .bar (frm b c) 0 b.val := by
    show _ ⊢ barPay (frm b c) b.val
    unfold barPay
    match b with
    | 0 => rw [if_pos (show (0 : Fin 2).val = 0 from rfl), tgt_frm]
    | 1 => rw [if_neg (show ¬ (1 : Fin 2).val = 0 by decide), tgt_frm]
  have hm : b.val ∈ dutiesOf .bar 0 := (show ∀ b : Fin 2, b.val ∈ dutiesOf .bar 0 by decide) b
  iapply (op_signal .bar c (frm b c) 0 b.val 0 1 hm rfl O hO hsm rfl hz) $$ [HO Ht Hr Hh Hk]
  · iframe HC HO Ht
    isplitr [Hr]
    · iapply hp
      unfold greet
      iframe Hh Hk
    iexact Hr
  iintro HO
  iapply K
  iframe HO HR Hrd

/-- The wait at the barrier: both neighbours have greeted. -/
theorem op_barrier (c : Dev nD) {O : CellTallies nD τ sig ℕ} (hO : Above 1 O) {sm : Sem sig} (hsm : SemLoc.reg sm = semOf .bar) {z : ℤ} (hz : z = ((2 : ℕ) : ℤ))
    {kk : PUnit → Prog 𝕋 α} :
    iprop(Ctx X Wt κ ι ∗ Ow O c ∗ atPos ER (cell .bar c) 0 ∅ 0 ∗ cred (tallyAt (cell .bar c) 0 2))
      ⊢ iprop(((Ow O c ∗ atPos ER (cell .bar c) 1 ∅ 0 ∗ greet 0 (tgt 0 c) ∗ greet 1 (tgt 1 c)) -∗ WP c (kk ⟨⟩) Q) -∗ WP c (.op (.semWait sm z) kk) Q) := by
  subst hz
  have hw : ∀ K : PUnit → sProp 𝕄, wpE' (defs₀) 𝒱₀ (c : Thread nD τ) none .empty Set.univ (.semWait sm ((2 : ℕ) : ℤ)) K
      = waitSpec (c : Thread nD τ) Set.univ (semOf .bar) 2 K := fun K => by
    rw [← hsm]; exact wpE_semWait_eq 𝒱₀ (c : Thread nD τ) none Set.univ K
  unfold Ow
  iintro ⟨#HC, ⟨%W, HO⟩, Ha, Hc⟩ K
  iapply (Rounds.wp_wait_rest_token 𝒱₀ ER (sched X Wt) (c : Thread nD τ) none (κ := κ (cell .bar c)) (sm := semOf .bar) (k' := 2)
    hw (Set.mem_univ _) 0 (O := O) (W := W) (R := 0) (m := 0) (T := ∅) (by rw [expect_bar])) $$ [Hc HO Ha]
  · isplitr; · iapply (Ctx_cell .bar c); iexact HC
    iframe Hc HO
    isplitr; · iapply (Ctx_mayWait .bar c 0 (by decide) (le_refl _) hO); iexact HC
    iexact Ha
  iintro ⟨HO, Ha, -, Hp⟩
  ihave Hp := (Entails.of_eq (rest_bar X Wt c)) $$ Hp
  icases Hp with ⟨Hp0, Hp1⟩
  iapply K
  isplitl [HO]; · iexists _; iexact HO
  iframe Ha Hp0 Hp1

/-- The last wait for credits of a direction: the two units left. -/
theorem op_credit_last (b : Fin 2) (c : Dev nD) {sm : Sem sig} (hsm : SemLoc.reg sm = semOf (.credit b)) {z : ℤ} (hz : z = ((2 : ℕ) : ℤ))
    {kk : PUnit → Prog 𝕋 α} :
    iprop(Ctx X Wt κ ι ∗ Cred b 24 c ∗ Ow 0 c)
      ⊢ iprop(((Ow 0 c ∗ atPos ER (cell (.credit b) c) 1 ∅ 0) -∗ WP c (kk ⟨⟩) Q) -∗ WP c (.op (.semWait sm z) kk) Q) := by
  subst hz
  have hw : ∀ K : PUnit → sProp 𝕄, wpE' (defs₀) 𝒱₀ (c : Thread nD τ) none .empty Set.univ (.semWait sm ((2 : ℕ) : ℤ)) K
      = waitSpec (c : Thread nD τ) Set.univ (semOf (.credit b)) 2 K := fun K => by
    rw [← hsm]; exact wpE_semWait_eq 𝒱₀ (c : Thread nD τ) none Set.univ K
  have hc : bigSep (Finset.Ico 24 26) (fun s => cred (tallyAt (cell (.credit b) c) (wIdx s) 1))
      ⊢ (cred (tallyOn (cell (.credit b) c) (Finsupp.single 22 1 + Finsupp.single 23 1)) : sProp 𝕄) := by
    rw [show Finset.Ico 24 26 = ({24, 25} : Finset ℕ) by decide, bigSep_insert (by decide), bigSep_singleton, tallyOn_add]
    exact (cred_add _ _).2
  have hsum : Util.total (Finsupp.single 22 1 + Finsupp.single 23 1 : ℕ →₀ ℕ) = 2 := by
    rw [Util.total_add, Util.total_single, Util.total_single]
  have hsup : (Finsupp.single 22 1 + Finsupp.single 23 1 : ℕ →₀ ℕ).support.image (semOf (.credit b), ·) ⊆ {(semOf (.credit b), 22), (semOf (.credit b), 23)} := by
    intro p hp
    obtain ⟨u, hu, rfl⟩ := Finset.mem_image.mp hp
    have : u = 22 ∨ u = 23 := by
      by_contra h
      have h0 : (Finsupp.single 22 1 + Finsupp.single 23 1 : ℕ →₀ ℕ) u = 0 := by
        rw [Finsupp.add_apply, Finsupp.single_apply, Finsupp.single_apply, if_neg (show ¬ 22 = u by omega), if_neg (show ¬ 23 = u by omega), Nat.add_zero]
      exact (Finsupp.mem_support_iff.mp hu) h0
    rcases this with rfl | rfl <;> simp
  have hidx : ∀ p ∈ ({(semOf (.credit b), 22), (semOf (.credit b), 23)} : Finset (SemLoc sig × ℕ)), p.1 = semOf (.credit b) ∧ (p.2 = 22 ∨ p.2 = 23) := by
    intro p hp
    rcases Finset.mem_insert.mp hp with rfl | hp
    · exact ⟨rfl, .inl rfl⟩
    · rw [Finset.mem_singleton.mp hp]; exact ⟨rfl, .inr rfl⟩
  have hN1 : ∀ p ∈ ({(semOf (.credit b), 22), (semOf (.credit b), 23)} : Finset (SemLoc sig × ℕ)), p.2 ∈ L ((c : Thread nD τ), p.1) := by
    intro p hp
    obtain ⟨h1, h2⟩ := hidx p hp
    rw [h1, L_tc]; exact Finset.mem_range.mpr (by omega)
  have hN2 : ∀ p ∈ ({(semOf (.credit b), 22), (semOf (.credit b), 23)} : Finset (SemLoc sig × ℕ)), lv ((c : Thread nD τ), p.1) p.2 ≤ 100 := by
    intro p hp
    obtain ⟨h1, h2⟩ := hidx p hp
    rw [h1, lv_cell]
    show (if p.2 = 24 then 0 else 2 * p.2 + 3) + 1 ≤ 100
    split <;> omega
  unfold Cred Ow
  iintro ⟨#HC, ⟨-, Hcs, ⟨%T, %hT, Ha, -⟩⟩, ⟨%W, HO⟩⟩ K
  ihave Hc := hc $$ Hcs
  iapply (Rounds.wp_wait_rest (Q := Q) (k := kk) 𝒱₀ ER (sched X Wt) (c : Thread nD τ) none (κ := κ (cell (.credit b) c)) (sm := semOf (.credit b)) (k' := 2)
    hw (Set.mem_univ _) (cr := Finsupp.single 22 1 + Finsupp.single 23 1) (O := 0) (W := W) {(semOf (.credit b), 22), (semOf (.credit b), 23)} (R := 0) (m := 24) (T := T)
    (by rw [expect_credit]) hsum hsup) $$ [Hc HO Ha]
  · isplitr; · iapply (Ctx_cell (.credit b) c); iexact HC
    iframe Hc HO
    isplitr; · iapply (MayOwe.of_cut (L := L) (lev := lv) 100 hN1 (fun g u h => absurd h (Nat.lt_irrefl 0)) hN2 (fun g u h => absurd h (Nat.lt_irrefl 0))); iapply (Ctx_lev); iexact HC
    iexact Ha
  iintro ⟨HO, Ha, -, -⟩
  iapply K
  isplitl [HO]; · iexists _; iexact HO
  iexact Ha

/-- The copy of the weights is started. -/
theorem part20_run (c : Dev nD)  {Q : (Σ' (_ : Dev nD), BitVec 32) → sProp 𝕄} (hQ : ∀ a, iprop(⌜a.1 = c⌝ ∗ atPos ER (cell .w c) 0 ∅ 0 ∗ cred (tallyAt (cell .w c) 0 nW)) ⊢ Q a) :
    iprop(Ctx X Wt κ ι ∗ has c wA (Wt c) ∗ some' c wV ∗ dutyTok ER (cell .w c) 0 0 ∗ place .w c 0) ⊢ WP c (given k0_part20 ) Q := by
  unfold given; rw [k0_part20_eq_skeleton]
  unfold k0_part20_skel
  simp only [Prog.lift, Prog.bind_op, Prog.bind_ret, Prog.pure_eq_ret, semWaitWord, semSignalWord, semSignalHereWord]
  unfold place
  iintro ⟨#HC, Hw, Hv, Ht, ⟨Ha, Hr⟩⟩
  iapply (op_deviceId c)
  iapply (op_copy .w c 0 nW rfl rfl (congrArg SemLoc.dma w_sem) rfl (Wt c) (BI.Entails.refl _)) $$ [Hw Hv Ht Hr]
  · iframe HC Hw Hv Ht Hr
  iintro Hc
  iapply (ret_post hQ c _)
  isplitr; · ipureintro; rfl
  iframe Ha Hc

/-- The first row block of direction 0. -/
theorem part21_run (c : Dev nD) (v2 : BitVec 32) {Q : _ → sProp 𝕄} (hQ : ∀ a, iprop(XS X 0 0 1 c) ⊢ Q a) :
    iprop(Ctx X Wt κ ι ∗ XS X 0 0 0 c ∗ some' c (xslotM 0 0)) ⊢ WP c ((given k0_part21) c v2) Q := by
  unfold given; rw [k0_part21_eq_skeleton]
  unfold k0_part21_skel
  simp only [Prog.lift, Prog.bind_op, Prog.bind_ret, Prog.pure_eq_ret, semWaitWord, semSignalWord, semSignalHereWord]
  iintro ⟨#HC, Hx, Hsl⟩
  iapply (op_xstart 0 0 0 c (by decide) (by decide) (xblk_eq (useBlk 0 c 0) (off1_eq0 c) _) (xslot_eq 0 0 rfl _) (congrArg SemLoc.dma (x0_sem 0 rfl _))) $$ [Hx Hsl]
  · iframe HC Hx Hsl
  iintro Hx
  iapply (ret_post hQ c _)
  iexact Hx

/-- The second row block of direction 0, and its own credit. -/
theorem part22_run (c : Dev nD) (v2 : BitVec 32) (O : CellTallies nD τ sig ℕ) {O₀ : CellTallies nD τ sig ℕ} (hO : O₀ = O + tallyAt (cell (.credit 0) c) 24 2) {Q : _ → sProp 𝕄} (hQ : ∀ a, iprop(XS X 0 0 2 c ∗ Ow O c) ⊢ Q a) :
    iprop(Ctx X Wt κ ι ∗ XS X 0 0 1 c ∗ some' c (xslotM 0 1) ∗ Ow O₀ c ∗ dutyTok ER (cell (.credit 0) c) 0 24 ∗ reached ER (cell (.credit 0) c) 0) ⊢ WP c ((given k0_part22) c v2) Q := by
  unfold given; rw [k0_part22_eq_skeleton]
  unfold k0_part22_skel
  simp only [Prog.lift, Prog.bind_op, Prog.bind_ret, Prog.pure_eq_ret, semWaitWord, semSignalWord, semSignalHereWord]
  iintro ⟨#HC, Hx, Hsl, HO, Ht, Hr⟩
  iapply (op_xstart 0 0 1 c (by decide) (by decide) (xblk_eq (useBlk 0 c 1) (off1_eq1 c) _) (xslot_eq 0 1 rfl _) (congrArg SemLoc.dma (x0_sem 1 rfl _))) $$ [Hx Hsl]
  · iframe HC Hx Hsl
  iintro Hx
  iapply (op_deviceId c)
  iapply (op_own 0 c O hO (congrArg SemLoc.reg (credit0_sem _)) rfl) $$ [HO Ht Hr]
  · iframe HC HO Ht Hr
  iintro HO
  iapply (ret_post hQ c _)
  iframe Hx HO

/-- The first row block of direction 1. -/
theorem part23_run (c : Dev nD) (v2 : BitVec 32) {Q : _ → sProp 𝕄} (hQ : ∀ a, iprop(XS X 1 0 1 c) ⊢ Q a) :
    iprop(Ctx X Wt κ ι ∗ XS X 1 0 0 c ∗ some' c (xslotM 1 0)) ⊢ WP c ((given k0_part23) c v2) Q := by
  unfold given; rw [k0_part23_eq_skeleton]
  unfold k0_part23_skel
  simp only [Prog.lift, Prog.bind_op, Prog.bind_ret, Prog.pure_eq_ret, semWaitWord, semSignalWord, semSignalHereWord]
  iintro ⟨#HC, Hx, Hsl⟩
  iapply (op_xstart 1 0 0 c (by decide) (by decide) (xblk_eq (useBlk 1 c 0) (off1_eq3 c) _) (xslot_eq 1 0 rfl _) (congrArg SemLoc.dma (x1_sem 0 rfl _))) $$ [Hx Hsl]
  · iframe HC Hx Hsl
  iintro Hx
  iapply (ret_post hQ c _)
  iexact Hx

/-- The second row block of direction 1, its own credit, and the first greeting. -/
theorem part24_run (c : Dev nD) (v2 : BitVec 32) (O O' : CellTallies nD τ sig ℕ) {O₀ : CellTallies nD τ sig ℕ} (hO : O₀ = O + tallyAt (cell (.credit 1) c) 24 2) (hO' : O = O' + tallyAt (cell .bar (frm 1 c)) 0 1) {Q : (Σ' (_ : Sems sig S_) (_ : BitVec 32), BitVec 32) → sProp 𝕄} (hQ : ∀ a, iprop(⌜a.1 = SemArray.scalar (sig.barrier 0 rfl)⌝ ∗ XS X 1 0 2 c ∗ Ow O' c ∗ RCells 1 0 c ∗ Readers 1 0 c) ⊢ Q a) :
    iprop(Ctx X Wt κ ι ∗ XS X 1 0 1 c ∗ some' c (xslotM 1 1) ∗ Ow O₀ c ∗ dutyTok ER (cell (.credit 1) c) 0 24 ∗ reached ER (cell (.credit 1) c) 0 ∗ dutyTok ER (cell .bar (frm 1 c)) 0 1 ∗ reached ER (cell .bar (frm 1 c)) 0 ∗ RCells 1 0 c ∗ Readers 1 0 c ∗ reached ER (cell (.credit (1 - 1)) c) 0) ⊢ WP c ((given k0_part24) c v2) Q := by
  unfold given; rw [k0_part24_eq_skeleton]
  unfold k0_part24_skel
  simp only [Prog.lift, Prog.bind_op, Prog.bind_ret, Prog.pure_eq_ret, semWaitWord, semSignalWord, semSignalHereWord]
  iintro ⟨#HC, Hx, Hsl, HO, Ht, Hr, Hbt, Hbr, HR, Hrd, Hk⟩
  iapply (op_xstart 1 0 1 c (by decide) (by decide) (xblk_eq (useBlk 1 c 1) (off1_eq4 c) _) (xslot_eq 1 1 rfl _) (congrArg SemLoc.dma (x1_sem 1 rfl _))) $$ [Hx Hsl]
  · iframe HC Hx Hsl
  iintro Hx
  iapply (op_deviceId c)
  iapply (op_own 1 c O hO (congrArg SemLoc.reg (credit1_sem _)) rfl) $$ [HO Ht Hr]
  · iframe HC HO Ht Hr
  iintro HO
  iapply (op_greet 1 1 rfl c _ (dev1_eq c) O' hO' (congrArg SemLoc.reg bar_sem) rfl) $$ [HO Hbt Hbr HR Hrd Hk]
  · iframe HC HO Hbt Hbr HR Hrd Hk
  iintro ⟨HO, HR, Hrd⟩
  iapply (ret_post hQ c _)
  isplitr; · ipureintro; rfl
  iframe Hx HO HR Hrd

/-- The second greeting, the barrier, and the arrival of the weights. -/
theorem part25_run (c : Dev nD) (v2 : BitVec 32) (v135 : Sems sig S_) (v160 z : BitVec 32) (hv : v135.sem = barS) (O : CellTallies nD τ sig ℕ) {O₀ : CellTallies nD τ sig ℕ} (hO : O₀ = O + tallyAt (cell .bar (frm 0 c)) 0 1) (hA : Above 1 O) {Q : _ → sProp 𝕄} (hQ : ∀ a, iprop(Ow O c ∗ RCells 0 0 c ∗ Readers 0 0 c ∗ atPos ER (cell .bar c) 1 ∅ 0 ∗ greet 0 (tgt 0 c) ∗ greet 1 (tgt 1 c) ∗ atPos ER (cell .w c) 1 ∅ 0 ∗ has c wV (Wt c) ∗ has c wA (Wt c)) ⊢ Q a) :
    iprop(Ctx X Wt κ ι ∗ Ow O₀ c ∗ dutyTok ER (cell .bar (frm 0 c)) 0 0 ∗ reached ER (cell .bar (frm 0 c)) 0 ∗ RCells 0 0 c ∗ Readers 0 0 c ∗ reached ER (cell (.credit (1 - 0)) c) 0 ∗ atPos ER (cell .bar c) 0 ∅ 0 ∗ cred (tallyAt (cell .bar c) 0 2) ∗ atPos ER (cell .w c) 0 ∅ 0 ∗ cred (tallyAt (cell .w c) 0 nW)) ⊢ WP c ((given k0_part25) c v2 v135 v160 z) Q := by
  unfold given; rw [k0_part25_eq_skeleton]
  unfold k0_part25_skel
  simp only [Prog.lift, Prog.bind_op, Prog.bind_ret, Prog.pure_eq_ret, semWaitWord, semSignalWord, semSignalHereWord]
  iintro ⟨#HC, HO, Hbt, Hbr, HR, Hrd, Hk, Hba, Hbc, Hwa, Hwc⟩
  iapply (op_greet 0 0 rfl c _ (dev2_eq c) O hO (congrArg SemLoc.reg hv) rfl) $$ [HO Hbt Hbr HR Hrd Hk]
  · iframe HC HO Hbt Hbr HR Hrd Hk
  iintro ⟨HO, HR, Hrd⟩
  iapply (op_barrier c hA (congrArg SemLoc.reg hv) rfl) $$ [HO Hba Hbc]
  · iframe HC HO Hba Hbc
  iintro ⟨HO, Hba, Hg0, Hg1⟩
  iapply (op_waitDma .w c 0 0 nW rfl rfl (by decide) (fun g s h => ⟨(hA g s h).1, lt_trans (show levOf Role.w 0 + 1 < 1 + 1 by decide) (hA g s h).2⟩) (congrArg SemLoc.dma w_sem) rfl) $$ [HO Hwa Hwc]
  · iframe HC Hwc HO Hwa
  unfold pay
  iintro ⟨HO, Hwa, -, ⟨Hv, Hw⟩⟩
  iapply (ret_post hQ c _)
  iframe HO HR Hrd Hba Hg0 Hg1 Hwa Hv Hw

/-- The first product of direction 0. -/
theorem part26_run (c : Dev nD) (v2 : BitVec 32) {O : CellTallies nD τ sig ℕ} (hO : Above 0 O) {Q : _ → sProp 𝕄} (hQ : ∀ a, iprop(XS X 0 1 2 c ∗ some' c (xslotM 0 0) ∗ has c (sendM 0) (sendV X Wt 0 0 c) ∗ has c wV (Wt c) ∗ Ow O c) ⊢ Q a) :
    iprop(Ctx X Wt κ ι ∗ XS X 0 0 2 c ∗ some' c (sendM 0) ∗ has c wV (Wt c) ∗ Ow O c) ⊢ WP c ((given k0_part26) c v2) Q := by
  unfold given; rw [k0_part26_eq_skeleton]
  unfold k0_part26_skel
  simp only [Prog.lift, Prog.bind_op, Prog.bind_ret, Prog.pure_eq_ret, semWaitWord, semSignalWord, semSignalHereWord]
  iintro ⟨#HC, Hx, Hs, Hv, HO⟩
  icases Hs with ⟨%s, Hs⟩
  iapply (op_xwait 0 0 2 c (by decide) (by decide) hO (congrArg SemLoc.dma (x0_sem 0 rfl _)) ((congrArg (fun m => m.view.dmaCredit) (xslot_eq 0 0 rfl _)).trans (xslot_credit _ _))) $$ [Hx HO]
  · iframe HC Hx HO
  iintro ⟨Hx, Hsl, HO⟩
  iapply (load_xslot c 0 0 _ rfl rfl _) $$ [Hsl]
  · iexact Hsl
  iintro Hsl
  iapply (load_all c wV (Wt c)) $$ [Hv]
  · iexact Hv
  iintro Hv
  iapply (load_all c (sendM 0) _) $$ [Hs]
  · iexact Hs
  iintro Hs
  iapply (store_all c (sendM 0) _ _) $$ [Hs]
  · iexact Hs
  iintro Hs
  ihave Hs := (Entails.of_eq (congrArg (has c (sendM 0)) (pay18_eq (xBlk X c (useBlk 0 c 0)) (Wt c) _))) $$ Hs
  iapply (ret_post hQ c _)
  iframe Hx
  isplitl [Hsl]; · iexists _; iexact Hsl
  iframe Hs Hv HO

/-- The third row block of direction 0. -/
theorem part27_run (c : Dev nD) (v2 v203 v213 v217 : BitVec 32) (v222 : BitVec 1) (v223 : BitVec 32) {Q : _ → sProp 𝕄} (hQ : ∀ a, iprop(XS X 0 1 3 c) ⊢ Q a) :
    iprop(Ctx X Wt κ ι ∗ XS X 0 1 2 c ∗ some' c (xslotM 0 0)) ⊢ WP c ((given k0_part27) c v2 v203 v213 v217 v222 v223) Q := by
  unfold given; rw [k0_part27_eq_skeleton]
  unfold k0_part27_skel
  simp only [Prog.lift, Prog.bind_op, Prog.bind_ret, Prog.pure_eq_ret, semWaitWord, semSignalWord, semSignalHereWord]
  iintro ⟨#HC, Hx, Hsl⟩
  iapply (op_xstart 0 1 2 c (by decide) (by decide) (xblk_eq (useBlk 0 c 2) (off1_eq2 c) _) (xslot_eq 0 0 rfl _) (congrArg SemLoc.dma (x0_sem 0 rfl _))) $$ [Hx Hsl]
  · iframe HC Hx Hsl
  iintro Hx
  iapply (ret_post hQ c _)
  iexact Hx

/-- The first product of direction 1. -/
theorem part28_run (c : Dev nD) (v2 v235 v245 v256 : BitVec 32) {O : CellTallies nD τ sig ℕ} (hO : Above 0 O) {Q : _ → sProp 𝕄} (hQ : ∀ a, iprop(XS X 1 1 2 c ∗ some' c (xslotM 1 0) ∗ has c (sendM 1) (sendV X Wt 1 0 c) ∗ has c wV (Wt c) ∗ Ow O c) ⊢ Q a) :
    iprop(Ctx X Wt κ ι ∗ XS X 1 0 2 c ∗ some' c (sendM 1) ∗ has c wV (Wt c) ∗ Ow O c) ⊢ WP c ((given k0_part28) c v2 v235 v245 v256) Q := by
  unfold given; rw [k0_part28_eq_skeleton]
  unfold k0_part28_skel
  simp only [Prog.lift, Prog.bind_op, Prog.bind_ret, Prog.pure_eq_ret, semWaitWord, semSignalWord, semSignalHereWord]
  iintro ⟨#HC, Hx, Hs, Hv, HO⟩
  icases Hs with ⟨%s, Hs⟩
  iapply (op_xwait 1 0 2 c (by decide) (by decide) hO (congrArg SemLoc.dma (x1_sem 0 rfl _)) ((congrArg (fun m => m.view.dmaCredit) (xslot_eq 1 0 rfl _)).trans (xslot_credit _ _))) $$ [Hx HO]
  · iframe HC Hx HO
  iintro ⟨Hx, Hsl, HO⟩
  iapply (load_xslot c 1 0 _ rfl rfl _) $$ [Hsl]
  · iexact Hsl
  iintro Hsl
  iapply (load_all c wV (Wt c)) $$ [Hv]
  · iexact Hv
  iintro Hv
  iapply (load_all c (sendM 1) _) $$ [Hs]
  · iexact Hs
  iintro Hs
  iapply (store_all c (sendM 1) _ _) $$ [Hs]
  · iexact Hs
  iintro Hs
  ihave Hs := (Entails.of_eq (congrArg (has c (sendM 1)) (pay19_eq (xBlk X c (useBlk 1 c 0)) (Wt c) _))) $$ Hs
  iapply (ret_post hQ c _)
  iframe Hx
  isplitl [Hsl]; · iexists _; iexact Hsl
  iframe Hs Hv HO

/-- What the loop keeps. -/
def kept (X : Dev nD → S8192x2048.Idx → Elt F .f32) (Wt : Dev nD → S2048x4096.Idx → Elt F .bf16) (κ : GSem nD τ sig → ℕ) (ι : Key → ℕ) (c : Dev nD) (k : ℕ) (_ : Unit) : sProp 𝕄 :=
  iprop(Ctx X Wt κ ι ∗ StepSt X Wt k c)

theorem loop_step (c : Dev nD) (v2 v276 v286 z : BitVec 32) (t : Trip) (u : Unit) :
    kept X Wt κ ι c t.val u ⊢ wp frame (wpE (defs₀) 𝒱₀ (c : Thread nD τ) none) Set.univ ((given (k0_t1_body)) c v2 v276 v286 z t u) (kept X Wt κ ι c (t.val + 1)) := by
  have h2 : iprop(Ctx X Wt κ ι ∗ Ctx X Wt κ ι ∗ StepSt X Wt t.val c)
      ⊢ WP c ((given k0_t1_body) c v2 v276 v286 z t ()) (fun _ => iprop(Ctx X Wt κ ι ∗ StepSt X Wt (t.val + 1) c)) :=
    BIBase.Entails.trans (BI.sep_mono (BI.Entails.refl _) (trip_run t c v2 v276 v286 z)) (wp_frame_l _ _ _)
  refine BIBase.Entails.trans ?_ h2
  unfold kept
  iintro ⟨#HC, HS⟩
  isplitr; · iexact HC
  isplitr; · iexact HC
  iexact HS

/-- The third row block of direction 1, and the loop. -/
theorem part29_run (c : Dev nD) (v2 v276 v286 z : BitVec 32) {Q : _ → sProp 𝕄} (hQ : ∀ a, iprop(StepSt X Wt 24 c) ⊢ Q a) :
    iprop(Ctx X Wt κ ι ∗ XS X 1 1 2 c ∗ some' c (xslotM 1 0) ∗ (XS X 1 1 3 c -∗ StepSt X Wt 0 c)) ⊢ WP c ((given k0_part29) c v2 v276 v286 z) Q := by
  unfold given; rw [k0_part29_eq_skeleton]
  unfold k0_part29_skel
  simp only [Prog.lift, Prog.bind_op, Prog.bind_ret, Prog.pure_eq_ret, semWaitWord, semSignalWord, semSignalHereWord]
  iintro ⟨#HC, Hx, Hsl, Hk⟩
  iapply (op_xstart 1 1 2 c (by decide) (by decide) (xblk_eq (useBlk 1 c 2) (off1_eq5 c) _) (xslot_eq 1 0 rfl _) (congrArg SemLoc.dma (x1_sem 0 rfl _))) $$ [Hx Hsl]
  · iframe HC Hx Hsl
  iintro Hx
  ihave HS := Hk $$ Hx
  iapply (Scf.wp_for_bind frame (wpE (defs₀) 𝒱₀ (c : Thread nD τ) none) Set.univ k0_t1_loop.lb k0_t1_loop.ub k0_t1_loop.st k0_t1_ok () _ (kept X Wt κ ι c) (loop_step c v2 v276 v286 z)) $$ [HS]
  · unfold kept
    iframe HC HS
  unfold kept
  iintro %a ⟨-, HS⟩
  ihave HS := (Entails.of_eq (congrArg (fun n => StepSt X Wt n c) trips_eq)) $$ HS
  iapply (ret_post hQ c _)
  iexact HS

end Cert.KernelIdeal.Ring

end
-- ==== Proof.KernelIdeal.Body.lean ====
/-
  The kernel on one device, from start to end.
-/
module

public import proofs.«01_k».proof.Proof.KernelIdeal.Enter

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}
variable {κ : GSem nD τ sig → ℕ} {ι : Key → ℕ}
variable {α : Type} {Q : α → sProp 𝕄}

variable (X Wt) in
/-- Direction `b` when the kernel starts: its receive slots have been handed out for writing. -/
def Start (b : Fin 2) (c : Dev nD) : sProp 𝕄 :=
  iprop(SendIdle b 0 c ∗ some' c (sendM b) ∗ OutToks b 0 c ∗ RCells b 0 c ∗ Readers b 0 c ∗ XS X b 0 0 c ∗ some' c (xslotM b 0) ∗ some' c (xslotM b 1)
    ∗ some' c (partM b) ∗ OutIdle X Wt b 0 c ∗ some' c (ostM b) ∗ place (.credit b) c 0 ∗ dutyTok ER (cell (.credit b) c) 0 24
    ∗ bigSep (Finset.Ico 0 24) (fun s => dutyTok ER (cell (.credit b) (frm b c)) 0 s)
    ∗ bigSep (Finset.Ico 0 26) (fun s => cred (tallyAt (cell (.credit b) c) (wIdx s) 1))
    ∗ dutyTok ER (cell .bar (frm b c)) 0 b.val ∗ reached ER (cell .bar (frm b c)) 0)

/-- What a device owes when the kernel starts. -/
def startOwed (c : Dev nD) : CellTallies nD τ sig ℕ :=
  owed 0 0 0 0 c + tallyAt (cell .bar (frm 0 c)) 0 1 + tallyAt (cell .bar (frm 1 c)) 0 1 + tallyAt (cell (.credit 1) c) 24 2 + tallyAt (cell (.credit 0) c) 24 2

variable (X Wt) in
/-- A device when the kernel starts. -/
def Entry (c : Dev nD) : sProp 𝕄 :=
  iprop(Start X Wt 0 c ∗ Start X Wt 1 c ∗ has c wA (Wt c) ∗ some' c wV ∗ dutyTok ER (cell .w c) 0 0 ∗ place .w c 0
    ∗ atPos ER (cell .bar c) 0 ∅ 0 ∗ cred (tallyAt (cell .bar c) 0 2) ∗ Ow (startOwed c) c)

variable (X Wt) in
/-- Direction `b` when the kernel ends. -/
def Finish (b : Fin 2) (c : Dev nD) : sProp 𝕄 :=
  iprop(SendIdle b 24 c ∗ has c (sendM b) (sendV X Wt b 24 c) ∗ RCells b 24 c ∗ Readers b 24 c ∗ XSt X b 16 c ∗ PartSt X Wt b 16 c
    ∗ OutIdle X Wt b 16 c ∗ some' c (ostM b) ∗ atPos ER (cell (.credit b) c) 1 ∅ 0)

variable (X Wt) in
/-- A device when the kernel ends. -/
def Exit (c : Dev nD) : sProp 𝕄 :=
  iprop(Finish X Wt 0 c ∗ Finish X Wt 1 c ∗ has c wV (Wt c) ∗ has c wA (Wt c) ∗ atPos ER (cell .w c) 1 ∅ 0 ∗ atPos ER (cell .bar c) 1 ∅ 0 ∗ Ow 0 c)

theorem cred_start (b : Fin 2) (c : Dev nD) :
    iprop(heard b (tgt b c) 0 ∗ bigSep (Finset.Ico 0 26) (fun s => cred (tallyAt (cell (.credit b) c) (wIdx s) 1)) ∗ atPos ER (cell (.credit b) c) 0 ∅ 0)
      ⊢ Cred (F := F) b 0 c := by
  unfold Cred
  iintro ⟨Hh, Hc, Ha⟩
  iframe Hh Hc
  iexists ∅
  isplitr; · ipureintro; exact ⟨Finset.empty_subset _, Nat.zero_le _⟩
  iframe Ha
  rw [bigSep_empty]
  iempintro

theorem xst_first (b : Fin 2) (c : Dev nD) : XS X b 1 3 c ⊢ XSt X b (useOf 0) c := by
  show _ ⊢ iprop(XS X b 1 3 c ∗ XFree b 1 c)
  unfold XFree
  rw [if_neg (by decide), if_neg (by decide)]
  iintro H
  iframe H
  isplitr <;> iempintro

theorem part_first (b : Fin 2) (c : Dev nD) : some' c (partM b) ⊢ PartSt X Wt b (useOf 0) c := by
  unfold PartSt
  iintro ⟨%P, H⟩
  iexists P
  isplitr; · ipureintro; intro h; exact absurd h (by decide)
  iexact H

/-- From the start of the kernel to its last wait. -/
theorem part30_run (c : Dev nD) {Q : PUnit → sProp 𝕄}
    (hQ : ∀ a, iprop(Finish X Wt 0 c ∗ (SendIdle 1 24 c ∗ has c (sendM 1) (sendV X Wt 1 24 c) ∗ RCells 1 24 c ∗ Readers 1 24 c ∗ XSt X 1 16 c ∗ PartSt X Wt 1 16 c
        ∗ OutIdle X Wt 1 16 c ∗ some' c (ostM 1) ∗ Cred 1 24 c) ∗ has c wV (Wt c) ∗ has c wA (Wt c) ∗ atPos ER (cell .w c) 1 ∅ 0 ∗ atPos ER (cell .bar c) 1 ∅ 0 ∗ Ow 0 c) ⊢ Q a) :
    iprop(Ctx X Wt κ ι ∗ Entry X Wt c) ⊢ WP (F := F) c (given k0_part30) Q := by
  unfold given; rw [k0_part30_eq_skeleton]
  unfold k0_part30_skel
  simp only [Prog.lift, Prog.bind_op, Prog.bind_ret, Prog.pure_eq_ret, semWaitWord, semSignalWord, semSignalHereWord]
  unfold Entry Start
  iintro ⟨#HC, ⟨Hi0, Hs0, Hot0, HR0, Hrd0, Hx0, Hsl00, Hsl01, Hp0, Ho0, Hw0, Hcp0, Hct0, Hcd0, Hcr0, Hbt0, Hbr0⟩,
    ⟨Hi1, Hs1, Hot1, HR1, Hrd1, Hx1, Hsl10, Hsl11, Hp1, Ho1, Hw1, Hcp1, Hct1, Hcd1, Hcr1, Hbt1, Hbr1⟩, Hwa, Hwv, Hwt, Hwp, Hba, Hbc, HO⟩
  ihave Hcp0 := (Entails.of_eq (show place (.credit 0) c 0 = iprop(atPos ER (cell (.credit 0) c) 0 ∅ 0 ∗ reached ER (cell (.credit 0) c) 0) from rfl)) $$ Hcp0
  ihave Hcp1 := (Entails.of_eq (show place (.credit 1) c 0 = iprop(atPos ER (cell (.credit 1) c) 0 ∅ 0 ∗ reached ER (cell (.credit 1) c) 0) from rfl)) $$ Hcp1
  icases Hcp0 with ⟨Hca0, #Hcr00⟩
  icases Hcp1 with ⟨Hca1, #Hcr11⟩
  iapply (seq_run (fun a => iprop(⌜a.1 = c⌝ ∗ atPos ER (cell .w c) 0 ∅ 0 ∗ cred (tallyAt (cell .w c) 0 nW))) c _ _) $$ [Hwa Hwv Hwt Hwp]
  · iapply (part20_run c (fun _ => BI.Entails.refl _)) $$ [Hwa Hwv Hwt Hwp]
    iframe HC Hwa Hwv Hwt Hwp
  iintro %a ⟨%h0, Hwa, Hwc⟩
  obtain ⟨d0, v2⟩ := a
  have h0' : d0 = c := h0
  subst h0'
  iapply (seq_run (fun a => iprop(XS X 0 0 1 d0)) d0 _ _) $$ [Hx0 Hsl00]
  · iapply (part21_run d0 _ (fun _ => BI.Entails.refl _)) $$ [Hx0 Hsl00]
    iframe HC Hx0 Hsl00
  iintro %a Hx0
  iapply (seq_run (fun a => iprop(XS X 0 0 2 d0 ∗ Ow (owed 0 0 0 0 d0 + tallyAt (cell .bar (frm 0 d0)) 0 1 + tallyAt (cell .bar (frm 1 d0)) 0 1 + tallyAt (cell (.credit 1) d0) 24 2) d0)) d0 _ _) $$ [Hx0 Hsl01 HO Hct0]
  · iapply (part22_run d0 _ _ rfl (fun _ => BI.Entails.refl _)) $$ [Hx0 Hsl01 HO Hct0]
    iframe HC Hx0 Hsl01 HO Hct0 Hcr00
  iintro %a ⟨Hx0, HO⟩
  iapply (seq_run (fun a => iprop(XS X 1 0 1 d0)) d0 _ _) $$ [Hx1 Hsl10]
  · iapply (part23_run d0 _ (fun _ => BI.Entails.refl _)) $$ [Hx1 Hsl10]
    iframe HC Hx1 Hsl10
  iintro %a Hx1
  iapply (seq_run (fun a => iprop(⌜a.1 = SemArray.scalar (sig.barrier 0 rfl)⌝ ∗ XS X 1 0 2 d0 ∗ Ow (owed 0 0 0 0 d0 + tallyAt (cell .bar (frm 0 d0)) 0 1) d0 ∗ RCells 1 0 d0 ∗ Readers 1 0 d0)) d0 _ _) $$ [Hx1 Hsl11 HO Hct1 Hbt1 Hbr1 HR1 Hrd1]
  · iapply (part24_run d0 _ _ _ rfl rfl (fun _ => BI.Entails.refl _)) $$ [Hx1 Hsl11 HO Hct1 Hbt1 Hbr1 HR1 Hrd1]
    iframe HC Hx1 Hsl11 HO Hct1 Hcr11
    iframe Hbt1 Hbr1 HR1 Hrd1 Hcr00
  iintro %a ⟨%hb, Hx1, HO, HR1, Hrd1⟩
  obtain ⟨v135, v160, z⟩ := a
  have hv : v135.sem = barS := (congrArg SemArray.sem (show v135 = _ from hb)).trans bar_sem
  iapply (seq_run (fun a => iprop(Ow (owed 0 0 0 0 d0) d0 ∗ RCells 0 0 d0 ∗ Readers 0 0 d0 ∗ atPos ER (cell .bar d0) 1 ∅ 0 ∗ greet 0 (tgt 0 d0) ∗ greet 1 (tgt 1 d0) ∗ atPos ER (cell .w d0) 1 ∅ 0 ∗ has d0 wV (Wt d0) ∗ has d0 wA (Wt d0))) d0 _ _) $$ [HO Hbt0 Hbr0 HR0 Hrd0 Hba Hbc Hwa Hwc]
  · iapply (part25_run d0 _ v135 _ _ hv _ rfl (Above.owed (cut := 1) d0 (.inl (by decide)) (.inl (by decide)) (.inl (by decide)) (.inl (by decide))) (fun _ => BI.Entails.refl _)) $$ [HO Hbt0 Hbr0 HR0 Hrd0 Hba Hbc Hwa Hwc]
    iframe HC HO Hbt0 Hbr0 HR0 Hrd0 Hcr11
    iframe Hba Hbc Hwa Hwc
  iintro %a ⟨HO, HR0, Hrd0, Hba, Hg0, Hg1, Hwa, Hwv, Hww⟩
  unfold greet
  icases Hg0 with ⟨Hh0, Hcq1⟩
  icases Hg1 with ⟨Hh1, Hcq0⟩
  iapply (seq_run (fun a => iprop(XS X 0 1 2 d0 ∗ some' d0 (xslotM 0 0) ∗ has d0 (sendM 0) (sendV X Wt 0 0 d0) ∗ has d0 wV (Wt d0) ∗ Ow (owed 0 0 0 0 d0) d0)) d0 _ _) $$ [Hx0 Hs0 Hwv HO]
  · iapply (part26_run d0 _ (owed_zero 0 0 0 0 d0) (fun _ => BI.Entails.refl _)) $$ [Hx0 Hs0 Hwv HO]
    iframe HC Hx0 Hs0 Hwv HO
  iintro %a ⟨Hx0, Hsl00, Hs0, Hwv, HO⟩
  obtain ⟨_, _, _, _, _⟩ := a
  iapply (seq_run (fun a => iprop(XS X 0 1 3 d0)) d0 _ _) $$ [Hx0 Hsl00]
  · iapply (part27_run d0 _ _ _ _ _ _ (fun _ => BI.Entails.refl _)) $$ [Hx0 Hsl00]
    iframe HC Hx0 Hsl00
  iintro %a Hx0
  obtain ⟨_, _, _⟩ := a
  iapply (seq_run (fun a => iprop(XS X 1 1 2 d0 ∗ some' d0 (xslotM 1 0) ∗ has d0 (sendM 1) (sendV X Wt 1 0 d0) ∗ has d0 wV (Wt d0) ∗ Ow (owed 0 0 0 0 d0) d0)) d0 _ _) $$ [Hx1 Hs1 Hwv HO]
  · iapply (part28_run d0 _ _ _ _ (owed_zero 0 0 0 0 d0) (fun _ => BI.Entails.refl _)) $$ [Hx1 Hs1 Hwv HO]
    iframe HC Hx1 Hs1 Hwv HO
  iintro %a ⟨Hx1, Hsl10, Hs1, Hwv, HO⟩
  obtain ⟨_, _, _⟩ := a
  iapply (seq_run (fun a => StepSt X Wt 24 d0) d0 _ _) $$ [Hx1 Hsl10 Hx0 Hi0 Hs0 Hot0 Hca0 Hcr0 Hh0 HR0 Hrd0 Hcd0 Hcq0 Hp0 Ho0 Hw0 Hi1 Hs1 Hot1 Hca1 Hcr1 Hh1 HR1 Hrd1 Hcd1 Hcq1 Hp1 Ho1 Hw1 Hwv HO]
  · iapply (part29_run d0 _ _ _ _ (fun _ => BI.Entails.refl _)) $$ [Hx1 Hsl10 Hx0 Hi0 Hs0 Hot0 Hca0 Hcr0 Hh0 HR0 Hrd0 Hcd0 Hcq0 Hp0 Ho0 Hw0 Hi1 Hs1 Hot1 Hca1 Hcr1 Hh1 HR1 Hrd1 Hcd1 Hcq1 Hp1 Ho1 Hw1 Hwv HO]
    iframe HC Hx1 Hsl10
    iintro Hx1
    unfold StepSt DirSt
    isplitl [Hi0 Hs0 Hot0 Hca0 Hcr0 Hh0 HR0 Hrd0 Hcd0 Hcq0 Hx0 Hp0 Ho0 Hw0]
    · iframe Hi0 Hs0 Hot0
      isplitl [Hca0 Hcr0 Hh0]
      · iapply (cred_start 0 d0)
        iframe Hh0 Hcr0 Hca0
      iframe HR0 Hrd0
      isplitl [Hcd0 Hcq0]
      · unfold CreditToks
        iframe Hcq0 Hcd0
      isplitl [Hx0]; · iapply (xst_first 0 d0); iexact Hx0
      isplitl [Hp0]; · iapply (part_first 0 d0); iexact Hp0
      iapply (Entails.of_eq (show iprop(OutIdle X Wt 0 0 d0 ∗ some' d0 (ostM 0)) = OutSt X Wt 0 (outOf 0) d0 from rfl))
      iframe Ho0 Hw0
    isplitl [Hi1 Hs1 Hot1 Hca1 Hcr1 Hh1 HR1 Hrd1 Hcd1 Hcq1 Hx1 Hp1 Ho1 Hw1]
    · iframe Hi1 Hs1 Hot1
      isplitl [Hca1 Hcr1 Hh1]
      · iapply (cred_start 1 d0)
        iframe Hh1 Hcr1 Hca1
      iframe HR1 Hrd1
      isplitl [Hcd1 Hcq1]
      · unfold CreditToks
        iframe Hcq1 Hcd1
      isplitl [Hx1]; · iapply (xst_first 1 d0); iexact Hx1
      isplitl [Hp1]; · iapply (part_first 1 d0); iexact Hp1
      iapply (Entails.of_eq (show iprop(OutIdle X Wt 1 0 d0 ∗ some' d0 (ostM 1)) = OutSt X Wt 1 (outOf 0) d0 from rfl))
      iframe Ho1 Hw1
    iframe Hwv HO
  iintro %a HS
  obtain ⟨_, _, _⟩ := a
  unfold StepSt DirSt
  icases HS with ⟨⟨Hi0, Hs0, -, Hcr0, HR0, Hrd0, -, Hx0, Hp0, Ho0⟩, ⟨Hi1, Hs1, -, Hcr1, HR1, Hrd1, -, Hx1, Hp1, Ho1⟩, Hwv, HO⟩
  ihave HO := (Entails.of_eq (congrArg (fun O => Ow O d0) (owed_none d0))) $$ HO
  ihave Ho0 := (Entails.of_eq (show OutSt X Wt 0 (outOf 24) d0 = OutBusy X Wt 0 15 d0 from rfl)) $$ Ho0
  ihave Ho1 := (Entails.of_eq (show OutSt X Wt 1 (outOf 24) d0 = OutBusy X Wt 1 15 d0 from rfl)) $$ Ho1
  iapply (op_outwait 0 15 d0 (by decide) (Above.zero 0) (congrArg SemLoc.dma (out0_sem (site 15) rfl _)) (out_hd (oblk_eq (outBlk 0 d0 15) (off41_eq0 d0) _))) $$ [Ho0 HO]
  · iframe HC Ho0 HO
  iintro ⟨Ho0, Hw0, HO⟩
  iapply (op_credit_last 0 d0 (congrArg SemLoc.reg (credit0_sem _)) rfl) $$ [Hcr0 HO]
  · iframe HC Hcr0 HO
  iintro ⟨HO, Hca0⟩
  iapply (op_outwait 1 15 d0 (by decide) (Above.zero 0) (congrArg SemLoc.dma (out1_sem (site 15) rfl _)) (out_hd (oblk_eq (outBlk 1 d0 15) (off41_eq1 d0) _))) $$ [Ho1 HO]
  · iframe HC Ho1 HO
  iintro ⟨Ho1, Hw1, HO⟩
  iapply (ret_post hQ d0 _)
  unfold Finish
  isplitl [Hi0 Hs0 HR0 Hrd0 Hx0 Hp0 Ho0 Hw0 Hca0]
  · iframe Hi0 Hs0 HR0 Hrd0 Hx0 Hp0 Ho0 Hw0 Hca0
  isplitl [Hi1 Hs1 HR1 Hrd1 Hx1 Hp1 Ho1 Hw1 Hcr1]
  · iframe Hi1 Hs1 HR1 Hrd1 Hx1 Hp1 Ho1 Hw1 Hcr1
  iframe Hwv Hww Hwa Hba HO

/-- The kernel on one device. -/
theorem body_run (c : Dev nD) :
    iprop(Ctx X Wt κ ι ∗ Entry X Wt c) ⊢ WP (F := F) c (given cc0_body) (fun _ => Exit X Wt c) := by
  unfold given; rw [cc0_body_eq_skeleton]
  unfold cc0_body_skel
  simp only [Prog.lift, Prog.bind_op, Prog.bind_ret, Prog.pure_eq_ret, semWaitWord]
  iintro ⟨#HC, HE⟩
  iapply (seq_run (fun _ => iprop(Finish X Wt 0 c ∗ (SendIdle 1 24 c ∗ has c (sendM 1) (sendV X Wt 1 24 c) ∗ RCells 1 24 c ∗ Readers 1 24 c ∗ XSt X 1 16 c ∗ PartSt X Wt 1 16 c
        ∗ OutIdle X Wt 1 16 c ∗ some' c (ostM 1) ∗ Cred 1 24 c) ∗ has c wV (Wt c) ∗ has c wA (Wt c) ∗ atPos ER (cell .w c) 1 ∅ 0 ∗ atPos ER (cell .bar c) 1 ∅ 0 ∗ Ow 0 c)) c _ _) $$ [HE]
  · iapply (part30_run c (fun _ => BI.Entails.refl _)) $$ [HE]
    iframe HC HE
  iintro %a ⟨H0, ⟨Hi1, Hs1, HR1, Hrd1, Hx1, Hp1, Ho1, Hw1, Hcr1⟩, Hwv, Hww, Hwa, Hba, HO⟩
  iapply (op_credit_last 1 c (congrArg SemLoc.reg (credit1_sem _)) rfl) $$ [Hcr1 HO]
  · iframe HC Hcr1 HO
  iintro ⟨HO, Hca1⟩
  iapply (ret_run (fun _ => Exit X Wt c) c _)
  unfold Exit
  iframe H0
  isplitl [Hi1 Hs1 HR1 Hrd1 Hx1 Hp1 Ho1 Hw1 Hca1]
  · unfold Finish
    iframe Hi1 Hs1 HR1 Hrd1 Hx1 Hp1 Ho1 Hw1 Hca1
  iframe Hwv Hww Hwa Hba HO

end Cert.KernelIdeal.Ring

end
-- ==== Proof.KernelIdeal.Bufs.lean ====
/-
  The buffers piece by piece: receive slots, slots for row blocks, the row blocks of x and of the output.
-/
module

public import proofs.«01_k».proof.Proof.KernelIdeal.Mem

@[expose] public section

noncomputable section

namespace Cert.KernelIdeal.Ring

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}

omit [FloatOps F]

/-! ## Squeezed pieces -/

theorem sq_join (c : Dev nD) {s : Shape} {e : EltTy} (m : Memref sig .tc .vmem s e) (s' : Shape) (h : s.Squeezes s') (v : s'.Idx → Elt F e) :
    has c (m.squeeze s' h) v ⊢ has c m (unsq h.numel_eq.symm v) := by
  have hset : (m.squeeze s' h).view.set = m.view.set := View.set_reshape _ _
  unfold has owns
  rw [hset]
  iintro ⟨%f, %hf, H⟩
  iexists f
  isplitr
  · ipureintro
    rw [← hf]
    funext i
    show _ = m.view.read (Elt F) f (Shape.reshapeEquiv _ (Shape.reshapeEquiv _ i))
    rw [Shape.reshapeEquiv_reshapeEquiv, Shape.reshapeEquiv_self]
  · iexact H

theorem sq_split (c : Dev nD) {s : Shape} {e : EltTy} (m : Memref sig .tc .vmem s e) (s' : Shape) (h : s.Squeezes s') (v : s.Idx → Elt F e) :
    has c m v ⊢ some' c (m.squeeze s' h) := by
  have hset : (m.squeeze s' h).view.set = m.view.set := View.set_reshape _ _
  unfold some' has owns
  rw [hset]
  iintro ⟨%f, -, H⟩
  iexists (m.squeeze s' h).view.read (Elt F) f
  iexists f
  isplitr
  · ipureintro; rfl
  · iexact H

theorem sq_split' (c : Dev nD) {s : Shape} {e : EltTy} (m : Memref sig .tc .vmem s e) (s' : Shape) (h : s.Squeezes s') :
    some' (F := F) c m ⊢ some' (F := F) c (m.squeeze s' h) := by
  iintro ⟨%v, H⟩
  iapply (sq_split c m s' h v)
  iexact H
theorem sq_join' (c : Dev nD) {s : Shape} {e : EltTy} (m : Memref sig .tc .vmem s e) (s' : Shape) (h : s.Squeezes s') :
    some' (F := F) c (m.squeeze s' h) ⊢ some' (F := F) c m := by
  iintro ⟨%v, H⟩
  iexists unsq h.numel_eq.symm v
  iapply (sq_join c m s' h v)
  iexact H

/-! ## Contents given piece by piece -/

theorem glue {T : Type} {s : Shape} {β : Type} [Nonempty β] (r : T → Rect s) (hd : ∀ t t', t ≠ t' → Disjoint (r t).set (r t').set)
    (V : (t : T) → (r t).shape.Idx → β) : ∃ X : s.Idx → β, ∀ t j, X ((r t).emb j) = V t j := by
  classical
  refine ⟨fun i => if h : ∃ p : (t : T) × (r t).shape.Idx, (r p.1).emb p.2 = i then V h.choose.1 h.choose.2 else Classical.arbitrary β, fun t j => ?_⟩
  have h : ∃ p : (t : T) × (r t).shape.Idx, (r p.1).emb p.2 = (r t).emb j := ⟨⟨t, j⟩, rfl⟩
  beta_reduce
  rw [dif_pos h]
  generalize hp : h.choose = p
  have he : (r p.1).emb p.2 = (r t).emb j := hp ▸ h.choose_spec
  obtain ⟨t', j'⟩ := p
  have ht : t' = t := by
    by_contra hne
    have m1 : (r t').emb j' ∈ (r t').set := by rw [← Rect.map_emb_univ]; exact Finset.mem_map_of_mem _ (Finset.mem_univ _)
    have m2 : (r t').emb j' ∈ (r t).set := by rw [he, ← Rect.map_emb_univ]; exact Finset.mem_map_of_mem _ (Finset.mem_univ _)
    exact Finset.disjoint_left.mp (hd t' t hne) m1 m2
  subst ht
  rw [(r t').emb.injective he]

section Pieces

variable {T : Type} [Fintype T] [DecidableEq T] {sp : Space} {s : Shape} {e : EltTy} (c : Dev nD) (m : Memref sig .tc sp s e)
  (r : T → Rect s) (hr : ∀ t a, (r t).stride a = 1) (hd : ∀ t t', t ≠ t' → Disjoint (r t).set (r t').set)
  (hcov : (Finset.univ : Finset T).biUnion (fun t => (r t).set) = Finset.univ)
include hd hcov

/-- A buffer at some contents is its pieces at some contents each. -/
theorem pieces_split : some' c m ⊢ bigSep Finset.univ fun t => (some' (F := F) c (m.slice (r t) (hr t))) := by
  iintro ⟨%v, H⟩
  ihave H := (owns_rects (Val := Elt F) (Ix := ℕ) (Name := ℕ) (U := UU) (Lvl := ℕ) (c : Thread nD τ) m fullShare r hr hd hcov v) $$ H
  have h0 (t : T) : (has c (m.slice (r t) (hr t)) (fun j => v ((r t).emb j)) : sProp 𝕄) ⊢ some' (F := F) c (m.slice (r t) (hr t)) := by
    iintro H
    iexists _
    iexact H
  have h : (bigSep Finset.univ fun t => (has c (m.slice (r t) (hr t)) (fun j => v ((r t).emb j)) : sProp 𝕄))
      ⊢ bigSep Finset.univ fun t => (some' (F := F) c (m.slice (r t) (hr t))) := bigSep_mono fun t _ => h0 t
  iapply h
  iexact H

theorem pieces_join [∀ e, Nonempty (Elt F e)] (V : (t : T) → (r t).shape.Idx → Elt F e) {W : s.Idx → Elt F e} (hW : ∀ t j, W ((r t).emb j) = V t j) :
    (bigSep Finset.univ fun t => (has c (m.slice (r t) (hr t)) (V t) : sProp 𝕄)) ⊢ has c m W := by
  have h := owns_of_rects (Val := Elt F) (Ix := ℕ) (Name := ℕ) (U := UU) (Lvl := ℕ) (c : Thread nD τ) m fullShare r hr hd hcov W
  have e : (fun t => (has c (m.slice (r t) (hr t)) (V t) : sProp 𝕄)) = fun t => owns (c : Thread nD τ) (m.slice (r t) (hr t)) fullShare (fun j => W ((r t).emb j)) := by
    funext t
    rw [show (fun j => W ((r t).emb j)) = V t from funext (hW t)]
  rw [e]
  exact h

theorem pieces_join' [∀ e, Nonempty (Elt F e)] :
    (bigSep Finset.univ fun t => (some' (F := F) c (m.slice (r t) (hr t)))) ⊢ some' c m := by
  have h := bigSep_exists_pi Finset.univ fun t (v : (r t).shape.Idx → Elt F e) => (has c (m.slice (r t) (hr t)) v : sProp 𝕄)
  refine BIBase.Entails.trans h ?_
  iintro ⟨%V, H⟩
  obtain ⟨W, hW⟩ := glue r hd V
  iexists W
  iapply (pieces_join c m r hr hd hcov V hW)
  iexact H

end Pieces

/-! ## The receive slots and the slots for row blocks -/

theorem slot_disj (p p' : Fin 2) (h : p ≠ p') : Disjoint (slotR p).set (slotR p').set := by
  rw [Finset.disjoint_left]
  intro i h1 h2
  have a1 := (Rect.mem_set_unit.mp h1) 0
  have a2 := (Rect.mem_set_unit.mp h2) 0
  have b1 : p.val ≤ (i 0).val ∧ (i 0).val < p.val + 1 := a1
  have b2 : p'.val ≤ (i 0).val ∧ (i 0).val < p'.val + 1 := a2
  exact h (Fin.ext (by omega))
theorem slot_cov : (Finset.univ : Finset (Fin 2)).biUnion (fun p => (slotR p).set) = Finset.univ := by
  ext i
  simp only [Finset.mem_biUnion, Finset.mem_univ, true_and, iff_true]
  refine ⟨⟨(i 0).val, (i 0).isLt⟩, Rect.mem_set_unit.mpr fun a => ?_⟩
  match a with
  | 0 => exact ⟨Nat.le_refl _, Nat.lt_succ_self _⟩
  | 1 => exact ⟨Nat.zero_le _, by have := (i 1).isLt; show (i 1).val < 0 + 256; rw [Nat.zero_add]; exact this⟩
  | 2 => exact ⟨Nat.zero_le _, by have := (i 2).isLt; show (i 2).val < 0 + 4096; rw [Nat.zero_add]; exact this⟩
theorem xslot_disj (p p' : Fin 2) (h : p ≠ p') : Disjoint (xslotR p).set (xslotR p').set := by
  rw [Finset.disjoint_left]
  intro i h1 h2
  have b1 : p.val ≤ (i 0).val ∧ (i 0).val < p.val + 1 := (Rect.mem_set_unit.mp h1) 0
  have b2 : p'.val ≤ (i 0).val ∧ (i 0).val < p'.val + 1 := (Rect.mem_set_unit.mp h2) 0
  exact h (Fin.ext (by omega))
theorem xslot_cov : (Finset.univ : Finset (Fin 2)).biUnion (fun p => (xslotR p).set) = Finset.univ := by
  ext i
  simp only [Finset.mem_biUnion, Finset.mem_univ, true_and, iff_true]
  refine ⟨⟨(i 0).val, (i 0).isLt⟩, Rect.mem_set_unit.mpr fun a => ?_⟩
  match a with
  | 0 => exact ⟨Nat.le_refl _, Nat.lt_succ_self _⟩
  | 1 => exact ⟨Nat.zero_le _, by have := (i 1).isLt; show (i 1).val < 0 + 256; rw [Nat.zero_add]; exact this⟩
  | 2 => exact ⟨Nat.zero_le _, by have := (i 2).isLt; show (i 2).val < 0 + 2048; rw [Nat.zero_add]; exact this⟩

theorem recv_split (b : Fin 2) (c : Dev nD) : some' (F := F) c (recvM b) ⊢ bigSep Finset.univ fun p : Fin 2 => slotOf (F := F) (c, b, p) :=
  (pieces_split c (recvM b) slotR (fun _ _ => rfl) slot_disj slot_cov).trans (bigSep_mono fun p _ => sq_split' c ((recvM b).slice (slotR p) (fun _ => rfl)) S256x4096 squeezes_S1x256x4096_S256x4096)
theorem recv_join [∀ e, Nonempty (Elt F e)] (b : Fin 2) (c : Dev nD) :
    (bigSep Finset.univ fun p : Fin 2 => slotOf (F := F) (c, b, p)) ⊢ some' (F := F) c (recvM b) :=
  BIBase.Entails.trans (bigSep_mono fun p _ => sq_join' c ((recvM b).slice (slotR p) (fun _ => rfl)) S256x4096 squeezes_S1x256x4096_S256x4096) (pieces_join' c (recvM b) slotR (fun _ _ => rfl) slot_disj slot_cov)
theorem xs_split (b : Fin 2) (c : Dev nD) : some' (F := F) c (xsM b) ⊢ iprop(some' c (xslotM b 0) ∗ some' c (xslotM b 1)) :=
  ((pieces_split c (xsM b) xslotR (fun _ _ => rfl) xslot_disj xslot_cov).trans (bigSep_mono fun p _ => sq_split' c ((xsM b).slice (xslotR p) (fun _ => rfl)) S256x2048 squeezes_S1x256x2048_S256x2048)).trans (Entails.of_eq (BI.bigSep_fin_two fun p => (some' c (xslotM b p) : sProp 𝕄)))
theorem xs_join [∀ e, Nonempty (Elt F e)] (b : Fin 2) (c : Dev nD) :
    iprop(some' c (xslotM b 0) ∗ some' c (xslotM b 1)) ⊢ some' (F := F) c (xsM b) :=
  (Entails.of_eq (BI.bigSep_fin_two fun p => (some' c (xslotM b p) : sProp 𝕄)).symm).trans
    (BIBase.Entails.trans (bigSep_mono fun p _ => sq_join' c ((xsM b).slice (xslotR p) (fun _ => rfl)) S256x2048 squeezes_S1x256x2048_S256x2048) (pieces_join' c (xsM b) xslotR (fun _ _ => rfl) xslot_disj xslot_cov))

/-! ## The row blocks -/

theorem xblk_disj (p p' : Fin 32) (h : p ≠ p') : Disjoint (xblkR p).set (xblkR p').set := by
  rw [Finset.disjoint_left]
  intro i h1 h2
  have b1 : 256 * p.val ≤ (i 0).val ∧ (i 0).val < 256 * p.val + 256 := (Rect.mem_set_unit.mp h1) 0
  have b2 : 256 * p'.val ≤ (i 0).val ∧ (i 0).val < 256 * p'.val + 256 := (Rect.mem_set_unit.mp h2) 0
  exact h (Fin.ext (by omega))
theorem oblk_disj (p p' : Fin 32) (h : p ≠ p') : Disjoint (oblkR p).set (oblkR p').set := by
  rw [Finset.disjoint_left]
  intro i h1 h2
  have b1 : 256 * p.val ≤ (i 0).val ∧ (i 0).val < 256 * p.val + 256 := (Rect.mem_set_unit.mp h1) 0
  have b2 : 256 * p'.val ≤ (i 0).val ∧ (i 0).val < 256 * p'.val + 256 := (Rect.mem_set_unit.mp h2) 0
  exact h (Fin.ext (by omega))
theorem xblk_cov : (Finset.univ : Finset (Fin 32)).biUnion (fun p => (xblkR p).set) = Finset.univ := by
  ext i
  simp only [Finset.mem_biUnion, Finset.mem_univ, true_and, iff_true]
  have h0 : (i 0).val < 8192 := (i 0).isLt
  refine ⟨⟨(i 0).val / 256, by omega⟩, Rect.mem_set_unit.mpr fun a => ?_⟩
  match a with
  | 0 => exact show 256 * ((i 0).val / 256) ≤ (i 0).val ∧ (i 0).val < 256 * ((i 0).val / 256) + 256 by omega
  | 1 => exact ⟨Nat.zero_le _, by have := (i 1).isLt; show (i 1).val < 0 + 2048; rw [Nat.zero_add]; exact this⟩
theorem oblk_cov : (Finset.univ : Finset (Fin 32)).biUnion (fun p => (oblkR p).set) = Finset.univ := by
  ext i
  simp only [Finset.mem_biUnion, Finset.mem_univ, true_and, iff_true]
  have h0 : (i 0).val < 8192 := (i 0).isLt
  refine ⟨⟨(i 0).val / 256, by omega⟩, Rect.mem_set_unit.mpr fun a => ?_⟩
  match a with
  | 0 => exact show 256 * ((i 0).val / 256) ≤ (i 0).val ∧ (i 0).val < 256 * ((i 0).val / 256) + 256 by omega
  | 1 => exact ⟨Nat.zero_le _, by have := (i 1).isLt; show (i 1).val < 0 + 4096; rw [Nat.zero_add]; exact this⟩

/-- The uses of a device, over both directions, take each row block once; so do its output copies. -/
theorem use_inj (c : Dev nD) : Function.Injective fun p : Fin 2 × Fin 16 => useBlk p.1 c p.2.val := by
  rintro ⟨b, u⟩ ⟨b', u'⟩ h
  have h := congrArg Fin.val h
  have hc : c.val < 4 := c.isLt
  have hu := u.isLt; have hu' := u'.isLt
  have hb := b.isLt; have hb' := b'.isLt
  simp only [useBlk, chunk] at h
  have e1 : b.val = b'.val := by split at h <;> split at h <;> omega
  obtain rfl : b = b' := Fin.ext e1
  have e2 : u.val = u'.val := by split at h <;> omega
  obtain rfl : u = u' := Fin.ext e2
  rfl
theorem out_inj (c : Dev nD) : Function.Injective fun p : Fin 2 × Fin 16 => outBlk p.1 c p.2.val := by
  rintro ⟨b, u⟩ ⟨b', u'⟩ h
  have h := congrArg Fin.val h
  have hc : c.val < 4 := c.isLt
  have hu := u.isLt; have hu' := u'.isLt
  have hb := b.isLt; have hb' := b'.isLt
  simp only [outBlk, chunk] at h
  have e1 : b.val = b'.val := by split at h <;> split at h <;> omega
  obtain rfl : b = b' := Fin.ext e1
  have e2 : u.val = u'.val := by split at h <;> omega
  obtain rfl : u = u' := Fin.ext e2
  rfl

def useE (c : Dev nD) : Fin 2 × Fin 16 ≃ Fin 32 :=
  Equiv.ofBijective _ ((Fintype.bijective_iff_injective_and_card _).mpr ⟨use_inj c, by simp⟩)
def outE (c : Dev nD) : Fin 2 × Fin 16 ≃ Fin 32 :=
  Equiv.ofBijective _ ((Fintype.bijective_iff_injective_and_card _).mpr ⟨out_inj c, by simp⟩)

theorem fin_range (n : ℕ) (Φ : ℕ → sProp 𝕄) : (bigSep Finset.univ fun u : Fin n => Φ u.val) = bigSep (Finset.range n) Φ := by
  refine (bigSep_map (s := Finset.univ) (Fin.valEmbedding : Fin n ↪ ℕ) (Φ := Φ)).symm.trans (congrArg (fun S => bigSep S Φ) ?_)
  ext x
  simp only [Finset.mem_map, Finset.mem_univ, true_and, Fin.valEmbedding_apply, Finset.mem_range]
  exact ⟨fun ⟨a, h⟩ => h ▸ a.isLt, fun h => ⟨⟨x, h⟩, rfl⟩⟩

theorem blocks_use (c : Dev nD) (Φ : Fin 32 → sProp 𝕄) :
    bigSep Finset.univ Φ = bigSep Finset.univ fun b : Fin 2 => bigSep (Finset.range 16) fun u => Φ (useBlk b c u) := by
  rw [bigSep_univ_equiv (useE c) Φ, bigSep_univ_prod]
  exact bigSep_congr fun b _ => fin_range 16 fun u => Φ (useBlk b c u)
theorem blocks_out (c : Dev nD) (Φ : Fin 32 → sProp 𝕄) :
    bigSep Finset.univ Φ = bigSep Finset.univ fun b : Fin 2 => bigSep (Finset.range 16) fun j => Φ (outBlk b c j) := by
  rw [bigSep_univ_equiv (outE c) Φ, bigSep_univ_prod]
  exact bigSep_congr fun b _ => fin_range 16 fun u => Φ (outBlk b c u)

theorem x_split (X : Dev nD → S8192x2048.Idx → Elt F .f32) (c : Dev nD) :
    has c xA (X c) ⊢ bigSep Finset.univ fun b : Fin 2 => bigSep (Finset.range 16) fun u => has c (xblkM (useBlk b c u)) (xBlk X c (useBlk b c u)) :=
  (owns_rects (Val := Elt F) (Ix := ℕ) (Name := ℕ) (U := UU) (Lvl := ℕ) (c : Thread nD τ) xA fullShare xblkR (fun _ _ => rfl) xblk_disj xblk_cov (X c)).trans
    (Entails.of_eq (blocks_use c fun i => has c (xblkM i) (xBlk X c i)))
theorem x_join [∀ e, Nonempty (Elt F e)] (X : Dev nD → S8192x2048.Idx → Elt F .f32) (c : Dev nD) :
    (bigSep Finset.univ fun b : Fin 2 => bigSep (Finset.range 16) fun u => has c (xblkM (useBlk b c u)) (xBlk X c (useBlk b c u))) ⊢ has c xA (X c) :=
  (Entails.of_eq (blocks_use c fun i => has c (xblkM i) (xBlk X c i)).symm).trans
    (pieces_join c xA xblkR (fun _ _ => rfl) xblk_disj xblk_cov (xBlk X c) fun _ _ => rfl)
theorem o_split (c : Dev nD) :
    some' (F := F) c oA ⊢ bigSep Finset.univ fun b : Fin 2 => bigSep (Finset.range 16) fun j => some' (F := F) c (oblkM (outBlk b c j)) :=
  (pieces_split c oA oblkR (fun _ _ => rfl) oblk_disj oblk_cov).trans (Entails.of_eq (blocks_out c fun i => some' c (oblkM i)))

variable [FloatOps F]

/-- The output of a device, put together from its output copies. -/
theorem out_exists [∀ e, Nonempty (Elt F e)] (X : Dev nD → S8192x2048.Idx → Elt F .f32) (Wt : Dev nD → S2048x4096.Idx → Elt F .bf16) (c : Dev nD) :
    ∃ W : S8192x4096.Idx → Elt F .f32, ∀ (i : Fin 32) (x : S256x4096.Idx),
      W ((oblkR i).emb x) = outV X Wt ((outE c).symm i).1 c ((outE c).symm i).2.val x :=
  glue oblkR oblk_disj fun i => outV X Wt ((outE c).symm i).1 c ((outE c).symm i).2.val

def Out [∀ e, Nonempty (Elt F e)] (X : Dev nD → S8192x2048.Idx → Elt F .f32) (Wt : Dev nD → S2048x4096.Idx → Elt F .bf16) (c : Dev nD) :
    S8192x4096.Idx → Elt F .f32 := (out_exists X Wt c).choose

theorem Out_blk [∀ e, Nonempty (Elt F e)] (X : Dev nD → S8192x2048.Idx → Elt F .f32) (Wt : Dev nD → S2048x4096.Idx → Elt F .bf16) (c : Dev nD)
    (b : Fin 2) {j : ℕ} (hj : j < 16) (x : S256x4096.Idx) : Out X Wt c ((oblkR (outBlk b c j)).emb x) = outV X Wt b c j x := by
  have h := (out_exists X Wt c).choose_spec (outBlk b c j) x
  have e : (outE c).symm (outBlk b c j) = (b, ⟨j, hj⟩) := (Equiv.symm_apply_eq _).mpr rfl
  rw [e] at h
  exact h

theorem o_join [∀ e, Nonempty (Elt F e)] (X : Dev nD → S8192x2048.Idx → Elt F .f32) (Wt : Dev nD → S2048x4096.Idx → Elt F .bf16) (c : Dev nD) :
    (bigSep Finset.univ fun b : Fin 2 => bigSep (Finset.range 16) fun j => has c (oblkM (outBlk b c j)) (outV X Wt b c j)) ⊢ has c oA (Out X Wt c) := by
  have e : (bigSep Finset.univ fun b : Fin 2 => bigSep (Finset.range 16) fun j => (has c (oblkM (outBlk b c j)) (outV X Wt b c j) : sProp 𝕄))
      = bigSep Finset.univ fun b : Fin 2 => bigSep (Finset.range 16) fun j => has c (oblkM (outBlk b c j)) (fun x => Out X Wt c ((oblkR (outBlk b c j)).emb x)) :=
    bigSep_congr fun b _ => bigSep_congr fun j hj => by
      exact congrArg (fun v => (has c (oblkM (outBlk b c j)) v : sProp 𝕄)) (funext fun x => (Out_blk X Wt c b (Finset.mem_range.mp hj) x).symm)
  rw [e]
  exact (Entails.of_eq (blocks_out c fun i => has c (oblkM i) (fun x => Out X Wt c ((oblkR i).emb x))).symm).trans
    (pieces_join c oA oblkR (fun _ _ => rfl) oblk_disj oblk_cov (fun i x => Out X Wt c ((oblkR i).emb x)) fun _ _ => rfl)

end Cert.KernelIdeal.Ring

end
-- ==== Proof.KernelIdeal.Open.lean ====
/-
  From what a device is dealt to the start of its body, and from the body's end to the buffers and semaphores put away.
-/
module

public import proofs.«01_k».proof.Proof.KernelIdeal.Body
public import proofs.«01_k».proof.Proof.KernelIdeal.Bufs

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}
variable {κ : GSem nD τ sig → ℕ} {ι : Key → ℕ}

/-! ## A device's scoped semaphores, one by one -/

/-- The scoped semaphores: a direction's send, receive, row block, output and credit semaphores; the weights'. -/
abbrev Own : Type := (Fin 2 × (Unit ⊕ Fin 2 ⊕ Fin 2 ⊕ Fin 4 ⊕ Unit)) ⊕ Unit
def ownRole : Own → Role
  | .inl (b, .inl _) => .send b
  | .inl (b, .inr (.inl p)) => .recv b p
  | .inl (b, .inr (.inr (.inl p))) => .xs b p
  | .inl (b, .inr (.inr (.inr (.inl s)))) => .out b s
  | .inl (b, .inr (.inr (.inr (.inr _)))) => .credit b
  | .inr _ => .w
abbrev osem (k : Own) : SemLoc sig := semOf (ownRole k)

/-- Something of each semaphore of a direction. -/
def Sems (b : Fin 2) (Φ : Role → sProp 𝕄) : sProp 𝕄 :=
  iprop(Φ (.send b) ∗ bigSep Finset.univ (fun p : Fin 2 => Φ (.recv b p)) ∗ bigSep Finset.univ (fun p : Fin 2 => Φ (.xs b p))
    ∗ bigSep Finset.univ (fun s : Fin 4 => Φ (.out b s)) ∗ Φ (.credit b))

omit [FloatOps F] in
theorem two (Φ : Fin 2 → sProp 𝕄) : bigSep Finset.univ Φ = iprop(Φ 0 ∗ Φ 1) := BI.bigSep_fin_two Φ

omit [FloatOps F] in
theorem own_eq (Φ : Role → sProp 𝕄) : (bigSep Finset.univ fun k : Own => Φ (ownRole k)) = iprop((bigSep Finset.univ fun b : Fin 2 => Sems b Φ) ∗ Φ .w) := by
  rw [bigSep_univ_sum, bigSep_univ_prod]
  have h1 : (bigSep Finset.univ fun u : Unit => Φ (ownRole (.inr u))) = Φ .w := by rw [Finset.univ_unique, bigSep_singleton]; rfl
  have h2 (b : Fin 2) : (bigSep Finset.univ fun x : Unit ⊕ Fin 2 ⊕ Fin 2 ⊕ Fin 4 ⊕ Unit => Φ (ownRole (.inl (b, x)))) = Sems b Φ := by
    rw [bigSep_univ_sum, bigSep_univ_sum, bigSep_univ_sum, bigSep_univ_sum, Finset.univ_unique, bigSep_singleton, bigSep_singleton]
    rfl
  rw [h1, bigSep_congr fun b _ => h2 b]
  rfl

/-- Opening the scoped semaphores, and closing them. -/
theorem open_all (c : Dev nD) :
    iprop(Ctx X Wt κ ι ∗ bigSep Finset.univ fun k : Own => iprop(openTok ER (cell (ownRole k) c) ∗ semVal (cell (ownRole k) c) 0))
      ⊢ (|={Set.univ}=> bigSep Finset.univ fun k : Own => place (ownRole k) c 0 : sProp 𝕄) := by
  have h (k : Own) : iprop(Ctx X Wt κ ι ∗ openTok ER (cell (ownRole k) c) ∗ semVal (cell (ownRole k) c) 0) ⊢ (|={Set.univ}=> place (ownRole k) c 0 : sProp 𝕄) := by
    iintro ⟨#HC, Ho, Hv⟩
    imod (Rounds.cell_open ER (sched X Wt) (g := cell (ownRole k) c) (Set.mem_univ (κ (cell (ownRole k) c)))) $$ [Ho Hv] with ⟨Ha, Hr⟩
    · isplitr; · iapply (Ctx_cell (ownRole k) c); iexact HC
      isplitl [Ho] <;> iassumption
    imodintro
    unfold place
    isplitl [Ha] <;> iassumption
  classical
  exact (bigSep_with_persistent fun k _ => h k).trans (bigSep_fupd _ _)

theorem close_all (c : Dev nD) :
    iprop(Ctx X Wt κ ι ∗ bigSep Finset.univ fun k : Own => atPos ER (cell (ownRole k) c) (lastOf (ownRole k)) ∅ 0)
      ⊢ (|={Set.univ}=> bigSep Finset.univ fun k : Own => semVal (cell (ownRole k) c) 0 : sProp 𝕄) := by
  have h (k : Own) : iprop(Ctx X Wt κ ι ∗ atPos ER (cell (ownRole k) c) (lastOf (ownRole k)) ∅ 0) ⊢ (|={Set.univ}=> semVal (cell (ownRole k) c) 0 : sProp 𝕄) := by
    iintro ⟨#HC, Ha⟩
    iapply (Rounds.cell_close ER (sched X Wt) (Set.mem_univ (κ (cell (ownRole k) c))) id (fun r hr => duties_later X Wt (ownRole k) c hr))
    isplitr; · iapply (Ctx_cell (ownRole k) c); iexact HC
    iexact Ha
  classical
  exact (bigSep_with_persistent fun k _ => h k).trans (bigSep_fupd _ _)

/-! ## What a device is dealt -/

/-- The tokens and credits of direction `b` of device `c`: what it pays itself, what it pays its neighbours, what it waits for. -/
def Deal (b : Fin 2) (c : Dev nD) : sProp 𝕄 :=
  iprop(bigSep (Finset.Ico 0 24) (fun r => dutyTok ER (cell (.send b) c) r 0)
    ∗ OutToks b 0 c
    ∗ bigSep (Finset.Ico 0 24) (fun s => cred (tallyAt (cell (.recv b (par s)) c) s nS))
    ∗ bigSep (Finset.Ico 0 16) (fun u => dutyTok ER (cell (.xs b (par u)) c) (u / 2) 0)
    ∗ bigSep (Finset.Ico 0 16) (fun j => dutyTok ER (cell (.out b (site j)) c) (j / 4) 0)
    ∗ dutyTok ER (cell (.credit b) c) 0 24
    ∗ bigSep (Finset.Ico 0 24) (fun s => dutyTok ER (cell (.credit b) (frm b c)) 0 s)
    ∗ bigSep (Finset.Ico 0 26) (fun s => cred (tallyAt (cell (.credit b) c) (wIdx s) 1))
    ∗ dutyTok ER (cell .bar (frm b c)) 0 b.val ∗ reached ER (cell .bar (frm b c)) 0)

/-- The last rights to write a direction's slots, kept by the slots' own device until the end. -/
def LastW (b : Fin 2) (c : Dev nD) : sProp 𝕄 := bigSep Finset.univ fun p : Fin 2 => writeTok ES ((c, b, p) : Key) 13
def Reader0 (b : Fin 2) (c : Dev nD) : sProp 𝕄 := bigSep Finset.univ fun p : Fin 2 => readerAt ES ((c, b, p) : Key) 0

/-- A direction's scratch buffers. -/
def Scr (b : Fin 2) (c : Dev nD) : sProp 𝕄 :=
  iprop(some' c (sendM b) ∗ some' c (recvM b) ∗ some' c (partM b) ∗ some' c (xsM b) ∗ some' c (ostM b))

variable (X Wt) in
/-- A direction's row blocks of `x`, and of the output. -/
def XBlks (b : Fin 2) (c : Dev nD) : sProp 𝕄 := bigSep (Finset.range 16) fun u => has c (xblkM (useBlk b c u)) (xBlk X c (useBlk b c u))
def OBlks (b : Fin 2) (c : Dev nD) : sProp 𝕄 := bigSep (Finset.range 16) fun j => some' c (oblkM (outBlk b c j))
variable (X Wt) in
def OBlks' (b : Fin 2) (c : Dev nD) : sProp 𝕄 := bigSep (Finset.range 16) fun j => has c (oblkM (outBlk b c j)) (outV X Wt b c j)

omit [FloatOps F] in
theorem readers_start (b : Fin 2) (c : Dev nD) [FloatOps F] :
    iprop(Ctx X Wt κ ι ∗ Reader0 b c ∗ bigSep Finset.univ fun p : Fin 2 => slotOf (c, b, p)) ⊢ (|={Set.univ}=> Readers b 0 c : sProp 𝕄) := by
  have h (p : Fin 2) : iprop(Ctx X Wt κ ι ∗ readerAt ES ((c, b, p) : Key) 0 ∗ slotOf (c, b, p))
      ⊢ (|={Set.univ}=> (readerAt ES ((c, b, p) : Key) (rc 0 p + 1) ∗ released ES ((c, b, p) : Key) (rc 0 p + 1)) : sProp 𝕄) := by
    rw [show rc 0 p = 0 from by revert p; decide]
    iintro ⟨#HC, HR, HS⟩
    iapply (slot_release ES (S := slotOf ((c, b, p) : Key)) (Set.mem_univ (ι (c, b, p))) (slot_twice _) 0)
    isplitr; · iapply (Ctx_slot ((c, b, p) : Key)); iexact HC
    isplitl [HR] <;> iassumption
  unfold Reader0 Readers
  rw [← bigSep_sep']
  exact (bigSep_with_persistent fun p _ => h p).trans (bigSep_fupd _ _)

theorem readers_end (b : Fin 2) (c : Dev nD) :
    iprop(Ctx X Wt κ ι ∗ Readers b 24 c ∗ LastW b c) ⊢ (|={Set.univ}=> bigSep Finset.univ fun p : Fin 2 => slotOf (c, b, p) : sProp 𝕄) := by
  have h (p : Fin 2) : iprop(Ctx X Wt κ ι ∗ (readerAt ES ((c, b, p) : Key) (rc 24 p + 1) ∗ released ES ((c, b, p) : Key) (rc 24 p + 1)) ∗ writeTok ES ((c, b, p) : Key) 13)
      ⊢ (|={Set.univ}=> slotOf (c, b, p) : sProp 𝕄) := by
    rw [show rc 24 p = 12 from by revert p; decide]
    iintro ⟨#HC, ⟨-, HR⟩, HS⟩
    iapply (slot_take ES (S := slotOf ((c, b, p) : Key)) (Set.mem_univ (ι (c, b, p))) 13)
    isplitr; · iapply (Ctx_slot ((c, b, p) : Key)); iexact HC
    isplitl [HR] <;> iassumption
  unfold LastW Readers
  rw [← bigSep_sep']
  exact (bigSep_with_persistent fun p _ => h p).trans (bigSep_fupd _ _)

/-- A direction made ready: its semaphores open, its slots handed out, its buffers in pieces. -/
theorem start_dir (b : Fin 2) (c : Dev nD) :
    iprop(Ctx X Wt κ ι ∗ Deal b c ∗ Sems b (fun k => place k c 0) ∗ Reader0 b c ∗ Scr b c ∗ XBlks X b c ∗ OBlks b c)
      ⊢ (|={Set.univ}=> Start X Wt b c : sProp 𝕄) := by
  have hr : (bigSep Finset.univ fun p : Fin 2 => place (F := F) (.recv b p) c 0) = bigSep Finset.univ fun p : Fin 2 => place (.recv b p) c (rc 0 p) :=
    bigSep_congr fun p _ => by rw [show rc 0 p = 0 from by revert p; decide]
  have hx : (bigSep Finset.univ fun p : Fin 2 => place (F := F) (.xs b p) c 0) = bigSep Finset.univ fun p : Fin 2 => place (.xs b p) c (rc 0 p) :=
    bigSep_congr fun p _ => by rw [show rc 0 p = 0 from by revert p; decide]
  have ho : (bigSep Finset.univ fun p : Fin 4 => place (F := F) (.out b p) c 0) = bigSep Finset.univ fun p : Fin 4 => place (.out b p) c (oc 0 p) :=
    bigSep_congr fun p _ => by rw [show oc 0 p = 0 from by revert p; decide]
  unfold Deal Sems Scr XBlks OBlks Start SendIdle RCells XS OutIdle
  rw [hr, hx, ho, Finset.Ico_self, Finset.sdiff_empty, bigSep_empty, bigSep_empty, ← Nat.Ico_zero_eq_range]
  iintro ⟨#HC, ⟨Ht1, Ht2, Hc1, Ht3, Ht4, Ht5, Ht6, Hc2, Ht7, Hrb⟩, ⟨Hp1, Hp2, Hp3, Hp4, Hp5⟩, HR, ⟨Hs1, Hs2, Hs3, Hs4, Hs5⟩, HX, HO⟩
  ihave Hs2 := (recv_split b c) $$ Hs2
  ihave Hs4 := (xs_split b c) $$ Hs4
  icases Hs4 with ⟨Hs4, Hs6⟩
  imod (readers_start b c) $$ [HR Hs2] with HR
  · iframe HC HR
    iassumption
  imodintro
  isplitl [Hp1 Ht1]; · isplitl [Hp1] <;> iassumption
  iframe Hs1 Ht2
  isplitl [Hp2 Hc1]; · isplitl [Hp2] <;> iassumption
  iframe HR
  isplitl [Hp3 Ht3 HX]
  · iframe Hp3
    isplitr; · iempintro
    isplitl [Ht3] <;> iassumption
  iframe Hs4 Hs6 Hs3
  isplitl [Hp4 Ht4 HO]
  · iframe Hp4 Ht4
    isplitr; · iempintro
    iexact HO
  iframe Hs5 Hp5 Ht5 Ht6 Hc2 Ht7
  iassumption

omit [FloatOps F] in
theorem place_at {I : Type} [Fintype I] (f : I → Role) (c : Dev nD) (r : I → ℕ) (n : I → ℕ) (h : ∀ p, r p = n p) :
    (bigSep Finset.univ fun p : I => place (F := F) (f p) c (r p)) ⊢ bigSep Finset.univ fun p : I => atPos ER (cell (f p) c) (n p) ∅ 0 := by
  have h1 (p : I) : place (F := F) (f p) c (r p) ⊢ atPos ER (cell (f p) c) (n p) ∅ 0 := by
    rw [h p]
    unfold place
    iintro ⟨H, -⟩
    iexact H
  exact bigSep_mono fun p _ => h1 p

/-- A direction put away: its semaphores at their last places, its buffers whole again. -/
theorem finish_dir [∀ e, Nonempty (Elt F e)] (b : Fin 2) (c : Dev nD) :
    iprop(Ctx X Wt κ ι ∗ Finish X Wt b c ∗ LastW b c)
      ⊢ (|={Set.univ}=> (Sems b (fun k => atPos ER (cell k c) (lastOf k) ∅ 0) ∗ Scr b c ∗ XBlks X b c ∗ OBlks' X Wt b c) : sProp 𝕄) := by
  have hp (k : Role) (n : ℕ) : place (F := F) k c n ⊢ atPos ER (cell k c) n ∅ 0 := by unfold place; iintro ⟨H, -⟩; iexact H
  have hr := place_at (F := F) (fun p : Fin 2 => .recv b p) c (rc 24) (fun p => lastOf (.recv b p)) (by clear * - b; revert b; decide)
  have hx := place_at (F := F) (fun p : Fin 2 => .xs b p) c (rc 16) (fun p => lastOf (.xs b p)) (by clear * - b; revert b; decide)
  have ho := place_at (F := F) (fun p : Fin 4 => .out b p) c (oc 16) (fun p => lastOf (.out b p)) (by clear * - b; revert b; decide)
  unfold Finish SendIdle RCells XSt XS PartSt OutIdle Sems Scr XBlks OBlks'
  rw [show min 16 (16 + 2) = 16 from rfl, Finset.Ico_self, Finset.Ico_self, Finset.sdiff_empty, if_pos (by decide), if_pos (by decide), ← Nat.Ico_zero_eq_range]
  iintro ⟨#HC, ⟨⟨Hp1, -⟩, Hs1, ⟨Hp2, -⟩, HR, ⟨⟨Hp3, -, -, HX⟩, Hx0, Hx1⟩, ⟨%P, -, Hs3⟩, ⟨Hp4, -, HO, -⟩, Hs5, Hp5⟩, HW⟩
  imod (readers_end (X := X) (Wt := Wt) (κ := κ) (ι := ι) b c) $$ [HR HW] with HS
  · iframe HC HR
    iassumption
  ihave Hs2 := (recv_join b c) $$ HS
  ihave Hs4 := (xs_join b c) $$ [Hx0 Hx1]
  · isplitl [Hx0] <;> iassumption
  imodintro
  isplitl [Hp1 Hp2 Hp3 Hp4 Hp5]
  · isplitl [Hp1]; · iapply (hp _ _); iexact Hp1
    isplitl [Hp2]; · iapply hr; iexact Hp2
    isplitl [Hp3]; · iapply hx; iexact Hp3
    isplitl [Hp4]; · iapply ho; iexact Hp4
    iexact Hp5
  isplitl [Hs1 Hs2 Hs3 Hs4 Hs5]
  · isplitl [Hs1]; · iexists _; iexact Hs1
    iframe Hs2
    isplitl [Hs3]; · iexists P; iexact Hs3
    isplitl [Hs4] <;> iassumption
  isplitl [HX] <;> iassumption

/-! ## The whole of the kernel's body on one device -/

variable (X Wt) in
/-- A device at the body's start: what it was dealt, its semaphores open, its buffers. -/
def Opened (c : Dev nD) : sProp 𝕄 :=
  iprop((bigSep Finset.univ fun b : Fin 2 => iprop(Deal (F := F) b c ∗ Reader0 b c ∗ LastW b c)) ∗ (bigSep Finset.univ fun k : Own => place (ownRole k) c 0)
    ∗ dutyTok ER (cell .w c) 0 0 ∗ atPos ER (cell .bar c) 0 ∅ 0 ∗ cred (tallyAt (cell .bar c) 0 2))

variable (X Wt) in
def BufsIn (c : Dev nD) : sProp 𝕄 := iprop((bigSep Finset.univ fun b : Fin 2 => Scr (F := F) b c) ∗ some' (F := F) c wV)

variable (X Wt) in
/-- What a device has at the body's end. -/
def Closed [∀ e, Nonempty (Elt F e)] (c : Dev nD) : sProp 𝕄 :=
  iprop(BufsIn c ∗ (has c xA (X c) ∗ has c wA (Wt c) ∗ has c oA (Out X Wt c))
    ∗ (bigSep Finset.univ fun k : Own => semVal (cell (ownRole k) c) 0) ∗ semVal (cell .bar c) 0 ∗ Ow 0 c)

theorem enter_all (c : Dev nD) :
    iprop(Ctx X Wt κ ι ∗ Opened c ∗ BufsIn c ∗ (has c xA (X c) ∗ has c wA (Wt c) ∗ some' c oA) ∗ Ow (startOwed c) c)
      ⊢ (|={Set.univ}=> (Entry X Wt c ∗ LastW 0 c ∗ LastW 1 c) : sProp 𝕄) := by
  iintro ⟨#HC, HOp, HB, ⟨Hx, Hw, Ho⟩, HO⟩
  ihave Hx := ((x_split X c).trans (Entails.of_eq (two fun b => XBlks X b c))) $$ Hx
  ihave Ho := ((o_split c).trans (Entails.of_eq (two fun b => OBlks (F := F) b c))) $$ Ho
  unfold Opened BufsIn
  icases HOp with ⟨HD, Hpl, Hwt, Hba, Hbc⟩
  icases HB with ⟨HS, HwV⟩
  ihave Hpl := (Entails.of_eq (own_eq fun k => place (F := F) k c 0)) $$ Hpl
  icases Hpl with ⟨Hpl, Hpw⟩
  ihave HD := (Entails.of_eq (two fun b => iprop(Deal (F := F) b c ∗ Reader0 b c ∗ LastW b c))) $$ HD
  ihave HS := (Entails.of_eq (two fun b => Scr (F := F) b c)) $$ HS
  ihave Hpl := (Entails.of_eq (two fun b => Sems (F := F) b fun k => place k c 0)) $$ Hpl
  icases HD with ⟨⟨HD0, HR0, HW0⟩, ⟨HD1, HR1, HW1⟩⟩
  icases HS with ⟨HS0, HS1⟩
  icases Hpl with ⟨Hp0, Hp1⟩
  icases Hx with ⟨Hx0, Hx1⟩
  icases Ho with ⟨Ho0, Ho1⟩
  imod (start_dir (X := X) (Wt := Wt) (κ := κ) (ι := ι) 0 c) $$ [HD0 HR0 HS0 Hp0 Hx0 Ho0] with Hst0
  · iframe HC HD0 Hp0 HR0 HS0 Hx0
    iassumption
  imod (start_dir (X := X) (Wt := Wt) (κ := κ) (ι := ι) 1 c) $$ [HD1 HR1 HS1 Hp1 Hx1 Ho1] with Hst1
  · iframe HC HD1 Hp1 HR1 HS1 Hx1
    iassumption
  imodintro
  isplitr [HW0 HW1]
  · unfold Entry
    iframe Hst0 Hst1 Hw HwV Hwt Hpw Hba Hbc
    iassumption
  isplitl [HW0] <;> iassumption

theorem leave_all [∀ e, Nonempty (Elt F e)] (c : Dev nD) :
    iprop(Ctx X Wt κ ι ∗ Exit X Wt c ∗ LastW 0 c ∗ LastW 1 c) ⊢ (|={Set.univ}=> Closed X Wt c : sProp 𝕄) := by
  unfold Exit Closed BufsIn
  iintro ⟨#HC, ⟨Hf0, Hf1, HwV, Hw, Haw, Hab, HO⟩, HW0, HW1⟩
  imod (finish_dir (X := X) (Wt := Wt) (κ := κ) (ι := ι) 0 c) $$ [Hf0 HW0] with ⟨Hp0, HS0, Hx0, Ho0⟩
  · iframe HC Hf0
    iassumption
  imod (finish_dir (X := X) (Wt := Wt) (κ := κ) (ι := ι) 1 c) $$ [Hf1 HW1] with ⟨Hp1, HS1, Hx1, Ho1⟩
  · iframe HC Hf1
    iassumption
  imod (close_all (X := X) (Wt := Wt) (κ := κ) (ι := ι) c) $$ [Hp0 Hp1 Haw] with Hv
  · iframe HC
    iapply (Entails.of_eq (own_eq fun k => (atPos ER (cell k c) (lastOf k) ∅ 0 : sProp 𝕄)).symm)
    isplitl [Hp0 Hp1]
    · iapply (Entails.of_eq (two fun b => Sems (F := F) b fun k => atPos ER (cell k c) (lastOf k) ∅ 0).symm)
      isplitl [Hp0] <;> iassumption
    iexact Haw
  imod (Rounds.cell_close ER (sched X Wt) (Set.mem_univ (κ (cell .bar c))) id (fun r hr => duties_later X Wt .bar c hr)) $$ [Hab] with Hb
  · isplitr; · iapply (Ctx_cell (X := X) (Wt := Wt) (κ := κ) (ι := ι) .bar c); iexact HC
    iexact Hab
  imodintro
  isplitl [HS0 HS1 HwV]
  · isplitl [HS0 HS1]
    · iapply (Entails.of_eq (two fun b => Scr (F := F) b c).symm)
      isplitl [HS0] <;> iassumption
    iexists Wt c
    iexact HwV
  isplitl [Hx0 Hx1 Hw Ho0 Ho1]
  · isplitl [Hx0 Hx1]
    · iapply ((Entails.of_eq (two fun b => XBlks X b c).symm).trans (x_join X c))
      isplitl [Hx0] <;> iassumption
    iframe Hw
    iapply ((Entails.of_eq (two fun b => OBlks' X Wt b c).symm).trans (o_join X Wt c))
    isplitl [Ho0] <;> iassumption
  iframe Hv Hb
  iassumption

/-- The kernel on one device, from what it was dealt to everything put away. -/
theorem kernel_run [∀ e, Nonempty (Elt F e)] (c : Dev nD) :
    iprop(Ctx X Wt κ ι ∗ Opened c ∗ BufsIn c ∗ (has c xA (X c) ∗ has c wA (Wt c) ∗ some' c oA) ∗ Ow (startOwed c) c)
      ⊢ WP c (given cc0_body) (fun _ => Closed X Wt c) := by
  have hrun := body_run (X := X) (Wt := Wt) (κ := κ) (ι := ι) c
  generalize given (cc0_body (F := F)) = p at hrun ⊢
  have hw : iprop(WP c p (fun _ => Exit X Wt c) ∗ (∀ a, Exit X Wt c -∗ |={Set.univ}=> Closed X Wt c)) ⊢ WP c p (fun _ => Closed X Wt c) :=
    (wp_wand_r frame (wpE (defs₀ (F := F)) 𝒱₀ (c : Thread nD τ) none) Set.univ).trans (wp_fupd frame (wpE (defs₀ (F := F)) 𝒱₀ (c : Thread nD τ) none) Set.univ p _)
  have hw' : iprop(Ctx X Wt κ ι ∗ Entry X Wt c ∗ LastW 0 c ∗ LastW 1 c) ⊢ WP c p (fun _ => Closed X Wt c) := by
    iintro ⟨#HC, HE, HW⟩
    iapply hw
    isplitl [HE]
    · iapply hrun
      iframe HC HE
    iintro %a HE
    iapply (leave_all (X := X) (Wt := Wt) (κ := κ) (ι := ι) c)
    iframe HC HE
    iassumption
  iintro ⟨#HC, H⟩
  imod (enter_all (X := X) (Wt := Wt) (κ := κ) (ι := ι) c) $$ [H] with H
  · iframe HC H
  iapply hw'
  iframe HC H

end Cert.KernelIdeal.Ring

end
-- ==== Proof.KernelIdeal.Credit.lean ====
/-
  What the devices owe each other at the start, and the credits that come of it.
-/
module

public import proofs.«01_k».proof.Proof.KernelIdeal.Open

@[expose] public section

noncomputable section

namespace Cert.KernelIdeal.Ring

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Debts of the device that pays, credits of the device that waits -/

/-- What the neighbours of device `c` owe it in direction `b`: transfers, credit units, a greeting; and what it grants itself. -/
def comeR (b : Fin 2) (c : Dev nD) : CellTallies nD τ sig ℕ := ∑ s ∈ Finset.Ico 0 24, tallyAt (cell (.recv b (par s)) c) s nS
def comeC (b : Fin 2) (c : Dev nD) : CellTallies nD τ sig ℕ := ∑ s ∈ Finset.Ico 0 24, tallyAt (cell (.credit b) c) s 1
def come (c : Dev nD) : CellTallies nD τ sig ℕ :=
  comeR 0 c + comeR 1 c + comeC 0 c + comeC 1 c + tallyAt (cell .bar c) 0 1 + tallyAt (cell .bar c) 0 1
    + tallyAt (cell (.credit 1) c) 24 2 + tallyAt (cell (.credit 0) c) 24 2

/-- Summed over the ring, what is owed is what is to come. -/
theorem sum_owed : ∑ d : Dev nD, startOwed d = ∑ d : Dev nD, come d := by
  unfold startOwed come owed
  simp only [Finset.sum_add_distrib]
  have hR (b : Fin 2) : ∑ d : Dev nD, owR b 0 d = ∑ d : Dev nD, comeR b d := Equiv.sum_comp (ring b) (comeR b)
  have hC (b : Fin 2) : ∑ d : Dev nD, owC b 0 d = ∑ d : Dev nD, comeC b d := Equiv.sum_comp (ring b).symm (comeC b)
  have hB (b : Fin 2) : ∑ d : Dev nD, (tallyAt (cell .bar (frm b d)) 0 1 : CellTallies nD τ sig ℕ) = ∑ d : Dev nD, tallyAt (cell .bar d) 0 1 :=
    Equiv.sum_comp (ring b).symm fun d => (tallyAt (cell .bar d) 0 1 : CellTallies nD τ sig ℕ)
  rw [hR, hR, hC, hC, hB, hB]

/-- A tally naming cells of device `c` only. -/
def Of (c : Dev nD) (T : CellTallies nD τ sig ℕ) : Prop := ∀ g : GSem nD τ sig, g.1 ≠ (c : Thread nD τ) → T g = 0

theorem Of.add {c : Dev nD} {T T' : CellTallies nD τ sig ℕ} (h : Of c T) (h' : Of c T') : Of c (T + T') := fun g hg => by
  rw [Pi.add_apply, h g hg, h' g hg, add_zero]
theorem Of.at (k : Role) (c : Dev nD) (s n : ℕ) : Of c (tallyAt (cell k c) s n) := fun g hg =>
  tallyAt_ne_cell (fun h => hg (congrArg Prod.fst h)) _ _
theorem Of.sum {c : Dev nD} (S : Finset ℕ) (f : ℕ → CellTallies nD τ sig ℕ) (h : ∀ s, Of c (f s)) : Of c (∑ s ∈ S, f s) := fun g hg => by
  rw [Finset.sum_apply, Finset.sum_eq_zero fun s _ => h s g hg]
theorem of_come (c : Dev nD) : Of c (come c) :=
  (((((((Of.sum _ _ fun _ => Of.at _ _ _ _).add (Of.sum _ _ fun _ => Of.at _ _ _ _)).add (Of.sum _ _ fun _ => Of.at _ _ _ _)).add
    (Of.sum _ _ fun _ => Of.at _ _ _ _)).add (Of.at _ _ _ _)).add (Of.at _ _ _ _)).add (Of.at _ _ _ _)).add (Of.at _ _ _ _)

theorem Of.cells {c : Dev nD} {T : CellTallies nD τ sig ℕ} (h : Of c T) :
    ∑ sm : SemLoc sig, tallyOn ((c : Thread nD τ), sm) (T ((c : Thread nD τ), sm)) = T := by
  funext g
  rw [Finset.sum_apply]
  obtain hg | hg := Classical.em (g.1 = (c : Thread nD τ))
  · obtain ⟨t, sm₀⟩ := g
    obtain rfl : t = (c : Thread nD τ) := hg
    rw [Finset.sum_eq_single sm₀ (fun sm _ hne => tallyOn_ne (fun h => hne (congrArg Prod.snd h).symm) _) (fun h => absurd (Finset.mem_univ _) h)]
    exact tallyOn_self _ _
  · rw [h g hg]
    exact Finset.sum_eq_zero fun sm _ => tallyOn_ne (fun h => hg (congrArg Prod.fst h)) _

theorem launch_cell (c : Dev nD) (sm : SemLoc sig) :
    launchCredit (Pipeline.owing startOwed) 0 ((c : Thread nD τ), sm) = come c ((c : Thread nD τ), sm) := by
  refine Finsupp.ext fun i => ?_
  rw [Pipeline.launchCredit_owing]
  have h := congrFun (sum_owed) ((c : Thread nD τ), sm)
  rw [Finset.sum_apply, Finset.sum_apply] at h
  have h' := DFunLike.congr_fun h i
  rw [Finsupp.finsetSum_apply, Finsupp.finsetSum_apply] at h'
  rw [h']
  refine (Finset.sum_eq_single c (fun d _ hd => ?_) fun h => absurd (Finset.mem_univ _) h)
  rw [of_come d ((c : Thread nD τ), sm) (fun h => hd (congrArg (fun t : Thread nD τ => t.1) h).symm)]
  rfl

/-! ## The credits, one by one -/

omit [FloatOps F] in
theorem cred_two (a b : CellTallies nD τ sig ℕ) : (cred (a + b) : sProp 𝕄) = iprop(cred a ∗ cred b) :=
  Entails.antisymm (cred_add _ _).1 (cred_add _ _).2
omit [FloatOps F] in
theorem cred_many {I : Type} [DecidableEq I] (S : Finset I) (f : I → CellTallies nD τ sig ℕ) :
    (cred (∑ x ∈ S, f x) : sProp 𝕄) = bigSep S fun x => cred (f x) := by
  induction S using Finset.induction_on with
  | empty => rw [Finset.sum_empty, bigSep_empty]; exact cred_zero
  | insert x S hx ih => rw [Finset.sum_insert hx, bigSep_insert hx, cred_two, ih]; rfl

omit [FloatOps F] in
theorem launch_come (c : Dev nD) : (Pipeline.launchCred startOwed c : sProp 𝕄) = cred (come c) := by
  unfold Pipeline.launchCred
  rw [bigSep_congr fun sm _ => by rw [launch_cell c sm], ← cred_many, (of_come c).cells]

/-- A device's own two units and its neighbour's twenty-four, in the order it spends them. -/
theorem credits (b : Fin 2) (c : Dev nD) :
    ∑ s ∈ Finset.Ico 0 26, tallyAt (cell (.credit b) c) (wIdx s) 1 = comeC b c + (tallyAt (cell (.credit b) c) 24 2 : CellTallies nD τ sig ℕ) := by
  unfold comeC
  rw [Nat.Ico_zero_eq_range, Nat.Ico_zero_eq_range, Finset.sum_range_succ', Finset.sum_range_succ', add_assoc]
  exact congrArg₂ _ (Finset.sum_congr rfl fun s _ => by rw [show wIdx (s + 1 + 1) = s from by unfold wIdx; rw [if_neg (by omega)]; omega])
    (tallyAt_add _ _ _ _)

/-- The credits of direction `b`. -/
def Creds (b : Fin 2) (c : Dev nD) : sProp 𝕄 :=
  iprop(bigSep (Finset.Ico 0 24) (fun s => cred (tallyAt (cell (.recv b (par s)) c) s nS))
    ∗ bigSep (Finset.Ico 0 26) (fun s => cred (tallyAt (cell (.credit b) c) (wIdx s) 1)))

omit [FloatOps F] in
theorem creds (c : Dev nD) : (Pipeline.launchCred startOwed c : sProp 𝕄) ⊢ iprop((bigSep Finset.univ fun b : Fin 2 => Creds (F := F) b c) ∗ cred (tallyAt (cell .bar c) 0 2)) := by
  rw [launch_come, show come c = ((comeR 0 c + (comeC 0 c + tallyAt (cell (.credit 0) c) 24 2)) + (comeR 1 c + (comeC 1 c + tallyAt (cell (.credit 1) c) 24 2)))
    + (tallyAt (cell .bar c) 0 1 + tallyAt (cell .bar c) 0 1) from by unfold come; ac_rfl, tallyAt_add, ← credits, ← credits, two]
  unfold comeR Creds
  rw [cred_two, cred_two, cred_two, cred_two, cred_many, cred_many, cred_many, cred_many]

end Cert.KernelIdeal.Ring

end
-- ==== Proof.KernelIdeal.Deal.lean ====
/-
  The ghost state made at the launch, and how it is dealt round the ring.
-/
module

public import proofs.«01_k».proof.Proof.KernelIdeal.Credit
public import Idealize.SL.BI.BigOpNat

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}
variable {κ : GSem nD τ sig → ℕ} {ι : Key → ℕ}

omit [FloatOps F] in
theorem over_prod {I J : Type} [DecidableEq I] [DecidableEq J] (S : Finset I) (T : Finset J) (Φ : I × J → sProp 𝕄) :
    bigSep (S ×ˢ T) Φ = bigSep S fun i => bigSep T fun j => Φ (i, j) := by
  induction S using Finset.induction_on with
  | empty => rw [Finset.empty_product, bigSep_empty, bigSep_empty]
  | insert i S hi ih =>
    rw [Finset.insert_eq, Finset.union_product, bigSep_union, ih, ← Finset.insert_eq, bigSep_insert hi, Finset.singleton_product, bigSep_map]
    · rfl
    · rw [Finset.disjoint_left]
      rintro ⟨a, b⟩ h1 h2
      rw [Finset.mem_product] at h1 h2
      exact hi (Finset.mem_singleton.mp h1.1 ▸ h2.1)
omit [FloatOps F] in
theorem put_pair {I : Type} [Fintype I] {Φ Ψ : I → sProp 𝕄} :
    iprop(bigSep Finset.univ Φ ∗ bigSep Finset.univ Ψ) ⊢ bigSep Finset.univ fun i => iprop(Φ i ∗ Ψ i) := Entails.of_eq (bigSep_sep' _ _ _).symm
omit [FloatOps F] in
theorem take_pair {I : Type} [Fintype I] {Φ Ψ : I → sProp 𝕄} :
    (bigSep Finset.univ fun i => iprop(Φ i ∗ Ψ i)) ⊢ iprop(bigSep Finset.univ Φ ∗ bigSep Finset.univ Ψ) := Entails.of_eq (bigSep_sep' _ _ _)

omit [FloatOps F] in
/-- A family over pairs, read along a one-to-one numbering of some of them. -/
theorem along {I J : Type} [DecidableEq I] [DecidableEq J] {T : Finset J} {S : Finset I} (e : I → J) (hi : Set.InjOn e S) (hs : ∀ i ∈ S, e i ∈ T) (Φ : J → sProp 𝕄) :
    bigSep T Φ ⊢ bigSep S fun i => Φ (e i) := by
  rw [← bigSep_image_of_injOn hi]
  exact bigSep_subset (Finset.image_subset_iff.mpr hs)

omit [FloatOps F] in
theorem along_par {n k : ℕ} (hk : n = 2 * k) (f : Fin 2 → ℕ → sProp 𝕄) :
    (bigSep Finset.univ fun p : Fin 2 => bigSep (Finset.range k) (f p)) ⊢ bigSep (Finset.Ico 0 n) fun s => f (par s) (s / 2) := by
  refine (Entails.of_eq (over_prod Finset.univ (Finset.range k) fun x : Fin 2 × ℕ => f x.1 x.2).symm).trans
    (along (fun s => (par s, s / 2)) (fun a _ b _ h => ?_) (fun s hs => ?_) _)
  · have h1 := congrArg (fun x : Fin 2 × ℕ => x.1.val) h
    have h2 := congrArg Prod.snd h
    simp only [par, Fin.val_ofNat] at h1 h2
    omega
  · rw [Finset.mem_Ico] at hs
    exact Finset.mem_product.mpr ⟨Finset.mem_univ _, Finset.mem_range.mpr (by show s / 2 < k; omega)⟩

omit [FloatOps F] in
theorem along_site (f : Fin 4 → ℕ → sProp 𝕄) :
    (bigSep Finset.univ fun p : Fin 4 => bigSep (Finset.range 24) (f p)) ⊢ bigSep (Finset.Ico 0 16) fun j => f (site j) (j / 4) := by
  refine (Entails.of_eq (over_prod Finset.univ (Finset.range 24) fun x : Fin 4 × ℕ => f x.1 x.2).symm).trans
    (along (fun s => (site s, s / 4)) (fun a _ b _ h => ?_) (fun s hs => ?_) _)
  · have h1 := congrArg (fun x : Fin 4 × ℕ => x.1.val) h
    have h2 := congrArg Prod.snd h
    simp only [site, Fin.val_ofNat] at h1 h2
    omega
  · rw [Finset.mem_Ico] at hs
    exact Finset.mem_product.mpr ⟨Finset.mem_univ _, Finset.mem_range.mpr (by show s / 4 < 24; omega)⟩

/-! ## The cells, and what is made at the launch -/

def barEmb : Dev nD ↪ GSem nD τ sig := ⟨fun c => cell .bar c, fun _ _ h => congrArg (fun g : GSem nD τ sig => g.1.1) h⟩
theorem ownRole_inj : Function.Injective ownRole := by decide
def ownEmb : Dev nD × Own ↪ GSem nD τ sig :=
  ⟨fun x => cell (ownRole x.2) x.1, fun _ _ h =>
    Prod.ext (congrArg (fun g : GSem nD τ sig => g.1.1) h) (ownRole_inj (semOf_inj (congrArg Prod.snd h)))⟩
def allEmb : Dev nD × SemLoc sig ↪ GSem nD τ sig :=
  ⟨fun x => ((x.1 : Thread nD τ), x.2), fun _ _ h => Prod.ext (congrArg (fun g : GSem nD τ sig => g.1.1) h) (congrArg (fun g : GSem nD τ sig => g.2) h)⟩
abbrev barCells : Finset (GSem nD τ sig) := Finset.univ.map barEmb
abbrev ownCells : Finset (GSem nD τ sig) := Finset.univ.map ownEmb
abbrev rounds : Finset (ℕ × ℕ) := Finset.range 24 ×ˢ Finset.range 25
abbrev toks : Finset (GSem nD τ sig × ℕ × ℕ) := (barCells ∪ ownCells) ×ˢ rounds

theorem ownRole_ne_bar : ∀ k : Own, ownRole k ≠ .bar := by decide
theorem disjoint_cells : Disjoint barCells ownCells := by
  rw [Finset.disjoint_left]
  rintro g h₁ h₂
  obtain ⟨c, -, rfl⟩ := Finset.mem_map.mp h₁
  obtain ⟨x, -, h⟩ := Finset.mem_map.mp h₂
  exact ownRole_ne_bar x.2 (semOf_inj (congrArg Prod.snd h))
theorem role_cases : ∀ k : Role, k = .bar ∨ ∃ o : Own, ownRole o = k
  | .send b => .inr ⟨.inl (b, .inl ()), rfl⟩
  | .recv b p => .inr ⟨.inl (b, .inr (.inl p)), rfl⟩
  | .xs b p => .inr ⟨.inl (b, .inr (.inr (.inl p))), rfl⟩
  | .out b s => .inr ⟨.inl (b, .inr (.inr (.inr (.inl s)))), rfl⟩
  | .credit b => .inr ⟨.inl (b, .inr (.inr (.inr (.inr ())))), rfl⟩
  | .w => .inr ⟨.inr (), rfl⟩
  | .bar => .inl rfl
theorem all_cells : (Finset.univ : Finset (Dev nD × SemLoc sig)).map allEmb ⊆ barCells ∪ ownCells := by
  intro g hg
  obtain ⟨⟨c, sm⟩, -, rfl⟩ := Finset.mem_map.mp hg
  obtain ⟨k, rfl⟩ : ∃ k, semOf k = sm := ⟨roleOf sm, semOf_roleOf sm⟩
  obtain rfl | ⟨o, rfl⟩ := role_cases k
  · exact Finset.mem_union_left _ (Finset.mem_map_of_mem barEmb (Finset.mem_univ c))
  · exact Finset.mem_union_right _ (Finset.mem_map_of_mem ownEmb (Finset.mem_univ (c, o)))

/-- All the tokens of one cell; what one slot is made with. -/
def Toks (k : Role) (c : Dev nD) : sProp 𝕄 := bigSep rounds fun x => dutyTok ER (cell k c) x.1 x.2
def SlotNew (k : Key) : sProp 𝕄 := iprop(readerAt ES k 0 ∗ bigSep (Finset.range 13) fun i => writeTok ES k (i + 1))

omit [FloatOps F] in
theorem toks_eq : (bigSep toks fun x => (dutyTok ER x.1 x.2.1 x.2.2 : sProp 𝕄))
    = iprop((bigSep Finset.univ fun c : Dev nD => Toks .bar c) ∗ bigSep Finset.univ fun c : Dev nD => bigSep Finset.univ fun o : Own => Toks (ownRole o) c) := by
  rw [over_prod, bigSep_union disjoint_cells, bigSep_map, bigSep_map, bigSep_univ_prod]
  rfl

/-! ## One device's tokens: kept, handed to the device it receives from, handed to the device it sends to -/

def Keep (b : Fin 2) (c : Dev nD) : sProp 𝕄 :=
  iprop(bigSep (Finset.Ico 0 24) (fun r => dutyTok ER (cell (.send b) c) r 0)
    ∗ bigSep (Finset.Ico 0 16) (fun u => dutyTok ER (cell (.xs b (par u)) c) (u / 2) 0)
    ∗ bigSep (Finset.Ico 0 16) (fun j => dutyTok ER (cell (.out b (site j)) c) (j / 4) 0)
    ∗ dutyTok ER (cell (.credit b) c) 0 24 ∗ Reader0 b c ∗ LastW b c)
def ToFrm (b : Fin 2) (e : Dev nD) : sProp 𝕄 :=
  bigSep (Finset.Ico 0 24) (fun s => iprop(dutyTok ER (cell (.recv b (par s)) e) (s / 2) 0 ∗ writeTok ES ((e, b, par s) : Key) (s / 2 + 1)))
def ToTgt (b : Fin 2) (e : Dev nD) : sProp 𝕄 :=
  iprop(bigSep (Finset.Ico 0 24) (fun s => dutyTok ER (cell (.credit b) e) 0 s) ∗ dutyTok ER (cell .bar e) 0 b.val)

omit [FloatOps F] in
theorem toks_row (k : Role) (c : Dev nD) : Toks (F := F) k c ⊢ bigSep (Finset.range 24) fun r => dutyTok ER (cell k c) r 0 :=
  along (fun r => (r, 0)) (fun _ _ _ _ h => congrArg Prod.fst h)
    (fun _ h => Finset.mem_product.mpr ⟨h, Finset.mem_range.mpr (by show 0 < 25; decide)⟩) fun x => dutyTok ER (cell k c) x.1 x.2
omit [FloatOps F] in
theorem toks_rows {I : Type} [Fintype I] (k : I → Role) (c : Dev nD) {n : ℕ} (hn : n ≤ 24) : (bigSep Finset.univ fun i : I => Toks (F := F) (k i) c)
    ⊢ bigSep Finset.univ fun i : I => bigSep (Finset.range n) fun r => dutyTok ER (cell (k i) c) r 0 :=
  bigSep_mono fun i _ => (toks_row (k i) c).trans (bigSep_subset (Finset.range_subset_range.mpr hn))
omit [FloatOps F] in
theorem toks_col (k : Role) (c : Dev nD) (S : Finset ℕ) (hS : ∀ i ∈ S, i < 25) : Toks (F := F) k c ⊢ bigSep S fun d => dutyTok ER (cell k c) 0 d :=
  along (fun d => (0, d)) (fun _ _ _ _ h => congrArg Prod.snd h)
    (fun i h => Finset.mem_product.mpr ⟨Finset.mem_range.mpr (by show 0 < 24; decide), Finset.mem_range.mpr (hS i h)⟩) fun x => dutyTok ER (cell k c) x.1 x.2

omit [FloatOps F] in
theorem slots_dir (b : Fin 2) (c : Dev nD) : (bigSep Finset.univ fun p : Fin 2 => SlotNew (c, b, p))
    ⊢ iprop(Reader0 (F := F) b c ∗ LastW b c ∗ bigSep (Finset.Ico 0 24) fun s => writeTok ES ((c, b, par s) : Key) (s / 2 + 1)) := by
  unfold SlotNew Reader0 LastW
  have h (p : Fin 2) : (bigSep (Finset.range 13) fun i => (writeTok ES ((c, b, p) : Key) (i + 1) : sProp 𝕄))
      = iprop(writeTok ES ((c, b, p) : Key) 13 ∗ bigSep (Finset.range 12) fun i => writeTok ES ((c, b, p) : Key) (i + 1)) := bigSep_range_succ 12 _
  rw [bigSep_congr fun p _ => by rw [h p], bigSep_sep', bigSep_sep']
  exact sep_mono_right (sep_mono_right (along_par (by decide) fun p i => writeTok ES ((c, b, p) : Key) (i + 1)))

omit [FloatOps F] in
theorem toks_dir (b : Fin 2) (c : Dev nD) :
    iprop(Sems b (fun k => Toks k c) ∗ dutyTok ER (cell .bar c) 0 b.val ∗ bigSep Finset.univ fun p : Fin 2 => SlotNew (c, b, p))
      ⊢ iprop(Keep (F := F) b c ∗ ToFrm b c ∗ ToTgt b c) := by
  have h1 := toks_row (F := F) (.send b) c
  have h2 := (toks_rows (F := F) (fun p : Fin 2 => .recv b p) c (n := 12) (by decide)).trans (along_par (n := 24) (by decide) fun p r => dutyTok ER (cell (.recv b p) c) r 0)
  have h3 := (toks_rows (F := F) (fun p : Fin 2 => .xs b p) c (n := 8) (by decide)).trans (along_par (n := 16) (by decide) fun p r => dutyTok ER (cell (.xs b p) c) r 0)
  have h4 := (toks_rows (F := F) (fun p : Fin 4 => .out b p) c (n := 24) (by decide)).trans (along_site fun p r => dutyTok ER (cell (.out b p) c) r 0)
  have h5 := (toks_col (F := F) (.credit b) c (Finset.range 25) fun i h => Finset.mem_range.mp h).trans (Entails.of_eq (bigSep_range_succ 24 _))
  unfold Sems Keep ToFrm ToTgt
  rw [bigSep_sep', ← Nat.Ico_zero_eq_range] at *
  iintro ⟨⟨H1, H2, H3, H4, H5⟩, Hb, HS⟩
  ihave H1 := h1 $$ H1
  ihave H2 := h2 $$ H2
  ihave H3 := h3 $$ H3
  ihave H4 := h4 $$ H4
  ihave H5 := h5 $$ H5
  icases H5 with ⟨H5, H6⟩
  ihave HS := (slots_dir b c) $$ HS
  icases HS with ⟨HR, HL, HW⟩
  isplitl [H1 H3 H4 H5 HR HL]
  · iframe H1 H3 H4 H5 HR
    iassumption
  isplitl [H2 HW]
  · isplitl [H2] <;> iassumption
  isplitl [H6] <;> iassumption

/-! ## Round the ring -/

omit [FloatOps F] in
theorem around : (bigSep Finset.univ fun c : Dev nD => bigSep Finset.univ fun b : Fin 2 => iprop(Keep (F := F) b c ∗ ToFrm b c ∗ ToTgt b c))
    = bigSep Finset.univ fun c : Dev nD => bigSep Finset.univ fun b : Fin 2 => iprop(Keep (F := F) b c ∗ ToFrm b (tgt b c) ∗ ToTgt b (frm b c)) := by
  rw [BI.bigSep_univ_comm, BI.bigSep_univ_comm (fun (c : Dev nD) (b : Fin 2) => iprop(Keep (F := F) b c ∗ ToFrm b (tgt b c) ∗ ToTgt b (frm b c)))]
  refine bigSep_congr fun b _ => ?_
  rw [bigSep_sep', bigSep_sep', bigSep_sep', bigSep_sep', bigSep_univ_equiv (ring b) (fun c => ToFrm (F := F) b c), bigSep_univ_equiv (ring b).symm (fun c => ToTgt (F := F) b c)]
  rfl

/-! ## What a device is dealt -/

/-- What every device may look up: the cells' and the slots' invariants, and the start of every barrier. -/
def Records (X : Dev nD → S8192x2048.Idx → Elt F .f32) (Wt : Dev nD → S2048x4096.Idx → Elt F .bf16) (κ : GSem nD τ sig → ℕ) (ι : Key → ℕ) : sProp 𝕄 :=
  iprop((bigSep Finset.univ (fun x : Dev nD × SemLoc sig => cellInv ER (sched X Wt) (κ ((x.1 : Thread nD τ), x.2)) ((x.1 : Thread nD τ), x.2))
    ∗ bigSep Finset.univ (fun k : Key => slotInv ES (ι k) k (slotOf (F := F) k))) ∗ bigSep Finset.univ fun c : Dev nD => reached ER (cell .bar c) 0)
instance (X : Dev nD → S8192x2048.Idx → Elt F .f32) (Wt : Dev nD → S2048x4096.Idx → Elt F .bf16) (κ : GSem nD τ sig → ℕ) (ι : Key → ℕ) :
    BI.Persistent (Records X Wt κ ι) := by unfold Records; infer_instance

omit [FloatOps F] in
theorem deal_one (b : Fin 2) (c : Dev nD) :
    iprop(reached ER (cell .bar (frm b c)) 0 ∗ Creds (F := F) b c ∗ Keep b c ∗ ToFrm b (tgt b c) ∗ ToTgt b (frm b c))
      ⊢ (iprop(Deal b c ∗ Reader0 b c ∗ LastW b c) : sProp 𝕄) := by
  unfold Keep ToFrm ToTgt Creds Deal OutToks
  iintro ⟨Hr, ⟨Hc1, Hc2⟩, ⟨H1, H3, H4, H5, HR, HL⟩, H2, H6, Hb⟩
  isplitr [HR HL]
  · iframe H1 H2 Hc1 H3 H4 H5 H6 Hc2 Hb
    iassumption
  isplitl [HR] <;> iassumption

/-- What a device holds of the protocol before its scoped semaphores are there. -/
def Dealt (c : Dev nD) : sProp 𝕄 :=
  iprop((bigSep Finset.univ fun b : Fin 2 => iprop(Deal (F := F) b c ∗ Reader0 b c ∗ LastW b c)) ∗ (bigSep Finset.univ fun k : Own => openTok ER (cell (ownRole k) c))
    ∗ dutyTok ER (cell .w c) 0 0 ∗ atPos ER (cell .bar c) 0 ∅ 0 ∗ cred (tallyAt (cell .bar c) 0 2))

omit [FloatOps F] in
theorem deal_all (c : Dev nD) [FloatOps F] :
    iprop(Records X Wt κ ι ∗ ((bigSep Finset.univ fun b : Fin 2 => iprop(Keep (F := F) b c ∗ ToFrm b (tgt b c) ∗ ToTgt b (frm b c)))
      ∗ (bigSep Finset.univ fun k : Own => openTok ER (cell (ownRole k) c)) ∗ dutyTok ER (cell .w c) 0 0 ∗ atPos ER (cell .bar c) 0 ∅ 0)
      ∗ ((bigSep Finset.univ fun b : Fin 2 => Creds (F := F) b c) ∗ cred (tallyAt (cell .bar c) 0 2))) ⊢ (Dealt c : sProp 𝕄) := by
  have hr (b : Fin 2) : (bigSep Finset.univ fun c : Dev nD => (reached ER (cell .bar c) 0 : sProp 𝕄)) ⊢ reached ER (cell .bar (frm b c)) 0 :=
    bigSep_elim (Finset.mem_univ (frm b c))
  have h (b : Fin 2) : iprop((bigSep Finset.univ fun c : Dev nD => (reached ER (cell .bar c) 0 : sProp 𝕄)) ∗ Creds (F := F) b c ∗ Keep (F := F) b c ∗ ToFrm b (tgt b c) ∗ ToTgt b (frm b c))
      ⊢ (iprop(Deal b c ∗ Reader0 b c ∗ LastW b c) : sProp 𝕄) := (sep_mono_left (hr b)).trans (deal_one b c)
  unfold Records Dealt
  iintro ⟨⟨-, #HR⟩, ⟨HK, HO, Hw, Ha⟩, HC, Hb⟩
  isplitl [HK HC]
  · iapply (bigSep_with_persistent fun b _ => h b)
    iframe HR
    iapply put_pair
    isplitl [HC] <;> iassumption
  iframe HO Hw Ha
  iassumption

/-! ## The launch of the protocol -/

variable (X Wt) in
/-- From the barriers' counters and the protocol's element: the records, and every device's deal. -/
theorem launch_all :
    iprop((bigSep Finset.univ fun c : Dev nD => semVal (cell .bar c) 0) ∗ BI.own (ER (launchOf barCells ownCells toks)) ∗ BI.own (ES (initSlots (Finset.univ : Finset Key) 13))
      ∗ bigSep Finset.univ fun c : Dev nD => (Pipeline.launchCred startOwed c : sProp 𝕄))
      ⊢ (|={Set.univ}=> ∃ κ, ∃ ι, Records X Wt κ ι ∗ bigSep Finset.univ fun c : Dev nD => Dealt c : sProp 𝕄) := by
  have hv : (bigSep Finset.univ fun c : Dev nD => (semVal (cell .bar c) 0 : sProp 𝕄)) ⊢ bigSep barCells fun g => semVal g 0 :=
    Entails.of_eq (bigSep_map (s := Finset.univ) barEmb (Φ := fun g : GSem nD τ sig => (semVal g 0 : sProp 𝕄))).symm
  have ha : (bigSep barCells fun g => (atPos ER g 0 ∅ 0 : sProp 𝕄)) ⊢ bigSep Finset.univ fun c : Dev nD => atPos ER (cell .bar c) 0 ∅ 0 := Entails.of_eq (bigSep_map barEmb)
  have hr : (bigSep barCells fun g => (reached ER g 0 : sProp 𝕄)) ⊢ bigSep Finset.univ fun c : Dev nD => reached ER (cell .bar c) 0 := Entails.of_eq (bigSep_map barEmb)
  have ho : (bigSep ownCells fun g => (openTok ER g : sProp 𝕄)) ⊢ bigSep Finset.univ fun c : Dev nD => bigSep Finset.univ fun k : Own => openTok ER (cell (ownRole k) c) :=
    Entails.of_eq ((bigSep_map ownEmb).trans (bigSep_univ_prod _))
  have hi (κ : GSem nD τ sig → ℕ) : (bigSep (barCells ∪ ownCells) fun g => (cellInv ER (sched X Wt) (κ g) g : sProp 𝕄))
      ⊢ bigSep Finset.univ fun x : Dev nD × SemLoc sig => cellInv ER (sched X Wt) (κ ((x.1 : Thread nD τ), x.2)) ((x.1 : Thread nD τ), x.2) :=
    (bigSep_subset all_cells).trans (Entails.of_eq (bigSep_map allEmb))
  have hs : iprop((bigSep Finset.univ fun k : Key => (readerAt ES k 0 : sProp 𝕄)) ∗ bigSep (Finset.univ ×ˢ Finset.range 13) fun x => writeTok ES x.1 (x.2 + 1))
      ⊢ bigSep Finset.univ fun c : Dev nD => bigSep Finset.univ fun b : Fin 2 => bigSep Finset.univ fun p : Fin 2 => SlotNew (F := F) (c, b, p) := by
    rw [over_prod, ← bigSep_sep', bigSep_univ_prod]
    exact bigSep_mono fun c _ => Entails.of_eq (bigSep_univ_prod _)
  have hk (c : Dev nD) : iprop(Toks (F := F) .bar c ∗ (bigSep Finset.univ fun o : Own => Toks (F := F) (ownRole o) c)
        ∗ bigSep Finset.univ fun b : Fin 2 => bigSep Finset.univ fun p : Fin 2 => SlotNew (F := F) (c, b, p))
      ⊢ (iprop((bigSep Finset.univ fun b : Fin 2 => iprop(Keep (F := F) b c ∗ ToFrm b c ∗ ToTgt b c)) ∗ dutyTok ER (cell .w c) 0 0) : sProp 𝕄) := by
    have hb : Toks (F := F) .bar c ⊢ bigSep Finset.univ fun b : Fin 2 => (dutyTok ER (cell .bar c) 0 b.val : sProp 𝕄) :=
      along (fun b : Fin 2 => (0, b.val)) (fun _ _ _ _ h => Fin.ext (congrArg Prod.snd h))
        (fun b _ => Finset.mem_product.mpr ⟨Finset.mem_range.mpr (by show 0 < 24; decide), Finset.mem_range.mpr (by show b.val < 25; omega)⟩) fun x => dutyTok ER (cell .bar c) x.1 x.2
    have hw := (toks_row (F := F) .w c).trans (bigSep_elim (Finset.mem_range.mpr (by decide : 0 < 24)))
    have hd : (bigSep Finset.univ fun b : Fin 2 => iprop(Sems b (fun k => Toks (F := F) k c) ∗ dutyTok ER (cell .bar c) 0 b.val ∗ bigSep Finset.univ fun p : Fin 2 => SlotNew (F := F) (c, b, p)))
        ⊢ bigSep Finset.univ fun b : Fin 2 => iprop(Keep (F := F) b c ∗ ToFrm b c ∗ ToTgt b c) := bigSep_mono fun b _ => toks_dir b c
    rw [own_eq fun k => Toks (F := F) k c]
    iintro ⟨Hb, ⟨Ht, Hw⟩, HS⟩
    ihave Hb := hb $$ Hb
    isplitr [Hw]
    · iapply hd
      iapply put_pair
      iframe Ht
      iapply put_pair
      isplitl [Hb] <;> iassumption
    iapply hw
    iexact Hw
  have hk' : (bigSep Finset.univ fun c : Dev nD => iprop(Toks (F := F) .bar c ∗ (bigSep Finset.univ fun o : Own => Toks (F := F) (ownRole o) c)
        ∗ bigSep Finset.univ fun b : Fin 2 => bigSep Finset.univ fun p : Fin 2 => SlotNew (F := F) (c, b, p)))
      ⊢ bigSep Finset.univ fun c : Dev nD => iprop((bigSep Finset.univ fun b : Fin 2 => iprop(Keep (F := F) b c ∗ ToFrm b c ∗ ToTgt b c)) ∗ dutyTok ER (cell .w c) 0 0) :=
    bigSep_mono fun c _ => hk c
  have hc : (bigSep Finset.univ fun c : Dev nD => (Pipeline.launchCred startOwed c : sProp 𝕄))
      ⊢ bigSep Finset.univ fun c : Dev nD => iprop((bigSep Finset.univ fun b : Fin 2 => Creds (F := F) b c) ∗ cred (tallyAt (cell .bar c) 0 2)) :=
    bigSep_mono fun c _ => creds c
  iintro ⟨Hv, HE, HS, HC⟩
  ihave Hv := hv $$ Hv
  imod (Rounds.fund_launch ER (sched X Wt) disjoint_cells (fun g _ h => h) toks) $$ [Hv HE] with ⟨%κ, -, Hi, Hr, Ha, Ho, Ht⟩
  · isplitl [Hv] <;> iassumption
  imod (slots_init ES (Finset.univ : Finset Key) 13 (slotOf (F := F))) $$ HS with ⟨%ι, -, Hsi, Hsr, Hsw⟩
  ihave Hi := (hi κ) $$ Hi
  ihave Hr := hr $$ Hr
  ihave Ha := ha $$ Ha
  ihave Ho := ho $$ Ho
  ihave HC := hc $$ HC
  ihave Ht := (Entails.of_eq (toks_eq (F := F))) $$ Ht
  icases Ht with ⟨Htb, Hto⟩
  ihave Hn := hs $$ [Hsr Hsw]
  · isplitl [Hsr] <;> iassumption
  ihave Hk := hk' $$ [Htb Hto Hn]
  · iapply put_pair
    iframe Htb
    iapply put_pair
    isplitl [Hto] <;> iassumption
  ihave Hk := take_pair $$ Hk
  icases Hk with ⟨Hk, Hw⟩
  ihave Hk := (Entails.of_eq (around (F := F))) $$ Hk
  imodintro
  iexists κ
  iexists ι
  ihave #HR := (show iprop((bigSep Finset.univ (fun x : Dev nD × SemLoc sig => cellInv ER (sched X Wt) (κ ((x.1 : Thread nD τ), x.2)) ((x.1 : Thread nD τ), x.2))
    ∗ bigSep Finset.univ (fun k : Key => slotInv ES (ι k) k (slotOf (F := F) k))) ∗ bigSep Finset.univ fun c : Dev nD => reached ER (cell .bar c) 0) ⊢ Records X Wt κ ι from .rfl) $$ [Hi Hsi Hr]
  · isplitr [Hr]
    · isplitl [Hi] <;> iassumption
    iexact Hr
  iframe HR
  iapply (bigSep_with_persistent fun c _ => deal_all c)
  iframe HR
  iapply put_pair
  isplitr [HC]
  · iapply put_pair
    iframe Hk
    iapply put_pair
    iframe Ho
    iapply put_pair
    isplitl [Hw] <;> iassumption
  iexact HC

end Cert.KernelIdeal.Ring

end
-- ==== Proof.KernelIdeal.Region.lean ====
/-
  The kernel's region: its body between its two points, entered and left with the buffers outside.
-/
module

public import proofs.«01_k».proof.Proof.KernelIdeal.Deal
public import proofs.«01_k».proof.Proof.Gen.KernelIdeal.Frame
public import Idealize.ShloMosaic.Lib.Pipeline.RegionTalk
public import Idealize.ShloMosaic.Lib.StableHlo
public import Idealize.ShloMosaic.Lib.Quiescent

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {X : Dev nD → S8192x2048.Idx → Elt F .f32} {Wt : Dev nD → S2048x4096.Idx → Elt F .bf16}
variable {κ : GSem nD τ sig → ℕ} {ι : Key → ℕ}

variable (m : (ℓ : Loc nD τ sig) → Buf (Elt F) ℓ) (ρ : Dev nD → PrngReg)

/-! ## The buffers outside the kernel -/

abbrev pt (c : Dev nD) (b : Ref sig .tc) (f : Buf (Elt F) ((c : Thread nD τ).loc b)) : sProp 𝕄 := ((c : Thread nD τ).loc b) ↦{fullShare} f
def bufs : Finset (DevRef τ sig) := (StableHlo.tcRefs τ sig).filter fun b => ¬ b.isScoped
abbrev V₀ (c : Dev nD) : Valuation τ sig (Elt F) := fun b => m (c, b)
abbrev V₁ (c : Dev nD) : Valuation τ sig (Elt F) := StableHlo.after hostOps0 (V₀ m c)
/-- A device's block of the rows, and its weights as the kernel reads them. -/
def xOf (c : Dev nD) : S8192x2048.Idx → Elt F .f32 := V₁ m c main_arg0
def wOf (c : Dev nD) : S2048x4096.Idx → Elt F .bf16 := V₁ m c main_v1
def V₂ (c : Dev nD) : Valuation τ sig (Elt F) := Function.update (V₁ m c) (Proc.devRef .tc main_v2) (Out (xOf m) (wOf m) c)

omit [FloatOps F] in
theorem held_unscoped (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
omit [FloatOps F] in
theorem bufs_eq (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl
theorem V₂_out (c : Dev nD) : V₂ m c main_v2 = Out (xOf m) (wOf m) c := Function.update_self _ _ _
theorem V₂_ne (c : Dev nD) (b : Ref sig .tc) (h : (Proc.devRef .tc b : DevRef τ sig) ≠ Proc.devRef .tc main_v2) : V₂ m c b = V₁ m c b := Function.update_of_ne h _ _
omit [FloatOps F] in
theorem bar_unscoped (c : Dev nD) : (unscopedSems0 c : sProp 𝕄) = semVal (cell .bar c) 0 := by
  unfold unscopedSems0
  rw [show (Finset.univ.filter fun sm : SemLoc sig => ¬ sm.isScoped .tc) = {SemLoc.reg barS} from by decide, BI.bigSep_singleton]
  rfl
omit [FloatOps F] in
theorem own_sems (c : Dev nD) : (Pipeline.ownSems0 osem c : sProp 𝕄) = bigSep Finset.univ fun k : Own => semVal (cell (ownRole k) c) 0 := rfl

omit [FloatOps F] in
/-- The scratch buffers the region brings, as the kernel names them. -/
theorem scratch (c : Dev nD) :
    (Pipeline.scopedRest (Ix := ℕ) (Name := ℕ) (U := UU) (Lvl := ℕ) (Val := Elt F) cfg0.spec c : sProp 𝕄) ⊣⊢ BufsIn c := by
  have h (b : Ref sig .tc) : iprop(∃ f : b.ty.Contents (Elt F), owns (c : Thread nD τ) (Memref.whole b) fullShare f)
      = (iprop(∃ f : Buf (Elt F) ((c : Thread nD τ).loc b), ((c : Thread nD τ).loc b) ↦{fullShare} f) : sProp 𝕄) :=
    congrArg BIBase.exists (funext fun f => owns_whole (c : Thread nD τ) b fullShare f)
  rw [scopedRest0_eq]
  unfold BufsIn
  rw [two fun b => Scr b c]
  unfold Scr
  have e0 : some' c (sendM 0) = _ := h cc0_scratch0
  have e1 : some' c (recvM 0) = _ := h cc0_scratch1
  have e2 : some' c (partM 0) = _ := h cc0_scratch2
  have e3 : some' c (xsM 0) = _ := h cc0_scratch3
  have e4 : some' c (ostM 0) = _ := h cc0_scratch4
  have e5 : some' c (sendM 1) = _ := h cc0_scratch5
  have e6 : some' c (recvM 1) = _ := h cc0_scratch6
  have e7 : some' c (partM 1) = _ := h cc0_scratch7
  have e8 : some' c (xsM 1) = _ := h cc0_scratch8
  have e9 : some' c (ostM 1) = _ := h cc0_scratch9
  have e10 : some' c wV = _ := h cc0_scratch10
  rw [e0, e1, e2, e3, e4, e5, e6, e7, e8, e9, e10]
  constructor
  · iintro ⟨H0, H1, H2, H3, H4, H5, H6, H7, H8, H9, HA⟩
    isplitr [HA]
    · isplitl [H0 H1 H2 H3 H4]
      · iframe H0 H1 H2 H3
        iassumption
      iframe H5 H6 H7 H8
      iassumption
    iexact HA
  · iintro ⟨⟨⟨H0, H1, H2, H3, H4⟩, H5, H6, H7, H8, H9⟩, HA⟩
    iframe H0 H1 H2 H3 H4 H5 H6 H7 H8 H9
    iassumption

/-! ## The region -/

/-- What a device brings to the region, what it has there once its semaphores are open, and what it keeps afterwards. -/
def Tk (c : Dev nD) : sProp 𝕄 := iprop(∃ κ, ∃ ι, Records (xOf m) (wOf m) κ ι ∗ Dealt c)
def Xk (c : Dev nD) : sProp 𝕄 := iprop(∃ κ, ∃ ι, Ctx (xOf m) (wOf m) κ ι ∗ Opened c)
def Yk (c : Dev nD) : sProp 𝕄 := semVal (cell .bar c) 0
def Before (c : Dev nD) : sProp 𝕄 :=
  iprop(Xk m c ∗ BufsIn c ∗ StableHlo.held (c : Thread nD τ) bufs (V₁ m c) ∗ ∃ r, prngReg c r)
def After (c : Dev nD) : sProp 𝕄 :=
  iprop(Yk c ∗ BufsIn c ∗ StableHlo.held (c : Thread nD τ) bufs (V₂ m c) ∗ Pipeline.ownSems0 osem c ∗ ∃ r, prngReg c r)

def dat (c : Dev nD) : Pipeline.Dat τ (Elt F) ℕ ℕ UU ℕ cfg0 c where
  A w := w.elim0
  after w := w.elim0
  Φ t := if t.val = 0 then Before m c else After m c
  q w := w.elim0
  owed t := if t.val = 0 then startOwed c else 0
abbrev adm : (p : Fin 1) → (pcfgs (F := F) p).Adm := fun p => (cfgs p).toPCfg_adm
def pdats (p : Fin 1) (c : Dev nD) : Pipeline.Dat τ (Elt F) ℕ ℕ UU ℕ (Pipeline.pin (pcfgs (F := F)) adm p) c := dat m c

omit [FloatOps F] in
theorem no_window (Φ : Fin 0 → sProp 𝕄) : bigSep Finset.univ Φ = (BI.emp : sProp 𝕄) := bigSep_univ_eq_bigSepL [] (by decide) (by decide) Φ
theorem owed_first (c : Dev nD) : (pdats m 0 c).owed 0 = startOwed c := by
  show (if (0 : Fin (cfg0.N + 1)).val = 0 then startOwed c else 0) = startOwed c; exact if_pos rfl
theorem owed_point (c : Dev nD) : (dat m c).owed (t0_0.castSucc : Fin (cfg0.N + 1)) = startOwed c := by
  show (if (t0_0.castSucc : Fin (cfg0.N + 1)).val = 0 then startOwed c else 0) = startOwed c; exact if_pos rfl
theorem owed_last (c : Dev nD) : (pdats m 0 c).owed (Fin.last _) = 0 := by
  show (if (Fin.last cfg0.N).val = 0 then startOwed c else 0) = 0
  rw [Fin.val_last, if_neg (by rw [show cfg0.N = 1 from N_0]; decide)]

theorem at_intro {cfg : Pipeline.Cfg sig Λ₀} {c : Dev nD} (d : Dat τ (Elt F) ℕ ℕ UU ℕ cfg c) (t : Fin (cfg.N + 1))
    (O : CellTallies nD τ sig ℕ) (h0 : d.owed t = O) (hr : d.recorded t = Set.univ) : Ow O c ⊢ (d.owesAt 0 t : sProp 𝕄) := by
  unfold Ow Dat.owesAt Pipeline.owesWithin Dat.bound
  rw [h0, hr]
  iintro ⟨%W, HO⟩
  iexists W
  isplitr; · ipureintro; exact fun _ _ => Or.inl trivial
  iexact HO
theorem at_elim {cfg : Pipeline.Cfg sig Λ₀} {c : Dev nD} (d : Dat τ (Elt F) ℕ ℕ UU ℕ cfg c) (t : Fin (cfg.N + 1))
    (O : CellTallies nD τ sig ℕ) (h0 : d.owed t = O) : (d.owesAt 0 t : sProp 𝕄) ⊢ Ow O c := by
  unfold Ow Dat.owesAt Pipeline.owesWithin
  rw [h0]
  iintro ⟨%W, -, HO⟩
  iexists W
  iexact HO

/-- The kernel's body between the region's two points. -/
theorem region_run (c : Dev nD) :
    iprop(Before m c ∗ Ow (startOwed c) c) ⊢ WP c (given cc0_body) (fun _ => iprop(After m c ∗ Ow 0 c)) := by
  have hx : has c xA (xOf m c) = pt c main_arg0 (V₁ m c main_arg0) := owns_whole (c : Thread nD τ) main_arg0 fullShare _
  have hw : has c wA (wOf m c) = pt c main_v1 (V₁ m c main_v1) := owns_whole (c : Thread nD τ) main_v1 fullShare _
  have ho (f) : has (F := F) c oA f = pt c main_v2 f := owns_whole (c : Thread nD τ) main_v2 fullShare _
  have hend (r : PUnit) : iprop((pt c main_arg1 (V₁ m c main_arg1) ∗ ∃ r, prngReg c r) ∗ Closed (xOf m) (wOf m) c) ⊢ (iprop(After m c ∗ Ow 0 c) : sProp 𝕄) := by
    unfold Closed After Yk
    rw [bufs_eq, hx, hw, ho, V₂_out, V₂_ne m c main_arg0 (by decide), V₂_ne m c main_arg1 (by decide), V₂_ne m c main_v1 (by decide), own_sems]
    iintro ⟨⟨H1, Hp⟩, HB, ⟨Hx, Hw, Ho⟩, Hs, Hb, HO⟩
    isplitr [HO]
    · iframe Hb HB
      isplitl [Hx H1 Hw Ho]
      · iframe Hx H1 Hw
        iassumption
      isplitl [Hs] <;> iassumption
    iexact HO
  have hrun {κ : GSem nD τ sig → ℕ} {ι : Key → ℕ} := kernel_run (X := xOf m) (Wt := wOf m) (κ := κ) (ι := ι) c
  generalize given (cc0_body (F := F)) = p at hrun ⊢
  have hall {κ : GSem nD τ sig → ℕ} {ι : Key → ℕ} := ((sep_mono_right (P := iprop(pt c main_arg1 (V₁ m c main_arg1) ∗ ∃ r, prngReg c r)) (hrun (κ := κ) (ι := ι))).trans
    (wp_frame_l frame (wpE (defs₀ (F := F)) 𝒱₀ (c : Thread nD τ) none) Set.univ)).trans (wp_mono frame (wpE (defs₀ (F := F)) 𝒱₀ (c : Thread nD τ) none) Set.univ hend)
  unfold Before Xk
  rw [bufs_eq]
  iintro ⟨⟨⟨%κ, %ι, #HC, HOp⟩, HB, ⟨Hx, H1, Hw, Ho⟩, Hp⟩, HO⟩
  iapply hall
  isplitl [H1 Hp]
  · isplitl [H1] <;> iassumption
  iframe HC HOp HB
  isplitr [HO]
  · isplitl [Hx]; · iapply (Entails.of_eq hx.symm); iexact Hx
    isplitl [Hw]; · iapply (Entails.of_eq hw.symm); iexact Hw
    iexists _
    iapply (Entails.of_eq (ho _).symm)
    iexact Ho
  iexact HO

theorem body_obl (c : Dev nD) : BodyObligation (dat (F := F) m c) defs₀ 𝒱₀ 0 Set.univ := fun t => by
  obtain rfl := fin_N0 t
  have hend (r : PUnit) : (iprop(After m c ∗ Ow 0 c) : sProp 𝕄) ⊢ iprop(After m c ∗ (dat m c).owesAt 0 (t0_0.succ : Fin (cfg0.N + 1)) ∗ emp) := by
    iintro ⟨HA, HO⟩
    iframe HA
    isplitl [HO]; · iapply (at_intro (dat m c) t0_0.succ 0 (owed_last m c) rfl); iexact HO
    iempintro
  have hrun := (region_run m c).trans (wp_mono frame (wpE (defs₀ (F := F)) 𝒱₀ (c : Thread nD τ) none) Set.univ hend)
  rw [no_window, no_window]
  rw [show (dat m c).Φ (t0_0.castSucc : Fin (cfg0.N + 1)) = Before m c from rfl, show (dat m c).Φ (t0_0.succ : Fin (cfg0.N + 1)) = After m c from rfl]
  iintro ⟨HB, HO, -⟩
  ihave HO := (at_elim (dat m c) (t0_0.castSucc : Fin (cfg0.N + 1)) (startOwed c) (owed_point m c)) $$ HO
  iapply hrun
  isplitl [HB] <;> iassumption

theorem hopen (c : Dev nD) : iprop(Tk m c ∗ Pipeline.ownSems0 osem c ∗ levAts L lv) ⊢ (|={Set.univ}=> Xk m c : sProp 𝕄) := by
  rw [own_sems]
  unfold Tk Xk Records Dealt Opened
  iintro ⟨⟨%κ, %ι, ⟨⟨#H1, #H2⟩, -⟩, HD, Ho, Hw, Ha, Hc⟩, Hs, #HL⟩
  ihave #HC := (show iprop(bigSep Finset.univ (fun x : Dev nD × SemLoc sig => cellInv ER (sched (xOf m) (wOf m)) (κ ((x.1 : Thread nD τ), x.2)) ((x.1 : Thread nD τ), x.2))
    ∗ bigSep Finset.univ (fun k : Key => slotInv ES (ι k) k (slotOf (F := F) k)) ∗ levAts L lv) ⊢ Ctx (xOf m) (wOf m) κ ι from .rfl) $$ [H1 H2 HL]
  · iframe H1 H2 HL
  imod (open_all (X := xOf m) (Wt := wOf m) (κ := κ) (ι := ι) c) $$ [Ho Hs] with HP
  · iframe HC
    iapply put_pair
    isplitl [Ho] <;> iassumption
  imodintro
  iexists κ
  iexists ι
  iframe HC HD HP Hw Ha
  iassumption

theorem hin (c : Dev nD) : iprop(Pipeline.scopedRest (Pipeline.pin (pcfgs (F := F)) adm 0).spec c ∗ (∃ r, prngReg c r) ∗ StableHlo.held (c.tc : Thread nD τ) bufs (V₁ m c) ∗ Xk m c)
    ⊢ (pdats m 0 c).Φ 0 := by
  rw [show (pdats m 0 c).Φ 0 = Before m c from rfl]
  unfold Before
  iintro ⟨Hs, Hp, Hb, HX⟩
  iframe HX
  isplitl [Hs]; · iapply (scratch (F := F) c).1; iexact Hs
  isplitl [Hb] <;> iassumption
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c) ∗ Pipeline.ownSems0 osem c ∗ Yk c) := by
  rw [show (pdats m 0 c).Φ (Fin.last _) = After m c from rfl]
  unfold After
  iintro ⟨HY, Hs, Hb, Ho, Hp⟩
  isplitl [Hs]; · iapply (scratch (F := F) c).2; iexact Hs
  iframe Hp Hb Ho
  iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem above_start (c : Dev nD) (g : GSem nD τ sig) (i : ℕ) (h : 0 < startOwed c g i) : i ∈ L g ∧ 0 < lv g i := by
  have hA (k : Role) (d : Dev nD) (s n : ℕ) (hs : s < 25) : ∀ g i, 0 < (tallyAt (cell k d) s n : CellTallies nD τ sig ℕ) g i → i ∈ L g := fun g i hp => by
    rw [tallyAt_apply] at hp
    obtain hg | hg := Classical.em (g = cell k d ∧ i = s)
    · rw [hg.1, hg.2, L_tc]; exact Finset.mem_range.mpr hs
    · rw [if_neg hg] at hp; exact absurd hp (Nat.lt_irrefl 0)
  have hS (f : ℕ → CellTallies nD τ sig ℕ) (hf : ∀ s < 24, ∀ g i, 0 < f s g i → i ∈ L g) : ∀ g i, 0 < (∑ s ∈ Finset.Ico 0 24, f s) g i → i ∈ L g := fun g i hp => by
    rw [Finset.sum_apply, Finsupp.finsetSum_apply] at hp
    obtain ⟨s, hs, hp⟩ := Finset.sum_pos_iff.mp hp
    exact hf s (Finset.mem_Ico.mp hs).2 g i hp
  have hP (A B : CellTallies nD τ sig ℕ) (ha : ∀ g i, 0 < A g i → i ∈ L g) (hb : ∀ g i, 0 < B g i → i ∈ L g) : ∀ g i, 0 < (A + B) g i → i ∈ L g := fun g i hp => by
    rw [Pi.add_apply, Finsupp.add_apply] at hp
    exact (Nat.add_pos_iff_pos_or_pos.mp hp).elim (ha g i) (hb g i)
  refine ⟨?_, Nat.succ_pos _⟩
  revert g i
  unfold startOwed owed owR owC
  exact hP _ _ (hP _ _ (hP _ _ (hP _ _ (hP _ _ (hP _ _ (hP _ _
    (hS _ fun s hs => hA _ _ _ _ (by omega)) (hS _ fun s hs => hA _ _ _ _ (by omega))) (hS _ fun s hs => hA _ _ _ _ (by omega)))
    (hS _ fun s hs => hA _ _ _ _ (by omega))) (hA _ _ _ _ (by decide))) (hA _ _ _ _ (by decide))) (hA _ _ _ _ (by decide))) (hA _ _ _ _ (by decide))
theorem cutD (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then startOwed c else 0 := rfl
  rw [e] at h
  split at h
  · exact above_start c g i h
  · exact absurd h (Nat.lt_irrefl 0)

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

/-- What rides beside the buffers up to the region. -/
def R (c : Dev nD) : sProp 𝕄 := iprop(Tk m c ∗ (∃ r, prngReg c r) ∗ ∃ W, owes (c : Thread nD τ) (startOwed c) W)

theorem host_sub : ∀ op ∈ (hostOps0 : List (HloOp τ sig (Elt F))), op.bufs ⊆ bufs := fun op h => by
  simp only [List.mem_singleton] at h; subst h
  show ({Proc.devRef .tc main_arg1, Proc.devRef .tc main_v1} : Finset (DevRef τ sig)) ⊆ bufs; decide
theorem host_fresh : ∀ op ∈ (hostOps0 : List (HloOp τ sig (Elt F))), op.fresh = ∅ := fun op h => by
  simp only [List.mem_singleton] at h; subst h; rfl
def seg : ℍ := Pipeline.HostSeg.ofOps _ _ _ _ _ bufs hostOps0 host_sub host_fresh (V₀ m) (R m)

theorem own_scoped : ∀ k : Own, (osem k).isScoped .tc = true := by decide

set_option backward.isDefEq.respectTransparency.types false in
def reg : ℝ𝕊 0 :=
  Pipeline.RegionSeg.ofTalk (pcfgs (F := F)) adm (pdats m) 0 defs₀ 𝒱₀ L lv 0 osem ⟨own_scoped, fun _ _ h => ownRole_inj (semOf_inj h), fun _ w => w.elim0⟩
    bufs bufs (Finset.Subset.refl _) kit rfl (fun c => (body_obl m c).loose)
    (fun _ => 0) startOwed (fun c => (owed_first m c).trans (zero_add _).symm) (owed_last m) (fun _ => rfl) (fun _ w => w.elim0)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun _ w => w.elim0, fun _ w => w.elim0, fun c t g i h => cutD m c t g i h⟩
    (fun _ => iprop(emp))
    (fun _ w => w.elim0) (fun _ w => w.elim0)

end Cert.KernelIdeal.Ring

end
-- ==== Proof.KernelIdeal.Run.lean ====
/-
  The program's run from its launch to its end.
-/
module

public import proofs.«01_k».proof.Proof.KernelIdeal.Region

@[expose] public section

noncomputable section

namespace Cert.KernelIdeal.Ring

open Cert.KernelIdeal Cert.KernelIdeal.Gen
open Idealize.ShloMosaic Idealize.ShloMosaic.TcCoe Idealize.ShloMosaic.Pipeline
open Idealize.ShloMosaic.Rounds Idealize.ShloMosaic.Release
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {κ : GSem nD τ sig → ℕ} {ι : Key → ℕ}
variable {α : Type} {Q : α → sProp 𝕄}

variable (m : (ℓ : Loc nD τ sig) → Buf (Elt F) ℓ) (ρ : Dev nD → PrngReg)

theorem held_none (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ Tk m c ∗ ∃ Wd, owes (c : Thread nD τ) (0 + startOwed c) Wd)
  rw [held_none, zero_add]
  unfold R
  iintro ⟨Hh, HT, Hp, HO⟩
  isplitr; · iempintro
  iframe Hp
  isplitl [Hh]
  · isplitl [Hh]; · iexact Hh
    iempintro
  isplitl [HT] <;> iassumption

theorem reg_post (c : Dev nD) : (reg m).post c
    ⊢ iprop((StableHlo.held (c : Thread nD τ) bufs (V₂ m c) ∗ semVal (cell .bar c) 0) ∗ ∃ W, owes (c : Thread nD τ) (0 : CellTallies nD τ sig ℕ) W) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ Yk c ∗ ∃ Wd, owes (c : Thread nD τ) (0 : CellTallies nD τ sig ℕ) Wd) ⊢ _
  rw [held_none]
  unfold Yk
  iintro ⟨-, -, ⟨Hh, -⟩, Hb, HO⟩
  isplitr [HO]
  · isplitl [Hh] <;> iassumption
  iexact HO

def segs : List (Pipeline.Seg (pcfgs (F := F)) adm (pdats m) 0 defs₀ 𝒱₀ L lv) := [.host (seg m), .region (reg m)]

/-! ## The launch -/

/-- A resource kept at the first device. -/
def onFirst (Y : sProp 𝕄) (c : Dev nD) : sProp 𝕄 := if c = 0 then Y else iprop(emp)
omit [FloatOps F] in
theorem all_onFirst (Y : sProp 𝕄) : bigSep Finset.univ (onFirst Y) = Y := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def u₀ : UU :=
  (initOf (Pipeline.cells (Pipeline.pin (pcfgs (F := F)) adm) cellOf_inj) (Pipeline.launchToks (Pipeline.pin (pcfgs (F := F)) adm) cellOf_inj),
    (launchOf barCells ownCells toks, initSlots (Finset.univ : Finset Key) 13))
def Made : sProp 𝕄 := iprop(BI.own (ER (launchOf barCells ownCells toks)) ∗ BI.own (ES (initSlots (Finset.univ : Finset Key) 13)))
abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (cell .bar c) 0)

/-- What of a device's launch holdings is not the protocol's. -/
def Rest (c : Dev nD) : sProp 𝕄 := iprop(StableHlo.held (c : Thread nD τ) bufs (V₀ m c) ∗ owes (c : Thread nD τ) (startOwed c) ∅ ∗ ∃ r, prngReg c r)

theorem init :
    iprop((bigSep Finset.univ fun c : Dev nD => iprop(unscopedBufs c (fun b => m ((c : Thread nD τ).loc b)) ∗ unscopedSems0 c
          ∗ owes (c : Thread nD τ) (startOwed c) ∅ ∗ Pipeline.launchCred startOwed c ∗ prngReg c (ρ c) ∗ onFirst Made c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (startOwed c) ∅ ∗ Pipeline.launchCred startOwed c ∗ prngReg c (ρ c) ∗ onFirst Made c)
      ⊢ (iprop(Rest m c ∗ (semVal (cell .bar c) 0 ∗ (Pipeline.launchCred startOwed c ∗ onFirst Made c))) : sProp 𝕄) := by
    rw [show unscopedBufs c (fun b => m ((c : Thread nD τ).loc b)) = StableHlo.held (c : Thread nD τ) bufs (V₀ m c) from held_unscoped c (V₀ m c), bar_unscoped]
    unfold Rest
    iintro ⟨Hh, Hus, HO, Hcr, Hp, HG⟩
    isplitl [Hh HO Hp]
    · iframe Hh HO
      iexists (ρ c); iexact Hp
    iframe Hus Hcr
    iassumption
  have hone {κ : GSem nD τ sig → ℕ} {ι : Key → ℕ} (c : Dev nD) : iprop(Records (xOf m) (wOf m) κ ι ∗ (Dealt c ∗ Rest m c)) ⊢ T₀ m c := by
    unfold Rest T₀ R Tk
    iintro ⟨HR, HD, Hh, HO, Hp⟩
    iframe Hh
    isplitl [HR HD]
    · iexists κ
      iexists ι
      isplitl [HR] <;> iassumption
    iframe Hp
    iexists ∅; iexact HO
  have hcores : (bigSep Finset.univ fun c : Dev nD => iprop(unscopedBufs c (fun b => m ((c : Thread nD τ).loc b)) ∗ unscopedSems0 c
        ∗ owes (c : Thread nD τ) (startOwed c) ∅ ∗ Pipeline.launchCred startOwed c ∗ prngReg c (ρ c) ∗ onFirst Made c))
      ⊢ (bigSep Finset.univ fun c : Dev nD => iprop(Rest m c ∗ (semVal (cell .bar c) 0 ∗ (Pipeline.launchCred startOwed c ∗ onFirst Made c))) : sProp 𝕄) :=
    bigSep_mono fun c _ => hcore c
  have hG : bigSep Finset.univ (onFirst (F := F) Made) ⊢ Made := Entails.of_eq (all_onFirst _)
  iintro ⟨H, -⟩
  ihave H := hcores $$ H
  ihave H := take_pair $$ H; icases H with ⟨HB, H⟩
  ihave H := take_pair $$ H; icases H with ⟨Hv, H⟩
  ihave H := take_pair $$ H; icases H with ⟨HC, HG⟩
  ihave HG := hG $$ HG
  unfold Made
  icases HG with ⟨HE, HS⟩
  imod (launch_all (xOf m) (wOf m)) $$ [Hv HE HS HC] with ⟨%κ, %ι, #HR, HD⟩
  · iframe Hv HE HS
    iassumption
  imodintro
  iapply (bigSep_with_persistent (R := Records (xOf m) (wOf m) κ ι) (Φ := fun c => iprop(Dealt c ∗ Rest m c)) fun c _ => hone c)
  iframe HR
  iapply put_pair
  isplitl [HD] <;> iassumption

/-! ## The run -/

theorem x_kept (c : Dev nD) : V₁ m c main_arg0 = m ((c : Thread nD τ).loc main_arg0) := V_main_arg0 m c
theorem w_kept (c : Dev nD) : V₁ m c main_arg1 = m ((c : Thread nD τ).loc main_arg1) := V_main_arg1 m c
theorem only_bar : ∀ sm : SemLoc sig, sm.isScoped .tc = false → sm = .reg barS := by decide

set_option backward.isDefEq.respectTransparency.types false in
/-- From any memory with zero counters every run of the program ends, the arguments unchanged, every device's result
    `Out`, and every counter back at zero. -/
theorem run_main : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1))
        ∧ r.2.mem ((c.tc : Thread nD τ).loc main_v2) = Out (xOf m) (wOf m) c) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (seg m) (reg m) rfl c]; exact .rfl)
    (by simp only [segs, Pipeline.Seg.pipes_host, Pipeline.Seg.pipes_region, Pipeline.Seg.pipes_nil]; decide)
    (O₀ := startOwed) (hL := L_of_ne) (G := onFirst Made) (u₀ := u₀)
    (hu₀ := by
      unfold u₀
      iintro Hu
      ihave H := (ownU_pair _ _) $$ Hu
      icases H with ⟨HP, HX⟩
      ihave HX := (own_pair_emb _ _ _) $$ HX
      imodintro
      iframe HP
      rw [all_onFirst]
      unfold Made
      iexact HX)
    (T₀ := T₀ m) (Tₙ := Tₙ m)
    (hch := ⟨fun _ => .rfl, fun c => reg_pre m c, fun c => reg_post m c⟩)
    (hinit := init m ρ)
    (QY := fun c s => (s.mem ((Memref.whole main_arg0).view.loc (c : Thread nD τ)) = V₂ m c main_arg0 ∧ s.mem ((Memref.whole main_arg1).view.loc (c : Thread nD τ)) = V₂ m c main_arg1
      ∧ s.mem ((Memref.whole main_v2).view.loc (c : Thread nD τ)) = V₂ m c main_v2) ∧ s.sem (cell .bar c) = 0)
    (hfin := fun c s' => by
      dsimp only [Tₙ]; rw [bufs_eq]
      iintro ⟨⟨⟨Hx, Hw, -, Ho⟩, Hb⟩, HSI⟩
      icombine HSI Hx gives %hx
      icombine HSI Hw gives %hw
      icombine HSI Ho gives %ho
      icombine HSI Hb gives %hb
      imodintro
      isplitr
      · ipureintro
        exact ⟨⟨Buf.eq_of_forall_mem_univ hx, Buf.eq_of_forall_mem_univ hw, Buf.eq_of_forall_mem_univ ho⟩, by simpa using hb⟩
      iexact HSI)
    (hQ := fun s h hs => ⟨fun c => by
        obtain ⟨⟨hx, hw, ho⟩, -⟩ := h c
        rw [V₂_ne m c main_arg0 (by decide), x_kept] at hx
        rw [V₂_ne m c main_arg1 (by decide), w_kept] at hw
        rw [V₂_out] at ho
        exact ⟨⟨hx, hw⟩, ho⟩,
      sem_eq_zero hs fun c sm hsm => by
        obtain rfl := only_bar sm hsm
        exact (h c).2⟩)

end Cert.KernelIdeal.Ring

end
-- ==== Proof.Value.Blocks.lean ====
/-
  What the kernel's devices hold over the extended reals: every output block is the activation of the sum, over the
  devices, of their products of that row block.
-/
module

public import proofs.«01_k».proof.Proof.KernelIdeal.Bufs
public import Idealize.ShloMosaic.Lib.MatmulPlain
public import Idealize.ShloMosaic.Lib.StackMember

@[expose] public section

noncomputable section

namespace Cert.KernelIdeal.Ring

open Cert.KernelIdeal Cert.KernelIdeal.Gen
open Idealize.ShloMosaic Idealize.ShloMosaic.TcCoe

variable (X : Dev nD → S8192x2048.Idx → EReal) (Wt : Dev nD → S2048x4096.Idx → EReal)

/-- The constants of the activation, as the programs spell them. -/
abbrev half : EReal := Ideal.ofBits .f32 0x3F000000#32
abbrev one : EReal := Ideal.ofBits .f32 0x3F800000#32
abbrev outer : EReal := Ideal.ofBits .f32 0x3F4C422A#32
abbrev cubic : EReal := Ideal.ofBits .f32 0x3D372713#32

/-- The activation of one element. -/
def gelu (y : EReal) : EReal := (half * y) * (one + Ideal.tanh (outer * (y + cubic * ((y * y) * y))))

theorem act_eq (y : S256x4096.Idx → EReal) : act (F := Ideal) y = fun x => gelu (y x) := by
  funext x
  show (half * y x) * (one + Ideal.tanh (outer * (y x + ((cubic * y x) * y x) * y x))) = _
  unfold gelu
  rw [mul_assoc cubic, mul_assoc cubic]

/-- Device `d`'s product of row block `i`, and the sum of all devices' products of it. -/
def prod (d : Dev nD) (i : Fin 32) : S256x4096.Idx → EReal := dotOf (F := Ideal) (xBlk (F := Ideal) X d i) (Wt d)
def total (i : Fin 32) (x : S256x4096.Idx) : EReal := ∑ d : Dev nD, prod X Wt d i x

theorem dotV_eq (c : Dev nD) (b : Fin 2) (u : ℕ) : dotV (F := Ideal) X Wt c b u = prod X Wt c (useBlk b c u) := rfl
theorem accum_eq (v p : S256x4096.Idx → EReal) : accum (F := Ideal) v p = fun x => v x + p x := rfl

/-- Summing from the device three places back up to the device itself goes round the whole ring. -/
theorem sum_ring (q : Dev nD → EReal) (b : Fin 2) (c : Dev nD) :
    ((q (frm b (frm b (frm b c))) + q (frm b (frm b c))) + q (frm b c)) + q c = ∑ d : Dev nD, q d := by
  have e : (∑ d : Dev nD, q d) = ((q 0 + q 1) + q 2) + q 3 := Fin.sum_univ_four q
  rw [e]
  have h (b : Fin 2) (c : Dev nD) : (b = 0 ∨ b = 1) ∧ (c = 0 ∨ c = 1 ∨ c = 2 ∨ c = 3) := by revert b c; decide
  obtain ⟨rfl | rfl, rfl | rfl | rfl | rfl⟩ := h b c
  · show ((q 1 + q 2) + q 3) + q 0 = _; ac_rfl
  · show ((q 2 + q 3) + q 0) + q 1 = _; ac_rfl
  · show ((q 3 + q 0) + q 1) + q 2 = _; ac_rfl
  · show ((q 0 + q 1) + q 2) + q 3 = _; ac_rfl
  · show ((q 3 + q 2) + q 1) + q 0 = _; ac_rfl
  · show ((q 0 + q 3) + q 2) + q 1 = _; ac_rfl
  · show ((q 1 + q 0) + q 3) + q 2 = _; ac_rfl
  · show ((q 2 + q 1) + q 0) + q 3 = _; ac_rfl

/-! ## The row blocks -/

theorem chunk_frm (b : Fin 2) (c : Dev nD) (q : Fin 4) : chunk b (frm b c) q.val = chunk b c (q.val + 1) := by revert b c q; decide
theorem chunk_out (b : Fin 2) (c : Dev nD) (q : Fin 4) : chunk b c (q.val + 4) = chunk b c q.val := by revert b c q; decide

/-- A row block a device reaches one use later is the one the previous device of the direction has reached. -/
theorem useBlk_frm (b : Fin 2) (c : Dev nD) (r q : ℕ) (hq : q < 3) : useBlk b (frm b c) (4 * r + q) = useBlk b c (4 * r + (q + 1)) := by
  apply Fin.ext
  show 16 * b.val + 4 * ((4 * r + q) / 4 % 4) + chunk b (frm b c) ((4 * r + q) % 4) = 16 * b.val + 4 * ((4 * r + (q + 1)) / 4 % 4) + chunk b c ((4 * r + (q + 1)) % 4)
  rw [show (4 * r + q) % 4 = q by omega, show (4 * r + (q + 1)) % 4 = q + 1 by omega, show (4 * r + q) / 4 = r by omega,
    show (4 * r + (q + 1)) / 4 = r by omega, chunk_frm b c ⟨q, by omega⟩]

theorem outBlk_first (b : Fin 2) (c : Dev nD) (r : ℕ) : outBlk b c (4 * r) = useBlk b c (4 * r + 3) := by
  apply Fin.ext
  show 16 * b.val + 4 * (4 * r / 4 % 4) + chunk b c (4 * r % 4 + 3) = 16 * b.val + 4 * ((4 * r + 3) / 4 % 4) + chunk b c ((4 * r + 3) % 4)
  rw [show (4 * r + 3) % 4 = 3 by omega, show 4 * r % 4 = 0 by omega, show 4 * r / 4 = r by omega, show (4 * r + 3) / 4 = r by omega]
theorem outBlk_frm (b : Fin 2) (c : Dev nD) (r q : ℕ) (hq : q < 3) : outBlk b (frm b c) (4 * r + q) = outBlk b c (4 * r + (q + 1)) := by
  apply Fin.ext
  show 16 * b.val + 4 * ((4 * r + q) / 4 % 4) + chunk b (frm b c) ((4 * r + q) % 4 + 3) = 16 * b.val + 4 * ((4 * r + (q + 1)) / 4 % 4) + chunk b c ((4 * r + (q + 1)) % 4 + 3)
  have hc : ∀ (b : Fin 2) (c : Dev nD) (q : Fin 3), chunk b (frm b c) (q.val + 3) = chunk b c (q.val + 1 + 3) := by decide
  rw [show (4 * r + q) % 4 = q by omega, show (4 * r + (q + 1)) % 4 = q + 1 by omega, show (4 * r + q) / 4 = r by omega,
    show (4 * r + (q + 1)) / 4 = r by omega, hc b c ⟨q, hq⟩]

/-! ## What is sent -/

variable (b : Fin 2) (r : ℕ) (hr : r < 4) (c : Dev nD)

theorem send_next (g : ℕ) : sendV (F := Ideal) X Wt b (g + 1) c
    = if g % 6 < 2 then accum (sendV (F := Ideal) X Wt b g (frm b c)) (dotV (F := Ideal) X Wt c b (useOf (g + 1) - 1))
      else if g % 6 = 2 then act (accum (sendV (F := Ideal) X Wt b g (frm b c)) (dotV (F := Ideal) X Wt c b (useOf (g + 1) - 1)))
      else if g % 6 < 5 then sendV (F := Ideal) X Wt b g (frm b c)
      else dotV (F := Ideal) X Wt c b (useOf (g + 1) - 1) := rfl

include hr in
theorem use_next (s : ℕ) (hs : s < 3) : useOf (6 * r + s + 1) - 1 = 4 * r + (s + 1) := by unfold useOf; omega

include hr in
theorem send0 : sendV (F := Ideal) X Wt b (6 * r) c = prod X Wt c (useBlk b c (4 * r)) := by
  obtain rfl | ⟨r, rfl⟩ : r = 0 ∨ ∃ k, r = k + 1 := by cases r with | zero => exact .inl rfl | succ k => exact .inr ⟨k, rfl⟩
  · rfl
  · rw [show 6 * (r + 1) = (6 * r + 5) + 1 by omega, send_next, if_neg (by omega), if_neg (by omega), if_neg (by omega), dotV_eq]
    congr 2
    unfold useOf; omega
include hr in
theorem send1 : sendV (F := Ideal) X Wt b (6 * r + 1) c
    = fun x => prod X Wt (frm b c) (useBlk b c (4 * r + 1)) x + prod X Wt c (useBlk b c (4 * r + 1)) x := by
  rw [send_next, if_pos (by omega), send0 X Wt b r hr, use_next r hr 0 (by omega), dotV_eq, accum_eq]
  have h := useBlk_frm b c r 0 (by omega)
  simp only [Nat.add_zero, Nat.zero_add] at h ⊢
  rw [h]
include hr in
theorem send2 : sendV (F := Ideal) X Wt b (6 * r + 2) c
    = fun x => (prod X Wt (frm b (frm b c)) (useBlk b c (4 * r + 2)) x + prod X Wt (frm b c) (useBlk b c (4 * r + 2)) x)
        + prod X Wt c (useBlk b c (4 * r + 2)) x := by
  rw [send_next, if_pos (by omega), send1 X Wt b r hr, use_next r hr 1 (by omega), dotV_eq, accum_eq, useBlk_frm b c r 1 (by omega)]
include hr in
/-- With the device's own product added, the fourth sum is complete. -/
theorem whole_sum : accum (sendV (F := Ideal) X Wt b (6 * r + 2) (frm b c)) (dotV (F := Ideal) X Wt c b (useOf (6 * r + 2 + 1) - 1))
    = total X Wt (useBlk b c (4 * r + 3)) := by
  rw [send2 X Wt b r hr, use_next r hr 2 (by omega), dotV_eq, accum_eq, useBlk_frm b c r 2 (by omega)]
  exact funext fun x => sum_ring (fun d => prod X Wt d (useBlk b c (4 * r + 3)) x) b c

/-- The activated block a device of the direction first holds complete, as it goes round. -/
def done (i : Fin 32) (x : S256x4096.Idx) : EReal := gelu (total X Wt i x)

include hr in
theorem act_sum : act (F := Ideal) (accum (sendV (F := Ideal) X Wt b (6 * r + 2) (frm b c)) (dotV (F := Ideal) X Wt c b (useOf (6 * r + 2 + 1) - 1)))
    = done X Wt (outBlk b c (4 * r)) := by
  rw [whole_sum X Wt b r hr, act_eq, outBlk_first]; rfl

include hr in
theorem send_done (q : ℕ) (hq : q < 3) (c : Dev nD) : sendV (F := Ideal) X Wt b (6 * r + 3 + q) c = done X Wt (outBlk b c (4 * r + q)) := by
  induction q generalizing c with
  | zero =>
    show sendV (F := Ideal) X Wt b ((6 * r + 2) + 1) c = _
    rw [send_next, if_neg (by omega), if_pos (by omega)]
    exact act_sum X Wt b r hr c
  | succ q ih =>
    show sendV (F := Ideal) X Wt b ((6 * r + 3 + q) + 1) c = _
    rw [send_next, if_neg (by omega), if_neg (by omega), if_pos (by omega), ih (by omega), outBlk_frm b c r q (by omega)]

/-- Every output copy carries the activated sum of its row block. -/
theorem out_done (j : ℕ) (hj : j < 16) : outV (F := Ideal) X Wt b c j = done X Wt (outBlk b c j) := by
  obtain ⟨r, q, hr, hq, rfl⟩ : ∃ r q, r < 4 ∧ q < 4 ∧ j = 4 * r + q := ⟨j / 4, j % 4, by omega, by omega, by omega⟩
  unfold outV stepOf
  rw [show (4 * r + q) / 4 = r by omega, show (4 * r + q) % 4 = q by omega]
  obtain rfl | ⟨q, rfl⟩ : q = 0 ∨ ∃ k, q = k + 1 := by cases q with | zero => exact .inl rfl | succ k => exact .inr ⟨k, rfl⟩
  · rw [if_pos rfl]
    exact act_sum X Wt b r hr c
  · rw [if_neg (by omega), ← outBlk_frm b c r q (by omega), ← send_done X Wt b r hr q (by omega)]
    show sendV (F := Ideal) X Wt b (6 * r + 2 + (q + 1)) (frm b c) = _
    rw [show 6 * r + 2 + (q + 1) = 6 * r + 3 + q by omega]

/-- A device's output, block by block. -/
theorem Out_done (i : Fin 32) (x : S256x4096.Idx) : Out (F := Ideal) X Wt c ((oblkR i).emb x) = done X Wt i x := by
  obtain ⟨⟨b, j⟩, rfl⟩ := (outE c).surjective i
  exact (Out_blk (F := Ideal) X Wt c b j.isLt x).trans (congrFun (out_done X Wt b c j.val j.isLt) x)

end Cert.KernelIdeal.Ring

end
-- ==== Proof.Value.Product.lean ====
/-
  A device's output read at one index: the activation of the sum, over the devices and over the columns each holds, of
  the products of the two arguments' elements; and that double sum as the one sum over all columns.
-/
module

public import proofs.«01_k».proof.Proof.Value.Blocks
public import Idealize.ShloMosaic.Lib.Layout
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe Idealize.ShloMosaic.ValueIdx

variable (X : Dev nD → S8192x2048.Idx → EReal) (Wt : Dev nD → S2048x4096.Idx → EReal)

/-- Row `a`, column `k` of the kernel's two arguments and of its output. -/
def xAt (a : Fin 8192) (k : Fin 2048) : S8192x2048.Idx := ix2 a k
def wAt (k : Fin 2048) (b : Fin 4096) : S2048x4096.Idx := ix2 k b

theorem prod_apply (d : Dev nD) (i : Fin 32) (r : Fin 256) (b : Fin 4096) :
    prod X Wt d i (ix2 r b) = ∑ k : Fin 2048, X d ((xblkR i).emb (ix2 r k)) * Wt d (wAt k b) := by
  show FloatOps.matmul (F := Ideal) (DotDims.plain 256 2048 4096) none (xBlk (F := Ideal) X d i) (Wt d) (fun _ => Ideal.ofBits .f32 0x00000000#32) (ix2 r b) = _
  refine (Ideal.matmul_plain_apply (φ₁ := .bf16) (φ₂ := .bf16) none _ _ _ r b).trans ?_
  rw [Ideal.ofBits_zero_f32, zero_add]
  rfl

theorem Out_apply (c : Dev nD) (J : S8192x4096.Idx) :
    Out (F := Ideal) X Wt c J = gelu (∑ d : Dev nD, ∑ k : Fin 2048, X d (xAt (J 0) k) * Wt d (wAt k (J 1))) := by
  have hJ : (J 0).val < 8192 := (J 0).isLt
  let i : Fin 32 := ⟨(J 0).val / 256, by omega⟩
  let r : Fin 256 := ⟨(J 0).val % 256, by omega⟩
  have hrow : 256 * i.val + r.val = (J 0).val := Nat.div_add_mod _ _
  have hout : (oblkR i).emb (ix2 r (J 1)) = J := by
    funext a; apply Fin.ext
    refine (ValueKit.rect_emb_unit_val _ _ _ _ a).trans ?_
    match a with
    | ⟨0, _⟩ => exact hrow
    | ⟨1, _⟩ => exact Nat.zero_add _
  have hin (k : Fin 2048) : (xblkR i).emb (ix2 r k) = xAt (J 0) k := by
    funext a; apply Fin.ext
    refine (ValueKit.rect_emb_unit_val _ _ _ _ a).trans ?_
    match a with
    | ⟨0, _⟩ => exact hrow
    | ⟨1, _⟩ => exact Nat.zero_add _
  refine (congrArg (Out (F := Ideal) X Wt c) hout.symm).trans ((Out_done X Wt c i _).trans ?_)
  unfold done total
  refine congrArg gelu (Finset.sum_congr rfl fun d _ => ?_)
  exact (prod_apply X Wt d i r (J 1)).trans (Finset.sum_congr rfl fun k _ => congrArg (X d · * Wt d (wAt k (J 1))) (hin k))

/-- Column `k` of device `d`'s block is column `2048 d + k` of the whole. -/
def col (d : Fin 4) (k : Fin 2048) : Fin 8192 := ⟨2048 * d.val + k.val, by omega⟩

theorem sum_cols (f : Fin 8192 → EReal) : (∑ k : Fin 8192, f k) = ∑ d : Fin 4, ∑ k : Fin 2048, f (col d k) := by
  rw [← Fintype.sum_prod_type', ← Equiv.sum_comp (finProdFinEquiv (m := 4) (n := 2048)) f]
  refine Finset.sum_congr rfl fun p _ => congrArg f (Fin.ext ?_)
  show p.2.val + 2048 * p.1.val = 2048 * p.1.val + p.2.val
  omega

end Cert.KernelIdeal.Ring

end
-- ==== Proof.Value.Reference.lean ====
/-
  The reference's run: it leaves its arguments alone and ends with the activation of the product of the whole arguments.
-/
module

public import proofs.«01_k».proof.Proof.Value.Product
public import proofs.«01_k».proof.ReferenceIdeal
public import proofs.«01_k».proof.Proof.Gen.ReferenceIdeal
public import Idealize.ShloMosaic.Lib.Claim
public import Idealize.ShloMosaic.Lib.Quiescent

@[expose] public section

noncomputable section

namespace Cert.ReferenceIdeal.Ring

open Cert.ReferenceIdeal Cert.ReferenceIdeal.Gen
open Idealize.ShloMosaic Idealize.ShloMosaic.TcCoe Idealize.ShloMosaic.ValueIdx Idealize.SL.Sem

/-- Row `a`, column `k` of the reference's two arguments. -/
def aAt (a k : Fin 8192) : S8192x8192.Idx := ix2 a k
def bAt (k : Fin 8192) (b : Fin 4096) : S8192x4096.Idx := ix2 k b

/-- The product of the two whole arguments, activated. -/
def product (A : S8192x8192.Idx → EReal) (B : S8192x4096.Idx → EReal) : S8192x4096.Idx → EReal :=
  Host.dotGeneral (F := Ideal) (φ₁ := .f32) (φ₂ := .f32) dot_S8192x8192_S8192x4096_S8192x4096_1_0_0_1_n_n none A B
def result (A : S8192x8192.Idx → EReal) (B : S8192x4096.Idx → EReal) (J : S8192x4096.Idx) : EReal :=
  Cert.KernelIdeal.Ring.gelu (product A B J)

theorem product_apply (A : S8192x8192.Idx → EReal) (B : S8192x4096.Idx → EReal) (J : S8192x4096.Idx) :
    product A B J = ∑ k : Fin 8192, A (aAt (J 0) k) * B (bAt k (J 1)) := by
  have hJ : J = ix2 (J 0) (J 1) := by
    funext a
    match a with
    | ⟨0, _⟩ => rfl
    | ⟨1, _⟩ => rfl
  exact (congrArg (product A B) hJ).trans (StackMember.dotGeneral_plain_apply (φ₁ := .f32) (φ₂ := .f32) (m := 8192) (k := 8192) (n := 4096) none A B (J 0) (J 1))

/-- A constant of the reference, at every index of the result. -/
abbrev all (v : BitVec 32) : FVec Ideal S8192x4096 .f32 := broadcastInDim S8192x4096 ![] bcast_S_S8192x4096 (constant (F := Ideal) S_ .f32 v)

/-- The reference's activation, operation by operation, is the activation of each element. -/
theorem act_host (y : FVec Ideal S8192x4096 .f32) :
    mulf (mulf (all 0x3F000000#32) y) (addf (all 0x3F800000#32) (Host.tanh (mulf (all 0x3F4C422A#32) (addf y (mulf (all 0x3D372713#32) (mulf (mulf y y) y))))))
      = fun J => Cert.KernelIdeal.Ring.gelu (y J) := rfl

variable (m : (ℓ : Loc nD τ sig) → Buf (Elt Ideal) ℓ) (ρ : Dev nD → PrngReg)

theorem ref_run : θ_run (defs (F := Ideal)) (onTc (τ := τ) (main (F := Ideal))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v13) = result (m ((c.tc : Thread nD τ).loc main_arg0)) (m ((c.tc : Thread nD τ).loc main_arg1)))
    ∧ r.2.sem = fun _ => 0) := by
  refine θ_run_mono (StableHlo.run_hlo _ _ (by hlo_seq) (by decide) (by decide) (by simp)
    (by intro _ h; (repeat (cases h with | head => rfl | tail _ h => ?_)); exact nomatch h) m ρ) fun r h => ⟨fun c => ⟨⟨?_, ?_⟩, ?_⟩, ?_⟩
  · refine (h c main_arg0).trans ?_
    after_results
  · refine (h c main_arg1).trans ?_
    after_results
  · refine (h c main_v13).trans ?_
    after_results
    exact act_host _
  · exact sem_eq_zero_of_no_sems (by decide) r.2

end Cert.ReferenceIdeal.Ring

end
-- ==== Proof.Value.Agree.lean ====
/-
  The kernel's result is the reference's: where each device holds its block of the two whole arguments, its output is
  the activation of the whole product.
-/
module

public import proofs.«01_k».proof.Proof.KernelIdeal.Run
public import proofs.«01_k».proof.Proof.Value.Reference

@[expose] public section

noncomputable section

namespace Cert.KernelIdeal.Ring

open Cert.KernelIdeal Cert.KernelIdeal.Gen
open Idealize.ShloMosaic Idealize.ShloMosaic.TcCoe Idealize.ShloMosaic.ValueIdx
open Cert.ReferenceIdeal.Ring (aAt bAt product product_apply result)

/-- Over the extended reals the change of format before the kernel leaves the second argument as it is. -/
theorem w_same (m : (ℓ : Loc nD τ sig) → Buf (Elt Ideal) ℓ) (c : Dev nD) : wOf m c = m ((c.tc : Thread nD τ).loc main_arg1) := by
  unfold wOf
  show StableHlo.after hostOps0 _ _ = _
  after_results
  rfl

theorem agree (A : Cert.ReferenceIdeal.S8192x8192.Idx → EReal) (B : Cert.ReferenceIdeal.S8192x4096.Idx → EReal)
    (X : Dev nD → S8192x2048.Idx → EReal) (Wt : Dev nD → S2048x4096.Idx → EReal)
    (hX : ∀ d, X d = Layout.block ⟨2, ![8192, 2048]⟩ ⟨2, ![8192, 8192]⟩ 1 4 d A)
    (hW : ∀ d, Wt d = Layout.block ⟨2, ![2048, 4096]⟩ ⟨2, ![8192, 4096]⟩ 0 4 d B) (c : Dev nD) : Out (F := Ideal) X Wt c = result A B := by
  funext J
  refine (Out_apply X Wt c J).trans (congrArg gelu ?_)
  refine Eq.trans ?_ (product_apply A B J).symm
  rw [sum_cols]
  refine Finset.sum_congr rfl fun d _ => Finset.sum_congr rfl fun k _ => ?_
  rw [hX, hW, Layout.block_apply, Layout.block_apply]
  refine congrArg₂ (A · * B ·) (funext fun a => Fin.ext ?_) (funext fun a => Fin.ext ?_)
  · match a with
    | ⟨0, _⟩ => rfl
    | ⟨1, _⟩ => exact congrArg (· + k.val) (Nat.mul_comm d.val 2048)
  · match a with
    | ⟨0, _⟩ => exact congrArg (· + k.val) (Nat.mul_comm d.val 2048)
    | ⟨1, _⟩ => rfl

end Cert.KernelIdeal.Ring

end
-- ==== Proof.lean ====
/-
  The proof of `Cert.Claim`. Each program's run is proved in its own directory under Proof/ — Proof/KernelIdeal/ and
  Proof/Kernel/ hold the same text over the two printings of the kernel, for every float instance; Proof/Value/ reads
  the kernel's result and the reference's over the extended reals. The frames are the runs with the values dropped.
-/
module

public import proofs.«01_k».proof.Defs
public import proofs.«01_k».proof.Proof.Kernel.Run
public import proofs.«01_k».proof.Proof.Value.Agree
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- Both programs run, and every device of the kernel ends holding the reference's result. -/
theorem algebraic : algebraic_KernelIdeal_ReferenceIdeal (hKernelIdeal := Cert.KernelIdeal.Gen.facts) (hReferenceIdeal := Cert.ReferenceIdeal.Gen.facts) := by
  intro m g m' g' _ hagree
  refine ⟨Cert.ReferenceIdeal.Ring.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine θ_run_mono (Cert.KernelIdeal.Ring.run_main (F := Ideal) m g) fun r hr c => ⟨(hr.1 c).2.trans ?_, (hr.1 c).1⟩
    exact Cert.KernelIdeal.Ring.agree _ _ _ _ (fun d => (Cert.KernelIdeal.Ring.x_kept m d).trans (hagree d).1)
      (fun d => (Cert.KernelIdeal.Ring.w_same m d).trans (hagree d).2) c
  · exact θ_run_mono (Cert.ReferenceIdeal.Ring.ref_run m' g') fun r hr => ⟨(hr.1 0).2, (hr.1 0).1⟩

theorem claim : Cert.Claim :=
  ⟨Cert.Kernel.Gen.facts, Cert.KernelIdeal.Gen.facts, Cert.ReferenceIdeal.Gen.facts,
    fun m g _ => θ_run_mono (Cert.Kernel.Ring.run_main (F := Bits) m g) fun _ hr => ⟨fun c => (hr.1 c).1, hr.2⟩,
    fun m g _ => θ_run_mono (Cert.KernelIdeal.Ring.run_main (F := Ideal) m g) fun _ hr => ⟨fun c => (hr.1 c).1, hr.2⟩,
    fun m g _ => θ_run_mono (Cert.ReferenceIdeal.Ring.ref_run m g) fun _ hr => ⟨fun c => (hr.1 c).1, hr.2⟩,
    trivial, algebraic⟩

end Cert.Proof

end
